-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_PostEven (m : (ℓ : Loc Cert.PostEven.nD Cert.PostEven.τ Cert.PostEven.sig) → Buf (Elt Bits) ℓ) : Prop :=
  True

def Pre_PostEvenIdeal (m : (ℓ : Loc Cert.PostEvenIdeal.nD Cert.PostEvenIdeal.τ Cert.PostEvenIdeal.sig) → Buf (Elt Ideal) ℓ) : Prop :=
  True

def Pre_PostEvenReferenceIdeal (m : (ℓ : Loc Cert.PostEvenReferenceIdeal.nD Cert.PostEvenReferenceIdeal.τ Cert.PostEvenReferenceIdeal.sig) → Buf (Elt Ideal) ℓ) : Prop :=
  True

def Pre_PostLast (m : (ℓ : Loc Cert.PostLast.nD Cert.PostLast.τ Cert.PostLast.sig) → Buf (Elt Bits) ℓ) : Prop :=
  True

def Pre_PostLastIdeal (m : (ℓ : Loc Cert.PostLastIdeal.nD Cert.PostLastIdeal.τ Cert.PostLastIdeal.sig) → Buf (Elt Ideal) ℓ) : Prop :=
  True

def Pre_PostLastReferenceIdeal (m : (ℓ : Loc Cert.PostLastReferenceIdeal.nD Cert.PostLastReferenceIdeal.τ Cert.PostLastReferenceIdeal.sig) → Buf (Elt Ideal) ℓ) : Prop :=
  True

def Pre_PostEvenNext (m : (ℓ : Loc Cert.PostEvenNext.nD Cert.PostEvenNext.τ Cert.PostEvenNext.sig) → Buf (Elt Bits) ℓ) : Prop :=
  True

def Pre_PostEvenNextIdeal (m : (ℓ : Loc Cert.PostEvenNextIdeal.nD Cert.PostEvenNextIdeal.τ Cert.PostEvenNextIdeal.sig) → Buf (Elt Ideal) ℓ) : Prop :=
  True

def Pre_PostEvenNextReferenceIdeal (m : (ℓ : Loc Cert.PostEvenNextReferenceIdeal.nD Cert.PostEvenNextReferenceIdeal.τ Cert.PostEvenNextReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11))
      ∧ r.2.sem = fun _ => 0)

def quiescent_PostEven [hPostEven : Cert.PostEven.Facts] : Prop :=
  ∀ (m : (ℓ : Loc Cert.PostEven.nD Cert.PostEven.τ Cert.PostEven.sig) → Buf (Elt Bits) ℓ) (g : Dev Cert.PostEven.nD → PrngReg), Pre_PostEven m →
    θ_run (Cert.PostEven.defs (F := Bits)) (onTc (τ := Cert.PostEven.τ) (Cert.PostEven.main (F := Bits))) ⟨m, fun _ => 0, g⟩ (fun r => (∀ c : Dev Cert.PostEven.nD,
      r.2.mem ((c.tc : Thread Cert.PostEven.nD Cert.PostEven.τ).loc Cert.PostEven.main_arg0) = m ((c.tc : Thread Cert.PostEven.nD Cert.PostEven.τ).loc Cert.PostEven.main_arg0)
      ∧ r.2.mem ((c.tc : Thread Cert.PostEven.nD Cert.PostEven.τ).loc Cert.PostEven.main_arg1) = m ((c.tc : Thread Cert.PostEven.nD Cert.PostEven.τ).loc Cert.PostEven.main_arg1)
      ∧ r.2.mem ((c.tc : Thread Cert.PostEven.nD Cert.PostEven.τ).loc Cert.PostEven.main_arg2) = m ((c.tc : Thread Cert.PostEven.nD Cert.PostEven.τ).loc Cert.PostEven.main_arg2)
      ∧ r.2.mem ((c.tc : Thread Cert.PostEven.nD Cert.PostEven.τ).loc Cert.PostEven.main_arg3) = m ((c.tc : Thread Cert.PostEven.nD Cert.PostEven.τ).loc Cert.PostEven.main_arg3)
      ∧ r.2.mem ((c.tc : Thread Cert.PostEven.nD Cert.PostEven.τ).loc Cert.PostEven.main_arg4) = m ((c.tc : Thread Cert.PostEven.nD Cert.PostEven.τ).loc Cert.PostEven.main_arg4)
      ∧ r.2.mem ((c.tc : Thread Cert.PostEven.nD Cert.PostEven.τ).loc Cert.PostEven.main_arg5) = m ((c.tc : Thread Cert.PostEven.nD Cert.PostEven.τ).loc Cert.PostEven.main_arg5)
      ∧ r.2.mem ((c.tc : Thread Cert.PostEven.nD Cert.PostEven.τ).loc Cert.PostEven.main_arg6) = m ((c.tc : Thread Cert.PostEven.nD Cert.PostEven.τ).loc Cert.PostEven.main_arg6)
      ∧ r.2.mem ((c.tc : Thread Cert.PostEven.nD Cert.PostEven.τ).loc Cert.PostEven.main_arg7) = m ((c.tc : Thread Cert.PostEven.nD Cert.PostEven.τ).loc Cert.PostEven.main_arg7)
      ∧ r.2.mem ((c.tc : Thread Cert.PostEven.nD Cert.PostEven.τ).loc Cert.PostEven.main_arg8) = m ((c.tc : Thread Cert.PostEven.nD Cert.PostEven.τ).loc Cert.PostEven.main_arg8)
      ∧ r.2.mem ((c.tc : Thread Cert.PostEven.nD Cert.PostEven.τ).loc Cert.PostEven.main_arg9) = m ((c.tc : Thread Cert.PostEven.nD Cert.PostEven.τ).loc Cert.PostEven.main_arg9)
      ∧ r.2.mem ((c.tc : Thread Cert.PostEven.nD Cert.PostEven.τ).loc Cert.PostEven.main_arg10) = m ((c.tc : Thread Cert.PostEven.nD Cert.PostEven.τ).loc Cert.PostEven.main_arg10)
      ∧ r.2.mem ((c.tc : Thread Cert.PostEven.nD Cert.PostEven.τ).loc Cert.PostEven.main_arg11) = m ((c.tc : Thread Cert.PostEven.nD Cert.PostEven.τ).loc Cert.PostEven.main_arg11)
      ∧ r.2.mem ((c.tc : Thread Cert.PostEven.nD Cert.PostEven.τ).loc Cert.PostEven.main_arg12) = m ((c.tc : Thread Cert.PostEven.nD Cert.PostEven.τ).loc Cert.PostEven.main_arg12))
      ∧ r.2.sem = fun _ => 0)

def quiescent_PostEvenIdeal [hPostEvenIdeal : Cert.PostEvenIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg), Pre_PostEvenIdeal m →
    θ_run (Cert.PostEvenIdeal.defs (F := Ideal)) (onTc (τ := Cert.PostEvenIdeal.τ) (Cert.PostEvenIdeal.main (F := Ideal))) ⟨m, fun _ => 0, g⟩ (fun r => (∀ c : Dev Cert.PostEvenIdeal.nD,
      r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
      ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
      ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
      ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
      ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
      ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
      ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
      ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
      ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8)
      ∧ r.2.mem ((c.tc : Thread Cert.PostEvenIdeal.nD Cert.PostEvenIdeal.τ).loc Cert.PostEvenIdeal.main_arg9) = m ((c.tc : Thread Cert.PostEvenIdeal.nD Cert.PostEvenIdeal.τ).loc Cert.PostEvenIdeal.main_arg9)
      ∧ r.2.mem ((c.tc : Thread Cert.PostEvenIdeal.nD Cert.PostEvenIdeal.τ).loc Cert.PostEvenIdeal.main_arg10) = m ((c.tc : Thread Cert.PostEvenIdeal.nD Cert.PostEvenIdeal.τ).loc Cert.PostEvenIdeal.main_arg10)
      ∧ r.2.mem ((c.tc : Thread Cert.PostEvenIdeal.nD Cert.PostEvenIdeal.τ).loc Cert.PostEvenIdeal.main_arg11) = m ((c.tc : Thread Cert.PostEvenIdeal.nD Cert.PostEvenIdeal.τ).loc Cert.PostEvenIdeal.main_arg11)
      ∧ r.2.mem ((c.tc : Thread Cert.PostEvenIdeal.nD Cert.PostEvenIdeal.τ).loc Cert.PostEvenIdeal.main_arg12) = m ((c.tc : Thread Cert.PostEvenIdeal.nD Cert.PostEvenIdeal.τ).loc Cert.PostEvenIdeal.main_arg12))
      ∧ r.2.sem = fun _ => 0)

def quiescent_PostEvenReferenceIdeal [hPostEvenReferenceIdeal : Cert.PostEvenReferenceIdeal.Facts] : Prop :=
  ∀ (m : (ℓ : Loc Cert.PostEvenReferenceIdeal.nD Cert.PostEvenReferenceIdeal.τ Cert.PostEvenReferenceIdeal.sig) → Buf (Elt Ideal) ℓ) (g : Dev Cert.PostEvenReferenceIdeal.nD → PrngReg), Pre_PostEvenReferenceIdeal m →
    θ_run (Cert.PostEvenReferenceIdeal.defs (F := Ideal)) (onTc (τ := Cert.PostEvenReferenceIdeal.τ) (Cert.PostEvenReferenceIdeal.main (F := Ideal))) ⟨m, fun _ => 0, g⟩ (fun r => (∀ c : Dev Cert.PostEvenReferenceIdeal.nD,
      r.2.mem ((c.tc : Thread Cert.PostEvenReferenceIdeal.nD Cert.PostEvenReferenceIdeal.τ).loc Cert.PostEvenReferenceIdeal.main_arg0) = m ((c.tc : Thread Cert.PostEvenReferenceIdeal.nD Cert.PostEvenReferenceIdeal.τ).loc Cert.PostEvenReferenceIdeal.main_arg0)
      ∧ r.2.mem ((c.tc : Thread Cert.PostEvenReferenceIdeal.nD Cert.PostEvenReferenceIdeal.τ).loc Cert.PostEvenReferenceIdeal.main_arg1) = m ((c.tc : Thread Cert.PostEvenReferenceIdeal.nD Cert.PostEvenReferenceIdeal.τ).loc Cert.PostEvenReferenceIdeal.main_arg1)
      ∧ r.2.mem ((c.tc : Thread Cert.PostEvenReferenceIdeal.nD Cert.PostEvenReferenceIdeal.τ).loc Cert.PostEvenReferenceIdeal.main_arg2) = m ((c.tc : Thread Cert.PostEvenReferenceIdeal.nD Cert.PostEvenReferenceIdeal.τ).loc Cert.PostEvenReferenceIdeal.main_arg2)
      ∧ r.2.mem ((c.tc : Thread Cert.PostEvenReferenceIdeal.nD Cert.PostEvenReferenceIdeal.τ).loc Cert.PostEvenReferenceIdeal.main_arg3) = m ((c.tc : Thread Cert.PostEvenReferenceIdeal.nD Cert.PostEvenReferenceIdeal.τ).loc Cert.PostEvenReferenceIdeal.main_arg3)
      ∧ r.2.mem ((c.tc : Thread Cert.PostEvenReferenceIdeal.nD Cert.PostEvenReferenceIdeal.τ).loc Cert.PostEvenReferenceIdeal.main_arg4) = m ((c.tc : Thread Cert.PostEvenReferenceIdeal.nD Cert.PostEvenReferenceIdeal.τ).loc Cert.PostEvenReferenceIdeal.main_arg4)
      ∧ r.2.mem ((c.tc : Thread Cert.PostEvenReferenceIdeal.nD Cert.PostEvenReferenceIdeal.τ).loc Cert.PostEvenReferenceIdeal.main_arg5) = m ((c.tc : Thread Cert.PostEvenReferenceIdeal.nD Cert.PostEvenReferenceIdeal.τ).loc Cert.PostEvenReferenceIdeal.main_arg5)
      ∧ r.2.mem ((c.tc : Thread Cert.PostEvenReferenceIdeal.nD Cert.PostEvenReferenceIdeal.τ).loc Cert.PostEvenReferenceIdeal.main_arg6) = m ((c.tc : Thread Cert.PostEvenReferenceIdeal.nD Cert.PostEvenReferenceIdeal.τ).loc Cert.PostEvenReferenceIdeal.main_arg6)
      ∧ r.2.mem ((c.tc : Thread Cert.PostEvenReferenceIdeal.nD Cert.PostEvenReferenceIdeal.τ).loc Cert.PostEvenReferenceIdeal.main_arg7) = m ((c.tc : Thread Cert.PostEvenReferenceIdeal.nD Cert.PostEvenReferenceIdeal.τ).loc Cert.PostEvenReferenceIdeal.main_arg7)
      ∧ r.2.mem ((c.tc : Thread Cert.PostEvenReferenceIdeal.nD Cert.PostEvenReferenceIdeal.τ).loc Cert.PostEvenReferenceIdeal.main_arg8) = m ((c.tc : Thread Cert.PostEvenReferenceIdeal.nD Cert.PostEvenReferenceIdeal.τ).loc Cert.PostEvenReferenceIdeal.main_arg8)
      ∧ r.2.mem ((c.tc : Thread Cert.PostEvenReferenceIdeal.nD Cert.PostEvenReferenceIdeal.τ).loc Cert.PostEvenReferenceIdeal.main_arg9) = m ((c.tc : Thread Cert.PostEvenReferenceIdeal.nD Cert.PostEvenReferenceIdeal.τ).loc Cert.PostEvenReferenceIdeal.main_arg9)
      ∧ r.2.mem ((c.tc : Thread Cert.PostEvenReferenceIdeal.nD Cert.PostEvenReferenceIdeal.τ).loc Cert.PostEvenReferenceIdeal.main_arg10) = m ((c.tc : Thread Cert.PostEvenReferenceIdeal.nD Cert.PostEvenReferenceIdeal.τ).loc Cert.PostEvenReferenceIdeal.main_arg10)
      ∧ r.2.mem ((c.tc : Thread Cert.PostEvenReferenceIdeal.nD Cert.PostEvenReferenceIdeal.τ).loc Cert.PostEvenReferenceIdeal.main_arg11) = m ((c.tc : Thread Cert.PostEvenReferenceIdeal.nD Cert.PostEvenReferenceIdeal.τ).loc Cert.PostEvenReferenceIdeal.main_arg11)
      ∧ r.2.mem ((c.tc : Thread Cert.PostEvenReferenceIdeal.nD Cert.PostEvenReferenceIdeal.τ).loc Cert.PostEvenReferenceIdeal.main_arg12) = m ((c.tc : Thread Cert.PostEvenReferenceIdeal.nD Cert.PostEvenReferenceIdeal.τ).loc Cert.PostEvenReferenceIdeal.main_arg12))
      ∧ r.2.sem = fun _ => 0)

def quiescent_PostLast [hPostLast : Cert.PostLast.Facts] : Prop :=
  ∀ (m : (ℓ : Loc Cert.PostLast.nD Cert.PostLast.τ Cert.PostLast.sig) → Buf (Elt Bits) ℓ) (g : Dev Cert.PostLast.nD → PrngReg), Pre_PostLast m →
    θ_run (Cert.PostLast.defs (F := Bits)) (onTc (τ := Cert.PostLast.τ) (Cert.PostLast.main (F := Bits))) ⟨m, fun _ => 0, g⟩ (fun r => (∀ c : Dev Cert.PostLast.nD,
      r.2.mem ((c.tc : Thread Cert.PostLast.nD Cert.PostLast.τ).loc Cert.PostLast.main_arg0) = m ((c.tc : Thread Cert.PostLast.nD Cert.PostLast.τ).loc Cert.PostLast.main_arg0)
      ∧ r.2.mem ((c.tc : Thread Cert.PostLast.nD Cert.PostLast.τ).loc Cert.PostLast.main_arg1) = m ((c.tc : Thread Cert.PostLast.nD Cert.PostLast.τ).loc Cert.PostLast.main_arg1)
      ∧ r.2.mem ((c.tc : Thread Cert.PostLast.nD Cert.PostLast.τ).loc Cert.PostLast.main_arg2) = m ((c.tc : Thread Cert.PostLast.nD Cert.PostLast.τ).loc Cert.PostLast.main_arg2)
      ∧ r.2.mem ((c.tc : Thread Cert.PostLast.nD Cert.PostLast.τ).loc Cert.PostLast.main_arg3) = m ((c.tc : Thread Cert.PostLast.nD Cert.PostLast.τ).loc Cert.PostLast.main_arg3)
      ∧ r.2.mem ((c.tc : Thread Cert.PostLast.nD Cert.PostLast.τ).loc Cert.PostLast.main_arg4) = m ((c.tc : Thread Cert.PostLast.nD Cert.PostLast.τ).loc Cert.PostLast.main_arg4)
      ∧ r.2.mem ((c.tc : Thread Cert.PostLast.nD Cert.PostLast.τ).loc Cert.PostLast.main_arg5) = m ((c.tc : Thread Cert.PostLast.nD Cert.PostLast.τ).loc Cert.PostLast.main_arg5)
      ∧ r.2.mem ((c.tc : Thread Cert.PostLast.nD Cert.PostLast.τ).loc Cert.PostLast.main_arg6) = m ((c.tc : Thread Cert.PostLast.nD Cert.PostLast.τ).loc Cert.PostLast.main_arg6)
      ∧ r.2.mem ((c.tc : Thread Cert.PostLast.nD Cert.PostLast.τ).loc Cert.PostLast.main_arg7) = m ((c.tc : Thread Cert.PostLast.nD Cert.PostLast.τ).loc Cert.PostLast.main_arg7)
      ∧ r.2.mem ((c.tc : Thread Cert.PostLast.nD Cert.PostLast.τ).loc Cert.PostLast.main_arg8) = m ((c.tc : Thread Cert.PostLast.nD Cert.PostLast.τ).loc Cert.PostLast.main_arg8)
      ∧ r.2.mem ((c.tc : Thread Cert.PostLast.nD Cert.PostLast.τ).loc Cert.PostLast.main_arg9) = m ((c.tc : Thread Cert.PostLast.nD Cert.PostLast.τ).loc Cert.PostLast.main_arg9)
      ∧ r.2.mem ((c.tc : Thread Cert.PostLast.nD Cert.PostLast.τ).loc Cert.PostLast.main_arg10) = m ((c.tc : Thread Cert.PostLast.nD Cert.PostLast.τ).loc Cert.PostLast.main_arg10)
      ∧ r.2.mem ((c.tc : Thread Cert.PostLast.nD Cert.PostLast.τ).loc Cert.PostLast.main_arg11) = m ((c.tc : Thread Cert.PostLast.nD Cert.PostLast.τ).loc Cert.PostLast.main_arg11))
      ∧ r.2.sem = fun _ => 0)

def quiescent_PostLastIdeal [hPostLastIdeal : Cert.PostLastIdeal.Facts] : Prop :=
  ∀ (m : (ℓ : Loc Cert.PostLastIdeal.nD Cert.PostLastIdeal.τ Cert.PostLastIdeal.sig) → Buf (Elt Ideal) ℓ) (g : Dev Cert.PostLastIdeal.nD → PrngReg), Pre_PostLastIdeal m →
    θ_run (Cert.PostLastIdeal.defs (F := Ideal)) (onTc (τ := Cert.PostLastIdeal.τ) (Cert.PostLastIdeal.main (F := Ideal))) ⟨m, fun _ => 0, g⟩ (fun r => (∀ c : Dev Cert.PostLastIdeal.nD,
      r.2.mem ((c.tc : Thread Cert.PostLastIdeal.nD Cert.PostLastIdeal.τ).loc Cert.PostLastIdeal.main_arg0) = m ((c.tc : Thread Cert.PostLastIdeal.nD Cert.PostLastIdeal.τ).loc Cert.PostLastIdeal.main_arg0)
      ∧ r.2.mem ((c.tc : Thread Cert.PostLastIdeal.nD Cert.PostLastIdeal.τ).loc Cert.PostLastIdeal.main_arg1) = m ((c.tc : Thread Cert.PostLastIdeal.nD Cert.PostLastIdeal.τ).loc Cert.PostLastIdeal.main_arg1)
      ∧ r.2.mem ((c.tc : Thread Cert.PostLastIdeal.nD Cert.PostLastIdeal.τ).loc Cert.PostLastIdeal.main_arg2) = m ((c.tc : Thread Cert.PostLastIdeal.nD Cert.PostLastIdeal.τ).loc Cert.PostLastIdeal.main_arg2)
      ∧ r.2.mem ((c.tc : Thread Cert.PostLastIdeal.nD Cert.PostLastIdeal.τ).loc Cert.PostLastIdeal.main_arg3) = m ((c.tc : Thread Cert.PostLastIdeal.nD Cert.PostLastIdeal.τ).loc Cert.PostLastIdeal.main_arg3)
      ∧ r.2.mem ((c.tc : Thread Cert.PostLastIdeal.nD Cert.PostLastIdeal.τ).loc Cert.PostLastIdeal.main_arg4) = m ((c.tc : Thread Cert.PostLastIdeal.nD Cert.PostLastIdeal.τ).loc Cert.PostLastIdeal.main_arg4)
      ∧ r.2.mem ((c.tc : Thread Cert.PostLastIdeal.nD Cert.PostLastIdeal.τ).loc Cert.PostLastIdeal.main_arg5) = m ((c.tc : Thread Cert.PostLastIdeal.nD Cert.PostLastIdeal.τ).loc Cert.PostLastIdeal.main_arg5)
      ∧ r.2.mem ((c.tc : Thread Cert.PostLastIdeal.nD Cert.PostLastIdeal.τ).loc Cert.PostLastIdeal.main_arg6) = m ((c.tc : Thread Cert.PostLastIdeal.nD Cert.PostLastIdeal.τ).loc Cert.PostLastIdeal.main_arg6)
      ∧ r.2.mem ((c.tc : Thread Cert.PostLastIdeal.nD Cert.PostLastIdeal.τ).loc Cert.PostLastIdeal.main_arg7) = m ((c.tc : Thread Cert.PostLastIdeal.nD Cert.PostLastIdeal.τ).loc Cert.PostLastIdeal.main_arg7)
      ∧ r.2.mem ((c.tc : Thread Cert.PostLastIdeal.nD Cert.PostLastIdeal.τ).loc Cert.PostLastIdeal.main_arg8) = m ((c.tc : Thread Cert.PostLastIdeal.nD Cert.PostLastIdeal.τ).loc Cert.PostLastIdeal.main_arg8)
      ∧ r.2.mem ((c.tc : Thread Cert.PostLastIdeal.nD Cert.PostLastIdeal.τ).loc Cert.PostLastIdeal.main_arg9) = m ((c.tc : Thread Cert.PostLastIdeal.nD Cert.PostLastIdeal.τ).loc Cert.PostLastIdeal.main_arg9)
      ∧ r.2.mem ((c.tc : Thread Cert.PostLastIdeal.nD Cert.PostLastIdeal.τ).loc Cert.PostLastIdeal.main_arg10) = m ((c.tc : Thread Cert.PostLastIdeal.nD Cert.PostLastIdeal.τ).loc Cert.PostLastIdeal.main_arg10)
      ∧ r.2.mem ((c.tc : Thread Cert.PostLastIdeal.nD Cert.PostLastIdeal.τ).loc Cert.PostLastIdeal.main_arg11) = m ((c.tc : Thread Cert.PostLastIdeal.nD Cert.PostLastIdeal.τ).loc Cert.PostLastIdeal.main_arg11))
      ∧ r.2.sem = fun _ => 0)

def quiescent_PostLastReferenceIdeal [hPostLastReferenceIdeal : Cert.PostLastReferenceIdeal.Facts] : Prop :=
  ∀ (m : (ℓ : Loc Cert.PostLastReferenceIdeal.nD Cert.PostLastReferenceIdeal.τ Cert.PostLastReferenceIdeal.sig) → Buf (Elt Ideal) ℓ) (g : Dev Cert.PostLastReferenceIdeal.nD → PrngReg), Pre_PostLastReferenceIdeal m →
    θ_run (Cert.PostLastReferenceIdeal.defs (F := Ideal)) (onTc (τ := Cert.PostLastReferenceIdeal.τ) (Cert.PostLastReferenceIdeal.main (F := Ideal))) ⟨m, fun _ => 0, g⟩ (fun r => (∀ c : Dev Cert.PostLastReferenceIdeal.nD,
      r.2.mem ((c.tc : Thread Cert.PostLastReferenceIdeal.nD Cert.PostLastReferenceIdeal.τ).loc Cert.PostLastReferenceIdeal.main_arg0) = m ((c.tc : Thread Cert.PostLastReferenceIdeal.nD Cert.PostLastReferenceIdeal.τ).loc Cert.PostLastReferenceIdeal.main_arg0)
      ∧ r.2.mem ((c.tc : Thread Cert.PostLastReferenceIdeal.nD Cert.PostLastReferenceIdeal.τ).loc Cert.PostLastReferenceIdeal.main_arg1) = m ((c.tc : Thread Cert.PostLastReferenceIdeal.nD Cert.PostLastReferenceIdeal.τ).loc Cert.PostLastReferenceIdeal.main_arg1)
      ∧ r.2.mem ((c.tc : Thread Cert.PostLastReferenceIdeal.nD Cert.PostLastReferenceIdeal.τ).loc Cert.PostLastReferenceIdeal.main_arg2) = m ((c.tc : Thread Cert.PostLastReferenceIdeal.nD Cert.PostLastReferenceIdeal.τ).loc Cert.PostLastReferenceIdeal.main_arg2)
      ∧ r.2.mem ((c.tc : Thread Cert.PostLastReferenceIdeal.nD Cert.PostLastReferenceIdeal.τ).loc Cert.PostLastReferenceIdeal.main_arg3) = m ((c.tc : Thread Cert.PostLastReferenceIdeal.nD Cert.PostLastReferenceIdeal.τ).loc Cert.PostLastReferenceIdeal.main_arg3)
      ∧ r.2.mem ((c.tc : Thread Cert.PostLastReferenceIdeal.nD Cert.PostLastReferenceIdeal.τ).loc Cert.PostLastReferenceIdeal.main_arg4) = m ((c.tc : Thread Cert.PostLastReferenceIdeal.nD Cert.PostLastReferenceIdeal.τ).loc Cert.PostLastReferenceIdeal.main_arg4)
      ∧ r.2.mem ((c.tc : Thread Cert.PostLastReferenceIdeal.nD Cert.PostLastReferenceIdeal.τ).loc Cert.PostLastReferenceIdeal.main_arg5) = m ((c.tc : Thread Cert.PostLastReferenceIdeal.nD Cert.PostLastReferenceIdeal.τ).loc Cert.PostLastReferenceIdeal.main_arg5)
      ∧ r.2.mem ((c.tc : Thread Cert.PostLastReferenceIdeal.nD Cert.PostLastReferenceIdeal.τ).loc Cert.PostLastReferenceIdeal.main_arg6) = m ((c.tc : Thread Cert.PostLastReferenceIdeal.nD Cert.PostLastReferenceIdeal.τ).loc Cert.PostLastReferenceIdeal.main_arg6)
      ∧ r.2.mem ((c.tc : Thread Cert.PostLastReferenceIdeal.nD Cert.PostLastReferenceIdeal.τ).loc Cert.PostLastReferenceIdeal.main_arg7) = m ((c.tc : Thread Cert.PostLastReferenceIdeal.nD Cert.PostLastReferenceIdeal.τ).loc Cert.PostLastReferenceIdeal.main_arg7)
      ∧ r.2.mem ((c.tc : Thread Cert.PostLastReferenceIdeal.nD Cert.PostLastReferenceIdeal.τ).loc Cert.PostLastReferenceIdeal.main_arg8) = m ((c.tc : Thread Cert.PostLastReferenceIdeal.nD Cert.PostLastReferenceIdeal.τ).loc Cert.PostLastReferenceIdeal.main_arg8)
      ∧ r.2.mem ((c.tc : Thread Cert.PostLastReferenceIdeal.nD Cert.PostLastReferenceIdeal.τ).loc Cert.PostLastReferenceIdeal.main_arg9) = m ((c.tc : Thread Cert.PostLastReferenceIdeal.nD Cert.PostLastReferenceIdeal.τ).loc Cert.PostLastReferenceIdeal.main_arg9)
      ∧ r.2.mem ((c.tc : Thread Cert.PostLastReferenceIdeal.nD Cert.PostLastReferenceIdeal.τ).loc Cert.PostLastReferenceIdeal.main_arg10) = m ((c.tc : Thread Cert.PostLastReferenceIdeal.nD Cert.PostLastReferenceIdeal.τ).loc Cert.PostLastReferenceIdeal.main_arg10)
      ∧ r.2.mem ((c.tc : Thread Cert.PostLastReferenceIdeal.nD Cert.PostLastReferenceIdeal.τ).loc Cert.PostLastReferenceIdeal.main_arg11) = m ((c.tc : Thread Cert.PostLastReferenceIdeal.nD Cert.PostLastReferenceIdeal.τ).loc Cert.PostLastReferenceIdeal.main_arg11))
      ∧ r.2.sem = fun _ => 0)

def quiescent_PostEvenNext [hPostEvenNext : Cert.PostEvenNext.Facts] : Prop :=
  ∀ (m : (ℓ : Loc Cert.PostEvenNext.nD Cert.PostEvenNext.τ Cert.PostEvenNext.sig) → Buf (Elt Bits) ℓ) (g : Dev Cert.PostEvenNext.nD → PrngReg), Pre_PostEvenNext m →
    θ_run (Cert.PostEvenNext.defs (F := Bits)) (onTc (τ := Cert.PostEvenNext.τ) (Cert.PostEvenNext.main (F := Bits))) ⟨m, fun _ => 0, g⟩ (fun r => (∀ c : Dev Cert.PostEvenNext.nD,
      r.2.mem ((c.tc : Thread Cert.PostEvenNext.nD Cert.PostEvenNext.τ).loc Cert.PostEvenNext.main_arg0) = m ((c.tc : Thread Cert.PostEvenNext.nD Cert.PostEvenNext.τ).loc Cert.PostEvenNext.main_arg0)
      ∧ r.2.mem ((c.tc : Thread Cert.PostEvenNext.nD Cert.PostEvenNext.τ).loc Cert.PostEvenNext.main_arg1) = m ((c.tc : Thread Cert.PostEvenNext.nD Cert.PostEvenNext.τ).loc Cert.PostEvenNext.main_arg1)
      ∧ r.2.mem ((c.tc : Thread Cert.PostEvenNext.nD Cert.PostEvenNext.τ).loc Cert.PostEvenNext.main_arg2) = m ((c.tc : Thread Cert.PostEvenNext.nD Cert.PostEvenNext.τ).loc Cert.PostEvenNext.main_arg2)
      ∧ r.2.mem ((c.tc : Thread Cert.PostEvenNext.nD Cert.PostEvenNext.τ).loc Cert.PostEvenNext.main_arg3) = m ((c.tc : Thread Cert.PostEvenNext.nD Cert.PostEvenNext.τ).loc Cert.PostEvenNext.main_arg3)
      ∧ r.2.mem ((c.tc : Thread Cert.PostEvenNext.nD Cert.PostEvenNext.τ).loc Cert.PostEvenNext.main_arg4) = m ((c.tc : Thread Cert.PostEvenNext.nD Cert.PostEvenNext.τ).loc Cert.PostEvenNext.main_arg4)
      ∧ r.2.mem ((c.tc : Thread Cert.PostEvenNext.nD Cert.PostEvenNext.τ).loc Cert.PostEvenNext.main_arg5) = m ((c.tc : Thread Cert.PostEvenNext.nD Cert.PostEvenNext.τ).loc Cert.PostEvenNext.main_arg5)
      ∧ r.2.mem ((c.tc : Thread Cert.PostEvenNext.nD Cert.PostEvenNext.τ).loc Cert.PostEvenNext.main_arg6) = m ((c.tc : Thread Cert.PostEvenNext.nD Cert.PostEvenNext.τ).loc Cert.PostEvenNext.main_arg6)
      ∧ r.2.mem ((c.tc : Thread Cert.PostEvenNext.nD Cert.PostEvenNext.τ).loc Cert.PostEvenNext.main_arg7) = m ((c.tc : Thread Cert.PostEvenNext.nD Cert.PostEvenNext.τ).loc Cert.PostEvenNext.main_arg7)
      ∧ r.2.mem ((c.tc : Thread Cert.PostEvenNext.nD Cert.PostEvenNext.τ).loc Cert.PostEvenNext.main_arg8) = m ((c.tc : Thread Cert.PostEvenNext.nD Cert.PostEvenNext.τ).loc Cert.PostEvenNext.main_arg8)
      ∧ r.2.mem ((c.tc : Thread Cert.PostEvenNext.nD Cert.PostEvenNext.τ).loc Cert.PostEvenNext.main_arg9) = m ((c.tc : Thread Cert.PostEvenNext.nD Cert.PostEvenNext.τ).loc Cert.PostEvenNext.main_arg9)
      ∧ r.2.mem ((c.tc : Thread Cert.PostEvenNext.nD Cert.PostEvenNext.τ).loc Cert.PostEvenNext.main_arg10) = m ((c.tc : Thread Cert.PostEvenNext.nD Cert.PostEvenNext.τ).loc Cert.PostEvenNext.main_arg10)
      ∧ r.2.mem ((c.tc : Thread Cert.PostEvenNext.nD Cert.PostEvenNext.τ).loc Cert.PostEvenNext.main_arg11) = m ((c.tc : Thread Cert.PostEvenNext.nD Cert.PostEvenNext.τ).loc Cert.PostEvenNext.main_arg11)
      ∧ r.2.mem ((c.tc : Thread Cert.PostEvenNext.nD Cert.PostEvenNext.τ).loc Cert.PostEvenNext.main_arg12) = m ((c.tc : Thread Cert.PostEvenNext.nD Cert.PostEvenNext.τ).loc Cert.PostEvenNext.main_arg12))
      ∧ r.2.sem = fun _ => 0)

def quiescent_PostEvenNextIdeal [hPostEvenNextIdeal : Cert.PostEvenNextIdeal.Facts] : Prop :=
  ∀ (m : (ℓ : Loc Cert.PostEvenNextIdeal.nD Cert.PostEvenNextIdeal.τ Cert.PostEvenNextIdeal.sig) → Buf (Elt Ideal) ℓ) (g : Dev Cert.PostEvenNextIdeal.nD → PrngReg), Pre_PostEvenNextIdeal m →
    θ_run (Cert.PostEvenNextIdeal.defs (F := Ideal)) (onTc (τ := Cert.PostEvenNextIdeal.τ) (Cert.PostEvenNextIdeal.main (F := Ideal))) ⟨m, fun _ => 0, g⟩ (fun r => (∀ c : Dev Cert.PostEvenNextIdeal.nD,
      r.2.mem ((c.tc : Thread Cert.PostEvenNextIdeal.nD Cert.PostEvenNextIdeal.τ).loc Cert.PostEvenNextIdeal.main_arg0) = m ((c.tc : Thread Cert.PostEvenNextIdeal.nD Cert.PostEvenNextIdeal.τ).loc Cert.PostEvenNextIdeal.main_arg0)
      ∧ r.2.mem ((c.tc : Thread Cert.PostEvenNextIdeal.nD Cert.PostEvenNextIdeal.τ).loc Cert.PostEvenNextIdeal.main_arg1) = m ((c.tc : Thread Cert.PostEvenNextIdeal.nD Cert.PostEvenNextIdeal.τ).loc Cert.PostEvenNextIdeal.main_arg1)
      ∧ r.2.mem ((c.tc : Thread Cert.PostEvenNextIdeal.nD Cert.PostEvenNextIdeal.τ).loc Cert.PostEvenNextIdeal.main_arg2) = m ((c.tc : Thread Cert.PostEvenNextIdeal.nD Cert.PostEvenNextIdeal.τ).loc Cert.PostEvenNextIdeal.main_arg2)
      ∧ r.2.mem ((c.tc : Thread Cert.PostEvenNextIdeal.nD Cert.PostEvenNextIdeal.τ).loc Cert.PostEvenNextIdeal.main_arg3) = m ((c.tc : Thread Cert.PostEvenNextIdeal.nD Cert.PostEvenNextIdeal.τ).loc Cert.PostEvenNextIdeal.main_arg3)
      ∧ r.2.mem ((c.tc : Thread Cert.PostEvenNextIdeal.nD Cert.PostEvenNextIdeal.τ).loc Cert.PostEvenNextIdeal.main_arg4) = m ((c.tc : Thread Cert.PostEvenNextIdeal.nD Cert.PostEvenNextIdeal.τ).loc Cert.PostEvenNextIdeal.main_arg4)
      ∧ r.2.mem ((c.tc : Thread Cert.PostEvenNextIdeal.nD Cert.PostEvenNextIdeal.τ).loc Cert.PostEvenNextIdeal.main_arg5) = m ((c.tc : Thread Cert.PostEvenNextIdeal.nD Cert.PostEvenNextIdeal.τ).loc Cert.PostEvenNextIdeal.main_arg5)
      ∧ r.2.mem ((c.tc : Thread Cert.PostEvenNextIdeal.nD Cert.PostEvenNextIdeal.τ).loc Cert.PostEvenNextIdeal.main_arg6) = m ((c.tc : Thread Cert.PostEvenNextIdeal.nD Cert.PostEvenNextIdeal.τ).loc Cert.PostEvenNextIdeal.main_arg6)
      ∧ r.2.mem ((c.tc : Thread Cert.PostEvenNextIdeal.nD Cert.PostEvenNextIdeal.τ).loc Cert.PostEvenNextIdeal.main_arg7) = m ((c.tc : Thread Cert.PostEvenNextIdeal.nD Cert.PostEvenNextIdeal.τ).loc Cert.PostEvenNextIdeal.main_arg7)
      ∧ r.2.mem ((c.tc : Thread Cert.PostEvenNextIdeal.nD Cert.PostEvenNextIdeal.τ).loc Cert.PostEvenNextIdeal.main_arg8) = m ((c.tc : Thread Cert.PostEvenNextIdeal.nD Cert.PostEvenNextIdeal.τ).loc Cert.PostEvenNextIdeal.main_arg8)
      ∧ r.2.mem ((c.tc : Thread Cert.PostEvenNextIdeal.nD Cert.PostEvenNextIdeal.τ).loc Cert.PostEvenNextIdeal.main_arg9) = m ((c.tc : Thread Cert.PostEvenNextIdeal.nD Cert.PostEvenNextIdeal.τ).loc Cert.PostEvenNextIdeal.main_arg9)
      ∧ r.2.mem ((c.tc : Thread Cert.PostEvenNextIdeal.nD Cert.PostEvenNextIdeal.τ).loc Cert.PostEvenNextIdeal.main_arg10) = m ((c.tc : Thread Cert.PostEvenNextIdeal.nD Cert.PostEvenNextIdeal.τ).loc Cert.PostEvenNextIdeal.main_arg10)
      ∧ r.2.mem ((c.tc : Thread Cert.PostEvenNextIdeal.nD Cert.PostEvenNextIdeal.τ).loc Cert.PostEvenNextIdeal.main_arg11) = m ((c.tc : Thread Cert.PostEvenNextIdeal.nD Cert.PostEvenNextIdeal.τ).loc Cert.PostEvenNextIdeal.main_arg11)
      ∧ r.2.mem ((c.tc : Thread Cert.PostEvenNextIdeal.nD Cert.PostEvenNextIdeal.τ).loc Cert.PostEvenNextIdeal.main_arg12) = m ((c.tc : Thread Cert.PostEvenNextIdeal.nD Cert.PostEvenNextIdeal.τ).loc Cert.PostEvenNextIdeal.main_arg12))
      ∧ r.2.sem = fun _ => 0)

def quiescent_PostEvenNextReferenceIdeal [hPostEvenNextReferenceIdeal : Cert.PostEvenNextReferenceIdeal.Facts] : Prop :=
  ∀ (m : (ℓ : Loc Cert.PostEvenNextReferenceIdeal.nD Cert.PostEvenNextReferenceIdeal.τ Cert.PostEvenNextReferenceIdeal.sig) → Buf (Elt Ideal) ℓ) (g : Dev Cert.PostEvenNextReferenceIdeal.nD → PrngReg), Pre_PostEvenNextReferenceIdeal m →
    θ_run (Cert.PostEvenNextReferenceIdeal.defs (F := Ideal)) (onTc (τ := Cert.PostEvenNextReferenceIdeal.τ) (Cert.PostEvenNextReferenceIdeal.main (F := Ideal))) ⟨m, fun _ => 0, g⟩ (fun r => (∀ c : Dev Cert.PostEvenNextReferenceIdeal.nD,
      r.2.mem ((c.tc : Thread Cert.PostEvenNextReferenceIdeal.nD Cert.PostEvenNextReferenceIdeal.τ).loc Cert.PostEvenNextReferenceIdeal.main_arg0) = m ((c.tc : Thread Cert.PostEvenNextReferenceIdeal.nD Cert.PostEvenNextReferenceIdeal.τ).loc Cert.PostEvenNextReferenceIdeal.main_arg0)
      ∧ r.2.mem ((c.tc : Thread Cert.PostEvenNextReferenceIdeal.nD Cert.PostEvenNextReferenceIdeal.τ).loc Cert.PostEvenNextReferenceIdeal.main_arg1) = m ((c.tc : Thread Cert.PostEvenNextReferenceIdeal.nD Cert.PostEvenNextReferenceIdeal.τ).loc Cert.PostEvenNextReferenceIdeal.main_arg1)
      ∧ r.2.mem ((c.tc : Thread Cert.PostEvenNextReferenceIdeal.nD Cert.PostEvenNextReferenceIdeal.τ).loc Cert.PostEvenNextReferenceIdeal.main_arg2) = m ((c.tc : Thread Cert.PostEvenNextReferenceIdeal.nD Cert.PostEvenNextReferenceIdeal.τ).loc Cert.PostEvenNextReferenceIdeal.main_arg2)
      ∧ r.2.mem ((c.tc : Thread Cert.PostEvenNextReferenceIdeal.nD Cert.PostEvenNextReferenceIdeal.τ).loc Cert.PostEvenNextReferenceIdeal.main_arg3) = m ((c.tc : Thread Cert.PostEvenNextReferenceIdeal.nD Cert.PostEvenNextReferenceIdeal.τ).loc Cert.PostEvenNextReferenceIdeal.main_arg3)
      ∧ r.2.mem ((c.tc : Thread Cert.PostEvenNextReferenceIdeal.nD Cert.PostEvenNextReferenceIdeal.τ).loc Cert.PostEvenNextReferenceIdeal.main_arg4) = m ((c.tc : Thread Cert.PostEvenNextReferenceIdeal.nD Cert.PostEvenNextReferenceIdeal.τ).loc Cert.PostEvenNextReferenceIdeal.main_arg4)
      ∧ r.2.mem ((c.tc : Thread Cert.PostEvenNextReferenceIdeal.nD Cert.PostEvenNextReferenceIdeal.τ).loc Cert.PostEvenNextReferenceIdeal.main_arg5) = m ((c.tc : Thread Cert.PostEvenNextReferenceIdeal.nD Cert.PostEvenNextReferenceIdeal.τ).loc Cert.PostEvenNextReferenceIdeal.main_arg5)
      ∧ r.2.mem ((c.tc : Thread Cert.PostEvenNextReferenceIdeal.nD Cert.PostEvenNextReferenceIdeal.τ).loc Cert.PostEvenNextReferenceIdeal.main_arg6) = m ((c.tc : Thread Cert.PostEvenNextReferenceIdeal.nD Cert.PostEvenNextReferenceIdeal.τ).loc Cert.PostEvenNextReferenceIdeal.main_arg6)
      ∧ r.2.mem ((c.tc : Thread Cert.PostEvenNextReferenceIdeal.nD Cert.PostEvenNextReferenceIdeal.τ).loc Cert.PostEvenNextReferenceIdeal.main_arg7) = m ((c.tc : Thread Cert.PostEvenNextReferenceIdeal.nD Cert.PostEvenNextReferenceIdeal.τ).loc Cert.PostEvenNextReferenceIdeal.main_arg7)
      ∧ r.2.mem ((c.tc : Thread Cert.PostEvenNextReferenceIdeal.nD Cert.PostEvenNextReferenceIdeal.τ).loc Cert.PostEvenNextReferenceIdeal.main_arg8) = m ((c.tc : Thread Cert.PostEvenNextReferenceIdeal.nD Cert.PostEvenNextReferenceIdeal.τ).loc Cert.PostEvenNextReferenceIdeal.main_arg8)
      ∧ r.2.mem ((c.tc : Thread Cert.PostEvenNextReferenceIdeal.nD Cert.PostEvenNextReferenceIdeal.τ).loc Cert.PostEvenNextReferenceIdeal.main_arg9) = m ((c.tc : Thread Cert.PostEvenNextReferenceIdeal.nD Cert.PostEvenNextReferenceIdeal.τ).loc Cert.PostEvenNextReferenceIdeal.main_arg9)
      ∧ r.2.mem ((c.tc : Thread Cert.PostEvenNextReferenceIdeal.nD Cert.PostEvenNextReferenceIdeal.τ).loc Cert.PostEvenNextReferenceIdeal.main_arg10) = m ((c.tc : Thread Cert.PostEvenNextReferenceIdeal.nD Cert.PostEvenNextReferenceIdeal.τ).loc Cert.PostEvenNextReferenceIdeal.main_arg10)
      ∧ r.2.mem ((c.tc : Thread Cert.PostEvenNextReferenceIdeal.nD Cert.PostEvenNextReferenceIdeal.τ).loc Cert.PostEvenNextReferenceIdeal.main_arg11) = m ((c.tc : Thread Cert.PostEvenNextReferenceIdeal.nD Cert.PostEvenNextReferenceIdeal.τ).loc Cert.PostEvenNextReferenceIdeal.main_arg11)
      ∧ r.2.mem ((c.tc : Thread Cert.PostEvenNextReferenceIdeal.nD Cert.PostEvenNextReferenceIdeal.τ).loc Cert.PostEvenNextReferenceIdeal.main_arg12) = m ((c.tc : Thread Cert.PostEvenNextReferenceIdeal.nD Cert.PostEvenNextReferenceIdeal.τ).loc Cert.PostEvenNextReferenceIdeal.main_arg12))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3E38AA3B#32 (((8 * (Real.log 2))⁻¹ : ℝ) : EReal)
  ∧ IdealRules.named_const.Statement Cert.KernelIdeal.κ "floor" .f32 0xF0C9F2CA#32 ⊥

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v12)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v12) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v71) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11))

def preserves_PostEven_PostEvenIdeal : Prop :=
  True

def algebraic_PostEvenIdeal_PostEvenReferenceIdeal [hPostEvenIdeal : Cert.PostEvenIdeal.Facts] [hPostEvenReferenceIdeal : Cert.PostEvenReferenceIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg)
    (m' : (ℓ : Loc Cert.PostEvenReferenceIdeal.nD Cert.PostEvenReferenceIdeal.τ Cert.PostEvenReferenceIdeal.sig) → Buf (Elt Ideal) ℓ) (g' : Dev Cert.PostEvenReferenceIdeal.nD → PrngReg), Pre_PostEvenIdeal m →
    (∀ c : Dev Cert.PostEvenIdeal.nD,
      m' ((c.tc : Thread Cert.PostEvenReferenceIdeal.nD Cert.PostEvenReferenceIdeal.τ).loc Cert.PostEvenReferenceIdeal.main_arg0) = m ((c.tc : Thread Cert.PostEvenIdeal.nD Cert.PostEvenIdeal.τ).loc Cert.PostEvenIdeal.main_arg0)
      ∧ m' ((c.tc : Thread Cert.PostEvenReferenceIdeal.nD Cert.PostEvenReferenceIdeal.τ).loc Cert.PostEvenReferenceIdeal.main_arg1) = m ((c.tc : Thread Cert.PostEvenIdeal.nD Cert.PostEvenIdeal.τ).loc Cert.PostEvenIdeal.main_arg1)
      ∧ m' ((c.tc : Thread Cert.PostEvenReferenceIdeal.nD Cert.PostEvenReferenceIdeal.τ).loc Cert.PostEvenReferenceIdeal.main_arg2) = m ((c.tc : Thread Cert.PostEvenIdeal.nD Cert.PostEvenIdeal.τ).loc Cert.PostEvenIdeal.main_arg2)
      ∧ m' ((c.tc : Thread Cert.PostEvenReferenceIdeal.nD Cert.PostEvenReferenceIdeal.τ).loc Cert.PostEvenReferenceIdeal.main_arg3) = m ((c.tc : Thread Cert.PostEvenIdeal.nD Cert.PostEvenIdeal.τ).loc Cert.PostEvenIdeal.main_arg3)
      ∧ m' ((c.tc : Thread Cert.PostEvenReferenceIdeal.nD Cert.PostEvenReferenceIdeal.τ).loc Cert.PostEvenReferenceIdeal.main_arg4) = m ((c.tc : Thread Cert.PostEvenIdeal.nD Cert.PostEvenIdeal.τ).loc Cert.PostEvenIdeal.main_arg4)
      ∧ m' ((c.tc : Thread Cert.PostEvenReferenceIdeal.nD Cert.PostEvenReferenceIdeal.τ).loc Cert.PostEvenReferenceIdeal.main_arg5) = m ((c.tc : Thread Cert.PostEvenIdeal.nD Cert.PostEvenIdeal.τ).loc Cert.PostEvenIdeal.main_arg5)
      ∧ m' ((c.tc : Thread Cert.PostEvenReferenceIdeal.nD Cert.PostEvenReferenceIdeal.τ).loc Cert.PostEvenReferenceIdeal.main_arg6) = m ((c.tc : Thread Cert.PostEvenIdeal.nD Cert.PostEvenIdeal.τ).loc Cert.PostEvenIdeal.main_arg6)
      ∧ m' ((c.tc : Thread Cert.PostEvenReferenceIdeal.nD Cert.PostEvenReferenceIdeal.τ).loc Cert.PostEvenReferenceIdeal.main_arg7) = m ((c.tc : Thread Cert.PostEvenIdeal.nD Cert.PostEvenIdeal.τ).loc Cert.PostEvenIdeal.main_arg7)
      ∧ m' ((c.tc : Thread Cert.PostEvenReferenceIdeal.nD Cert.PostEvenReferenceIdeal.τ).loc Cert.PostEvenReferenceIdeal.main_arg8) = m ((c.tc : Thread Cert.PostEvenIdeal.nD Cert.PostEvenIdeal.τ).loc Cert.PostEvenIdeal.main_arg8)
      ∧ m' ((c.tc : Thread Cert.PostEvenReferenceIdeal.nD Cert.PostEvenReferenceIdeal.τ).loc Cert.PostEvenReferenceIdeal.main_arg9) = m ((c.tc : Thread Cert.PostEvenIdeal.nD Cert.PostEvenIdeal.τ).loc Cert.PostEvenIdeal.main_arg9)
      ∧ m' ((c.tc : Thread Cert.PostEvenReferenceIdeal.nD Cert.PostEvenReferenceIdeal.τ).loc Cert.PostEvenReferenceIdeal.main_arg10) = m ((c.tc : Thread Cert.PostEvenIdeal.nD Cert.PostEvenIdeal.τ).loc Cert.PostEvenIdeal.main_arg10)
      ∧ m' ((c.tc : Thread Cert.PostEvenReferenceIdeal.nD Cert.PostEvenReferenceIdeal.τ).loc Cert.PostEvenReferenceIdeal.main_arg11) = m ((c.tc : Thread Cert.PostEvenIdeal.nD Cert.PostEvenIdeal.τ).loc Cert.PostEvenIdeal.main_arg11)
      ∧ m' ((c.tc : Thread Cert.PostEvenReferenceIdeal.nD Cert.PostEvenReferenceIdeal.τ).loc Cert.PostEvenReferenceIdeal.main_arg12) = m ((c.tc : Thread Cert.PostEvenIdeal.nD Cert.PostEvenIdeal.τ).loc Cert.PostEvenIdeal.main_arg12)) →
    ∃ (v0 : (c : Dev Cert.PostEvenIdeal.nD) → Buf (Elt Ideal) ((c.tc : Thread Cert.PostEvenIdeal.nD Cert.PostEvenIdeal.τ).loc Cert.PostEvenIdeal.main_v19)),
      θ_run (Cert.PostEvenIdeal.defs (F := Ideal)) (onTc (τ := Cert.PostEvenIdeal.τ) (Cert.PostEvenIdeal.main (F := Ideal))) ⟨m, fun _ => 0, g⟩ (fun r => ∀ c : Dev Cert.PostEvenIdeal.nD,
          r.2.mem ((c.tc : Thread Cert.PostEvenIdeal.nD Cert.PostEvenIdeal.τ).loc Cert.PostEvenIdeal.main_v19) = v0 c
          ∧ r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
          ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
          ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
          ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
          ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
          ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
          ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
          ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
          ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8)
          ∧ r.2.mem ((c.tc : Thread Cert.PostEvenIdeal.nD Cert.PostEvenIdeal.τ).loc Cert.PostEvenIdeal.main_arg9) = m ((c.tc : Thread Cert.PostEvenIdeal.nD Cert.PostEvenIdeal.τ).loc Cert.PostEvenIdeal.main_arg9)
          ∧ r.2.mem ((c.tc : Thread Cert.PostEvenIdeal.nD Cert.PostEvenIdeal.τ).loc Cert.PostEvenIdeal.main_arg10) = m ((c.tc : Thread Cert.PostEvenIdeal.nD Cert.PostEvenIdeal.τ).loc Cert.PostEvenIdeal.main_arg10)
          ∧ r.2.mem ((c.tc : Thread Cert.PostEvenIdeal.nD Cert.PostEvenIdeal.τ).loc Cert.PostEvenIdeal.main_arg11) = m ((c.tc : Thread Cert.PostEvenIdeal.nD Cert.PostEvenIdeal.τ).loc Cert.PostEvenIdeal.main_arg11)
          ∧ r.2.mem ((c.tc : Thread Cert.PostEvenIdeal.nD Cert.PostEvenIdeal.τ).loc Cert.PostEvenIdeal.main_arg12) = m ((c.tc : Thread Cert.PostEvenIdeal.nD Cert.PostEvenIdeal.τ).loc Cert.PostEvenIdeal.main_arg12))
      ∧ θ_run (Cert.PostEvenReferenceIdeal.defs (F := Ideal)) (onTc (τ := Cert.PostEvenReferenceIdeal.τ) (Cert.PostEvenReferenceIdeal.main (F := Ideal))) ⟨m', fun _ => 0, g'⟩ (fun r => ∀ c : Dev Cert.PostEvenReferenceIdeal.nD,
          r.2.mem ((c.tc : Thread Cert.PostEvenReferenceIdeal.nD Cert.PostEvenReferenceIdeal.τ).loc Cert.PostEvenReferenceIdeal.main_v75) = v0 c
          ∧ r.2.mem ((c.tc : Thread Cert.PostEvenReferenceIdeal.nD Cert.PostEvenReferenceIdeal.τ).loc Cert.PostEvenReferenceIdeal.main_arg0) = m' ((c.tc : Thread Cert.PostEvenReferenceIdeal.nD Cert.PostEvenReferenceIdeal.τ).loc Cert.PostEvenReferenceIdeal.main_arg0)
          ∧ r.2.mem ((c.tc : Thread Cert.PostEvenReferenceIdeal.nD Cert.PostEvenReferenceIdeal.τ).loc Cert.PostEvenReferenceIdeal.main_arg1) = m' ((c.tc : Thread Cert.PostEvenReferenceIdeal.nD Cert.PostEvenReferenceIdeal.τ).loc Cert.PostEvenReferenceIdeal.main_arg1)
          ∧ r.2.mem ((c.tc : Thread Cert.PostEvenReferenceIdeal.nD Cert.PostEvenReferenceIdeal.τ).loc Cert.PostEvenReferenceIdeal.main_arg2) = m' ((c.tc : Thread Cert.PostEvenReferenceIdeal.nD Cert.PostEvenReferenceIdeal.τ).loc Cert.PostEvenReferenceIdeal.main_arg2)
          ∧ r.2.mem ((c.tc : Thread Cert.PostEvenReferenceIdeal.nD Cert.PostEvenReferenceIdeal.τ).loc Cert.PostEvenReferenceIdeal.main_arg3) = m' ((c.tc : Thread Cert.PostEvenReferenceIdeal.nD Cert.PostEvenReferenceIdeal.τ).loc Cert.PostEvenReferenceIdeal.main_arg3)
          ∧ r.2.mem ((c.tc : Thread Cert.PostEvenReferenceIdeal.nD Cert.PostEvenReferenceIdeal.τ).loc Cert.PostEvenReferenceIdeal.main_arg4) = m' ((c.tc : Thread Cert.PostEvenReferenceIdeal.nD Cert.PostEvenReferenceIdeal.τ).loc Cert.PostEvenReferenceIdeal.main_arg4)
          ∧ r.2.mem ((c.tc : Thread Cert.PostEvenReferenceIdeal.nD Cert.PostEvenReferenceIdeal.τ).loc Cert.PostEvenReferenceIdeal.main_arg5) = m' ((c.tc : Thread Cert.PostEvenReferenceIdeal.nD Cert.PostEvenReferenceIdeal.τ).loc Cert.PostEvenReferenceIdeal.main_arg5)
          ∧ r.2.mem ((c.tc : Thread Cert.PostEvenReferenceIdeal.nD Cert.PostEvenReferenceIdeal.τ).loc Cert.PostEvenReferenceIdeal.main_arg6) = m' ((c.tc : Thread Cert.PostEvenReferenceIdeal.nD Cert.PostEvenReferenceIdeal.τ).loc Cert.PostEvenReferenceIdeal.main_arg6)
          ∧ r.2.mem ((c.tc : Thread Cert.PostEvenReferenceIdeal.nD Cert.PostEvenReferenceIdeal.τ).loc Cert.PostEvenReferenceIdeal.main_arg7) = m' ((c.tc : Thread Cert.PostEvenReferenceIdeal.nD Cert.PostEvenReferenceIdeal.τ).loc Cert.PostEvenReferenceIdeal.main_arg7)
          ∧ r.2.mem ((c.tc : Thread Cert.PostEvenReferenceIdeal.nD Cert.PostEvenReferenceIdeal.τ).loc Cert.PostEvenReferenceIdeal.main_arg8) = m' ((c.tc : Thread Cert.PostEvenReferenceIdeal.nD Cert.PostEvenReferenceIdeal.τ).loc Cert.PostEvenReferenceIdeal.main_arg8)
          ∧ r.2.mem ((c.tc : Thread Cert.PostEvenReferenceIdeal.nD Cert.PostEvenReferenceIdeal.τ).loc Cert.PostEvenReferenceIdeal.main_arg9) = m' ((c.tc : Thread Cert.PostEvenReferenceIdeal.nD Cert.PostEvenReferenceIdeal.τ).loc Cert.PostEvenReferenceIdeal.main_arg9)
          ∧ r.2.mem ((c.tc : Thread Cert.PostEvenReferenceIdeal.nD Cert.PostEvenReferenceIdeal.τ).loc Cert.PostEvenReferenceIdeal.main_arg10) = m' ((c.tc : Thread Cert.PostEvenReferenceIdeal.nD Cert.PostEvenReferenceIdeal.τ).loc Cert.PostEvenReferenceIdeal.main_arg10)
          ∧ r.2.mem ((c.tc : Thread Cert.PostEvenReferenceIdeal.nD Cert.PostEvenReferenceIdeal.τ).loc Cert.PostEvenReferenceIdeal.main_arg11) = m' ((c.tc : Thread Cert.PostEvenReferenceIdeal.nD Cert.PostEvenReferenceIdeal.τ).loc Cert.PostEvenReferenceIdeal.main_arg11)
          ∧ r.2.mem ((c.tc : Thread Cert.PostEvenReferenceIdeal.nD Cert.PostEvenReferenceIdeal.τ).loc Cert.PostEvenReferenceIdeal.main_arg12) = m' ((c.tc : Thread Cert.PostEvenReferenceIdeal.nD Cert.PostEvenReferenceIdeal.τ).loc Cert.PostEvenReferenceIdeal.main_arg12))

def preserves_PostLast_PostLastIdeal : Prop :=
  True

def algebraic_PostLastIdeal_PostLastReferenceIdeal [hPostLastIdeal : Cert.PostLastIdeal.Facts] [hPostLastReferenceIdeal : Cert.PostLastReferenceIdeal.Facts] : Prop :=
  ∀ (m : (ℓ : Loc Cert.PostLastIdeal.nD Cert.PostLastIdeal.τ Cert.PostLastIdeal.sig) → Buf (Elt Ideal) ℓ) (g : Dev Cert.PostLastIdeal.nD → PrngReg)
    (m' : (ℓ : Loc Cert.PostLastReferenceIdeal.nD Cert.PostLastReferenceIdeal.τ Cert.PostLastReferenceIdeal.sig) → Buf (Elt Ideal) ℓ) (g' : Dev Cert.PostLastReferenceIdeal.nD → PrngReg), Pre_PostLastIdeal m →
    (∀ c : Dev Cert.PostLastIdeal.nD,
      m' ((c.tc : Thread Cert.PostLastReferenceIdeal.nD Cert.PostLastReferenceIdeal.τ).loc Cert.PostLastReferenceIdeal.main_arg0) = m ((c.tc : Thread Cert.PostLastIdeal.nD Cert.PostLastIdeal.τ).loc Cert.PostLastIdeal.main_arg0)
      ∧ m' ((c.tc : Thread Cert.PostLastReferenceIdeal.nD Cert.PostLastReferenceIdeal.τ).loc Cert.PostLastReferenceIdeal.main_arg1) = m ((c.tc : Thread Cert.PostLastIdeal.nD Cert.PostLastIdeal.τ).loc Cert.PostLastIdeal.main_arg1)
      ∧ m' ((c.tc : Thread Cert.PostLastReferenceIdeal.nD Cert.PostLastReferenceIdeal.τ).loc Cert.PostLastReferenceIdeal.main_arg2) = m ((c.tc : Thread Cert.PostLastIdeal.nD Cert.PostLastIdeal.τ).loc Cert.PostLastIdeal.main_arg2)
      ∧ m' ((c.tc : Thread Cert.PostLastReferenceIdeal.nD Cert.PostLastReferenceIdeal.τ).loc Cert.PostLastReferenceIdeal.main_arg3) = m ((c.tc : Thread Cert.PostLastIdeal.nD Cert.PostLastIdeal.τ).loc Cert.PostLastIdeal.main_arg3)
      ∧ m' ((c.tc : Thread Cert.PostLastReferenceIdeal.nD Cert.PostLastReferenceIdeal.τ).loc Cert.PostLastReferenceIdeal.main_arg4) = m ((c.tc : Thread Cert.PostLastIdeal.nD Cert.PostLastIdeal.τ).loc Cert.PostLastIdeal.main_arg4)
      ∧ m' ((c.tc : Thread Cert.PostLastReferenceIdeal.nD Cert.PostLastReferenceIdeal.τ).loc Cert.PostLastReferenceIdeal.main_arg5) = m ((c.tc : Thread Cert.PostLastIdeal.nD Cert.PostLastIdeal.τ).loc Cert.PostLastIdeal.main_arg5)
      ∧ m' ((c.tc : Thread Cert.PostLastReferenceIdeal.nD Cert.PostLastReferenceIdeal.τ).loc Cert.PostLastReferenceIdeal.main_arg6) = m ((c.tc : Thread Cert.PostLastIdeal.nD Cert.PostLastIdeal.τ).loc Cert.PostLastIdeal.main_arg6)
      ∧ m' ((c.tc : Thread Cert.PostLastReferenceIdeal.nD Cert.PostLastReferenceIdeal.τ).loc Cert.PostLastReferenceIdeal.main_arg7) = m ((c.tc : Thread Cert.PostLastIdeal.nD Cert.PostLastIdeal.τ).loc Cert.PostLastIdeal.main_arg7)
      ∧ m' ((c.tc : Thread Cert.PostLastReferenceIdeal.nD Cert.PostLastReferenceIdeal.τ).loc Cert.PostLastReferenceIdeal.main_arg8) = m ((c.tc : Thread Cert.PostLastIdeal.nD Cert.PostLastIdeal.τ).loc Cert.PostLastIdeal.main_arg8)
      ∧ m' ((c.tc : Thread Cert.PostLastReferenceIdeal.nD Cert.PostLastReferenceIdeal.τ).loc Cert.PostLastReferenceIdeal.main_arg9) = m ((c.tc : Thread Cert.PostLastIdeal.nD Cert.PostLastIdeal.τ).loc Cert.PostLastIdeal.main_arg9)
      ∧ m' ((c.tc : Thread Cert.PostLastReferenceIdeal.nD Cert.PostLastReferenceIdeal.τ).loc Cert.PostLastReferenceIdeal.main_arg10) = m ((c.tc : Thread Cert.PostLastIdeal.nD Cert.PostLastIdeal.τ).loc Cert.PostLastIdeal.main_arg10)
      ∧ m' ((c.tc : Thread Cert.PostLastReferenceIdeal.nD Cert.PostLastReferenceIdeal.τ).loc Cert.PostLastReferenceIdeal.main_arg11) = m ((c.tc : Thread Cert.PostLastIdeal.nD Cert.PostLastIdeal.τ).loc Cert.PostLastIdeal.main_arg11)) →
    ∃ (v0 : (c : Dev Cert.PostLastIdeal.nD) → Buf (Elt Ideal) ((c.tc : Thread Cert.PostLastIdeal.nD Cert.PostLastIdeal.τ).loc Cert.PostLastIdeal.main_v12)),
      θ_run (Cert.PostLastIdeal.defs (F := Ideal)) (onTc (τ := Cert.PostLastIdeal.τ) (Cert.PostLastIdeal.main (F := Ideal))) ⟨m, fun _ => 0, g⟩ (fun r => ∀ c : Dev Cert.PostLastIdeal.nD,
          r.2.mem ((c.tc : Thread Cert.PostLastIdeal.nD Cert.PostLastIdeal.τ).loc Cert.PostLastIdeal.main_v12) = v0 c
          ∧ r.2.mem ((c.tc : Thread Cert.PostLastIdeal.nD Cert.PostLastIdeal.τ).loc Cert.PostLastIdeal.main_arg0) = m ((c.tc : Thread Cert.PostLastIdeal.nD Cert.PostLastIdeal.τ).loc Cert.PostLastIdeal.main_arg0)
          ∧ r.2.mem ((c.tc : Thread Cert.PostLastIdeal.nD Cert.PostLastIdeal.τ).loc Cert.PostLastIdeal.main_arg1) = m ((c.tc : Thread Cert.PostLastIdeal.nD Cert.PostLastIdeal.τ).loc Cert.PostLastIdeal.main_arg1)
          ∧ r.2.mem ((c.tc : Thread Cert.PostLastIdeal.nD Cert.PostLastIdeal.τ).loc Cert.PostLastIdeal.main_arg2) = m ((c.tc : Thread Cert.PostLastIdeal.nD Cert.PostLastIdeal.τ).loc Cert.PostLastIdeal.main_arg2)
          ∧ r.2.mem ((c.tc : Thread Cert.PostLastIdeal.nD Cert.PostLastIdeal.τ).loc Cert.PostLastIdeal.main_arg3) = m ((c.tc : Thread Cert.PostLastIdeal.nD Cert.PostLastIdeal.τ).loc Cert.PostLastIdeal.main_arg3)
          ∧ r.2.mem ((c.tc : Thread Cert.PostLastIdeal.nD Cert.PostLastIdeal.τ).loc Cert.PostLastIdeal.main_arg4) = m ((c.tc : Thread Cert.PostLastIdeal.nD Cert.PostLastIdeal.τ).loc Cert.PostLastIdeal.main_arg4)
          ∧ r.2.mem ((c.tc : Thread Cert.PostLastIdeal.nD Cert.PostLastIdeal.τ).loc Cert.PostLastIdeal.main_arg5) = m ((c.tc : Thread Cert.PostLastIdeal.nD Cert.PostLastIdeal.τ).loc Cert.PostLastIdeal.main_arg5)
          ∧ r.2.mem ((c.tc : Thread Cert.PostLastIdeal.nD Cert.PostLastIdeal.τ).loc Cert.PostLastIdeal.main_arg6) = m ((c.tc : Thread Cert.PostLastIdeal.nD Cert.PostLastIdeal.τ).loc Cert.PostLastIdeal.main_arg6)
          ∧ r.2.mem ((c.tc : Thread Cert.PostLastIdeal.nD Cert.PostLastIdeal.τ).loc Cert.PostLastIdeal.main_arg7) = m ((c.tc : Thread Cert.PostLastIdeal.nD Cert.PostLastIdeal.τ).loc Cert.PostLastIdeal.main_arg7)
          ∧ r.2.mem ((c.tc : Thread Cert.PostLastIdeal.nD Cert.PostLastIdeal.τ).loc Cert.PostLastIdeal.main_arg8) = m ((c.tc : Thread Cert.PostLastIdeal.nD Cert.PostLastIdeal.τ).loc Cert.PostLastIdeal.main_arg8)
          ∧ r.2.mem ((c.tc : Thread Cert.PostLastIdeal.nD Cert.PostLastIdeal.τ).loc Cert.PostLastIdeal.main_arg9) = m ((c.tc : Thread Cert.PostLastIdeal.nD Cert.PostLastIdeal.τ).loc Cert.PostLastIdeal.main_arg9)
          ∧ r.2.mem ((c.tc : Thread Cert.PostLastIdeal.nD Cert.PostLastIdeal.τ).loc Cert.PostLastIdeal.main_arg10) = m ((c.tc : Thread Cert.PostLastIdeal.nD Cert.PostLastIdeal.τ).loc Cert.PostLastIdeal.main_arg10)
          ∧ r.2.mem ((c.tc : Thread Cert.PostLastIdeal.nD Cert.PostLastIdeal.τ).loc Cert.PostLastIdeal.main_arg11) = m ((c.tc : Thread Cert.PostLastIdeal.nD Cert.PostLastIdeal.τ).loc Cert.PostLastIdeal.main_arg11))
      ∧ θ_run (Cert.PostLastReferenceIdeal.defs (F := Ideal)) (onTc (τ := Cert.PostLastReferenceIdeal.τ) (Cert.PostLastReferenceIdeal.main (F := Ideal))) ⟨m', fun _ => 0, g'⟩ (fun r => ∀ c : Dev Cert.PostLastReferenceIdeal.nD,
          r.2.mem ((c.tc : Thread Cert.PostLastReferenceIdeal.nD Cert.PostLastReferenceIdeal.τ).loc Cert.PostLastReferenceIdeal.main_v71) = v0 c
          ∧ r.2.mem ((c.tc : Thread Cert.PostLastReferenceIdeal.nD Cert.PostLastReferenceIdeal.τ).loc Cert.PostLastReferenceIdeal.main_arg0) = m' ((c.tc : Thread Cert.PostLastReferenceIdeal.nD Cert.PostLastReferenceIdeal.τ).loc Cert.PostLastReferenceIdeal.main_arg0)
          ∧ r.2.mem ((c.tc : Thread Cert.PostLastReferenceIdeal.nD Cert.PostLastReferenceIdeal.τ).loc Cert.PostLastReferenceIdeal.main_arg1) = m' ((c.tc : Thread Cert.PostLastReferenceIdeal.nD Cert.PostLastReferenceIdeal.τ).loc Cert.PostLastReferenceIdeal.main_arg1)
          ∧ r.2.mem ((c.tc : Thread Cert.PostLastReferenceIdeal.nD Cert.PostLastReferenceIdeal.τ).loc Cert.PostLastReferenceIdeal.main_arg2) = m' ((c.tc : Thread Cert.PostLastReferenceIdeal.nD Cert.PostLastReferenceIdeal.τ).loc Cert.PostLastReferenceIdeal.main_arg2)
          ∧ r.2.mem ((c.tc : Thread Cert.PostLastReferenceIdeal.nD Cert.PostLastReferenceIdeal.τ).loc Cert.PostLastReferenceIdeal.main_arg3) = m' ((c.tc : Thread Cert.PostLastReferenceIdeal.nD Cert.PostLastReferenceIdeal.τ).loc Cert.PostLastReferenceIdeal.main_arg3)
          ∧ r.2.mem ((c.tc : Thread Cert.PostLastReferenceIdeal.nD Cert.PostLastReferenceIdeal.τ).loc Cert.PostLastReferenceIdeal.main_arg4) = m' ((c.tc : Thread Cert.PostLastReferenceIdeal.nD Cert.PostLastReferenceIdeal.τ).loc Cert.PostLastReferenceIdeal.main_arg4)
          ∧ r.2.mem ((c.tc : Thread Cert.PostLastReferenceIdeal.nD Cert.PostLastReferenceIdeal.τ).loc Cert.PostLastReferenceIdeal.main_arg5) = m' ((c.tc : Thread Cert.PostLastReferenceIdeal.nD Cert.PostLastReferenceIdeal.τ).loc Cert.PostLastReferenceIdeal.main_arg5)
          ∧ r.2.mem ((c.tc : Thread Cert.PostLastReferenceIdeal.nD Cert.PostLastReferenceIdeal.τ).loc Cert.PostLastReferenceIdeal.main_arg6) = m' ((c.tc : Thread Cert.PostLastReferenceIdeal.nD Cert.PostLastReferenceIdeal.τ).loc Cert.PostLastReferenceIdeal.main_arg6)
          ∧ r.2.mem ((c.tc : Thread Cert.PostLastReferenceIdeal.nD Cert.PostLastReferenceIdeal.τ).loc Cert.PostLastReferenceIdeal.main_arg7) = m' ((c.tc : Thread Cert.PostLastReferenceIdeal.nD Cert.PostLastReferenceIdeal.τ).loc Cert.PostLastReferenceIdeal.main_arg7)
          ∧ r.2.mem ((c.tc : Thread Cert.PostLastReferenceIdeal.nD Cert.PostLastReferenceIdeal.τ).loc Cert.PostLastReferenceIdeal.main_arg8) = m' ((c.tc : Thread Cert.PostLastReferenceIdeal.nD Cert.PostLastReferenceIdeal.τ).loc Cert.PostLastReferenceIdeal.main_arg8)
          ∧ r.2.mem ((c.tc : Thread Cert.PostLastReferenceIdeal.nD Cert.PostLastReferenceIdeal.τ).loc Cert.PostLastReferenceIdeal.main_arg9) = m' ((c.tc : Thread Cert.PostLastReferenceIdeal.nD Cert.PostLastReferenceIdeal.τ).loc Cert.PostLastReferenceIdeal.main_arg9)
          ∧ r.2.mem ((c.tc : Thread Cert.PostLastReferenceIdeal.nD Cert.PostLastReferenceIdeal.τ).loc Cert.PostLastReferenceIdeal.main_arg10) = m' ((c.tc : Thread Cert.PostLastReferenceIdeal.nD Cert.PostLastReferenceIdeal.τ).loc Cert.PostLastReferenceIdeal.main_arg10)
          ∧ r.2.mem ((c.tc : Thread Cert.PostLastReferenceIdeal.nD Cert.PostLastReferenceIdeal.τ).loc Cert.PostLastReferenceIdeal.main_arg11) = m' ((c.tc : Thread Cert.PostLastReferenceIdeal.nD Cert.PostLastReferenceIdeal.τ).loc Cert.PostLastReferenceIdeal.main_arg11))

def preserves_PostEvenNext_PostEvenNextIdeal : Prop :=
  True

def algebraic_PostEvenNextIdeal_PostEvenNextReferenceIdeal [hPostEvenNextIdeal : Cert.PostEvenNextIdeal.Facts] [hPostEvenNextReferenceIdeal : Cert.PostEvenNextReferenceIdeal.Facts] : Prop :=
  ∀ (m : (ℓ : Loc Cert.PostEvenNextIdeal.nD Cert.PostEvenNextIdeal.τ Cert.PostEvenNextIdeal.sig) → Buf (Elt Ideal) ℓ) (g : Dev Cert.PostEvenNextIdeal.nD → PrngReg)
    (m' : (ℓ : Loc Cert.PostEvenNextReferenceIdeal.nD Cert.PostEvenNextReferenceIdeal.τ Cert.PostEvenNextReferenceIdeal.sig) → Buf (Elt Ideal) ℓ) (g' : Dev Cert.PostEvenNextReferenceIdeal.nD → PrngReg), Pre_PostEvenNextIdeal m →
    (∀ c : Dev Cert.PostEvenNextIdeal.nD,
      m' ((c.tc : Thread Cert.PostEvenNextReferenceIdeal.nD Cert.PostEvenNextReferenceIdeal.τ).loc Cert.PostEvenNextReferenceIdeal.main_arg0) = m ((c.tc : Thread Cert.PostEvenNextIdeal.nD Cert.PostEvenNextIdeal.τ).loc Cert.PostEvenNextIdeal.main_arg0)
      ∧ m' ((c.tc : Thread Cert.PostEvenNextReferenceIdeal.nD Cert.PostEvenNextReferenceIdeal.τ).loc Cert.PostEvenNextReferenceIdeal.main_arg1) = m ((c.tc : Thread Cert.PostEvenNextIdeal.nD Cert.PostEvenNextIdeal.τ).loc Cert.PostEvenNextIdeal.main_arg1)
      ∧ m' ((c.tc : Thread Cert.PostEvenNextReferenceIdeal.nD Cert.PostEvenNextReferenceIdeal.τ).loc Cert.PostEvenNextReferenceIdeal.main_arg2) = m ((c.tc : Thread Cert.PostEvenNextIdeal.nD Cert.PostEvenNextIdeal.τ).loc Cert.PostEvenNextIdeal.main_arg2)
      ∧ m' ((c.tc : Thread Cert.PostEvenNextReferenceIdeal.nD Cert.PostEvenNextReferenceIdeal.τ).loc Cert.PostEvenNextReferenceIdeal.main_arg3) = m ((c.tc : Thread Cert.PostEvenNextIdeal.nD Cert.PostEvenNextIdeal.τ).loc Cert.PostEvenNextIdeal.main_arg3)
      ∧ m' ((c.tc : Thread Cert.PostEvenNextReferenceIdeal.nD Cert.PostEvenNextReferenceIdeal.τ).loc Cert.PostEvenNextReferenceIdeal.main_arg4) = m ((c.tc : Thread Cert.PostEvenNextIdeal.nD Cert.PostEvenNextIdeal.τ).loc Cert.PostEvenNextIdeal.main_arg4)
      ∧ m' ((c.tc : Thread Cert.PostEvenNextReferenceIdeal.nD Cert.PostEvenNextReferenceIdeal.τ).loc Cert.PostEvenNextReferenceIdeal.main_arg5) = m ((c.tc : Thread Cert.PostEvenNextIdeal.nD Cert.PostEvenNextIdeal.τ).loc Cert.PostEvenNextIdeal.main_arg5)
      ∧ m' ((c.tc : Thread Cert.PostEvenNextReferenceIdeal.nD Cert.PostEvenNextReferenceIdeal.τ).loc Cert.PostEvenNextReferenceIdeal.main_arg6) = m ((c.tc : Thread Cert.PostEvenNextIdeal.nD Cert.PostEvenNextIdeal.τ).loc Cert.PostEvenNextIdeal.main_arg6)
      ∧ m' ((c.tc : Thread Cert.PostEvenNextReferenceIdeal.nD Cert.PostEvenNextReferenceIdeal.τ).loc Cert.PostEvenNextReferenceIdeal.main_arg7) = m ((c.tc : Thread Cert.PostEvenNextIdeal.nD Cert.PostEvenNextIdeal.τ).loc Cert.PostEvenNextIdeal.main_arg7)
      ∧ m' ((c.tc : Thread Cert.PostEvenNextReferenceIdeal.nD Cert.PostEvenNextReferenceIdeal.τ).loc Cert.PostEvenNextReferenceIdeal.main_arg8) = m ((c.tc : Thread Cert.PostEvenNextIdeal.nD Cert.PostEvenNextIdeal.τ).loc Cert.PostEvenNextIdeal.main_arg8)
      ∧ m' ((c.tc : Thread Cert.PostEvenNextReferenceIdeal.nD Cert.PostEvenNextReferenceIdeal.τ).loc Cert.PostEvenNextReferenceIdeal.main_arg9) = m ((c.tc : Thread Cert.PostEvenNextIdeal.nD Cert.PostEvenNextIdeal.τ).loc Cert.PostEvenNextIdeal.main_arg9)
      ∧ m' ((c.tc : Thread Cert.PostEvenNextReferenceIdeal.nD Cert.PostEvenNextReferenceIdeal.τ).loc Cert.PostEvenNextReferenceIdeal.main_arg10) = m ((c.tc : Thread Cert.PostEvenNextIdeal.nD Cert.PostEvenNextIdeal.τ).loc Cert.PostEvenNextIdeal.main_arg10)
      ∧ m' ((c.tc : Thread Cert.PostEvenNextReferenceIdeal.nD Cert.PostEvenNextReferenceIdeal.τ).loc Cert.PostEvenNextReferenceIdeal.main_arg11) = m ((c.tc : Thread Cert.PostEvenNextIdeal.nD Cert.PostEvenNextIdeal.τ).loc Cert.PostEvenNextIdeal.main_arg11)
      ∧ m' ((c.tc : Thread Cert.PostEvenNextReferenceIdeal.nD Cert.PostEvenNextReferenceIdeal.τ).loc Cert.PostEvenNextReferenceIdeal.main_arg12) = m ((c.tc : Thread Cert.PostEvenNextIdeal.nD Cert.PostEvenNextIdeal.τ).loc Cert.PostEvenNextIdeal.main_arg12)) →
    ∃ (v0 : (c : Dev Cert.PostEvenNextIdeal.nD) → Buf (Elt Ideal) ((c.tc : Thread Cert.PostEvenNextIdeal.nD Cert.PostEvenNextIdeal.τ).loc Cert.PostEvenNextIdeal.main_v19)),
      θ_run (Cert.PostEvenNextIdeal.defs (F := Ideal)) (onTc (τ := Cert.PostEvenNextIdeal.τ) (Cert.PostEvenNextIdeal.main (F := Ideal))) ⟨m, fun _ => 0, g⟩ (fun r => ∀ c : Dev Cert.PostEvenNextIdeal.nD,
          r.2.mem ((c.tc : Thread Cert.PostEvenNextIdeal.nD Cert.PostEvenNextIdeal.τ).loc Cert.PostEvenNextIdeal.main_v19) = v0 c
          ∧ r.2.mem ((c.tc : Thread Cert.PostEvenNextIdeal.nD Cert.PostEvenNextIdeal.τ).loc Cert.PostEvenNextIdeal.main_arg0) = m ((c.tc : Thread Cert.PostEvenNextIdeal.nD Cert.PostEvenNextIdeal.τ).loc Cert.PostEvenNextIdeal.main_arg0)
          ∧ r.2.mem ((c.tc : Thread Cert.PostEvenNextIdeal.nD Cert.PostEvenNextIdeal.τ).loc Cert.PostEvenNextIdeal.main_arg1) = m ((c.tc : Thread Cert.PostEvenNextIdeal.nD Cert.PostEvenNextIdeal.τ).loc Cert.PostEvenNextIdeal.main_arg1)
          ∧ r.2.mem ((c.tc : Thread Cert.PostEvenNextIdeal.nD Cert.PostEvenNextIdeal.τ).loc Cert.PostEvenNextIdeal.main_arg2) = m ((c.tc : Thread Cert.PostEvenNextIdeal.nD Cert.PostEvenNextIdeal.τ).loc Cert.PostEvenNextIdeal.main_arg2)
          ∧ r.2.mem ((c.tc : Thread Cert.PostEvenNextIdeal.nD Cert.PostEvenNextIdeal.τ).loc Cert.PostEvenNextIdeal.main_arg3) = m ((c.tc : Thread Cert.PostEvenNextIdeal.nD Cert.PostEvenNextIdeal.τ).loc Cert.PostEvenNextIdeal.main_arg3)
          ∧ r.2.mem ((c.tc : Thread Cert.PostEvenNextIdeal.nD Cert.PostEvenNextIdeal.τ).loc Cert.PostEvenNextIdeal.main_arg4) = m ((c.tc : Thread Cert.PostEvenNextIdeal.nD Cert.PostEvenNextIdeal.τ).loc Cert.PostEvenNextIdeal.main_arg4)
          ∧ r.2.mem ((c.tc : Thread Cert.PostEvenNextIdeal.nD Cert.PostEvenNextIdeal.τ).loc Cert.PostEvenNextIdeal.main_arg5) = m ((c.tc : Thread Cert.PostEvenNextIdeal.nD Cert.PostEvenNextIdeal.τ).loc Cert.PostEvenNextIdeal.main_arg5)
          ∧ r.2.mem ((c.tc : Thread Cert.PostEvenNextIdeal.nD Cert.PostEvenNextIdeal.τ).loc Cert.PostEvenNextIdeal.main_arg6) = m ((c.tc : Thread Cert.PostEvenNextIdeal.nD Cert.PostEvenNextIdeal.τ).loc Cert.PostEvenNextIdeal.main_arg6)
          ∧ r.2.mem ((c.tc : Thread Cert.PostEvenNextIdeal.nD Cert.PostEvenNextIdeal.τ).loc Cert.PostEvenNextIdeal.main_arg7) = m ((c.tc : Thread Cert.PostEvenNextIdeal.nD Cert.PostEvenNextIdeal.τ).loc Cert.PostEvenNextIdeal.main_arg7)
          ∧ r.2.mem ((c.tc : Thread Cert.PostEvenNextIdeal.nD Cert.PostEvenNextIdeal.τ).loc Cert.PostEvenNextIdeal.main_arg8) = m ((c.tc : Thread Cert.PostEvenNextIdeal.nD Cert.PostEvenNextIdeal.τ).loc Cert.PostEvenNextIdeal.main_arg8)
          ∧ r.2.mem ((c.tc : Thread Cert.PostEvenNextIdeal.nD Cert.PostEvenNextIdeal.τ).loc Cert.PostEvenNextIdeal.main_arg9) = m ((c.tc : Thread Cert.PostEvenNextIdeal.nD Cert.PostEvenNextIdeal.τ).loc Cert.PostEvenNextIdeal.main_arg9)
          ∧ r.2.mem ((c.tc : Thread Cert.PostEvenNextIdeal.nD Cert.PostEvenNextIdeal.τ).loc Cert.PostEvenNextIdeal.main_arg10) = m ((c.tc : Thread Cert.PostEvenNextIdeal.nD Cert.PostEvenNextIdeal.τ).loc Cert.PostEvenNextIdeal.main_arg10)
          ∧ r.2.mem ((c.tc : Thread Cert.PostEvenNextIdeal.nD Cert.PostEvenNextIdeal.τ).loc Cert.PostEvenNextIdeal.main_arg11) = m ((c.tc : Thread Cert.PostEvenNextIdeal.nD Cert.PostEvenNextIdeal.τ).loc Cert.PostEvenNextIdeal.main_arg11)
          ∧ r.2.mem ((c.tc : Thread Cert.PostEvenNextIdeal.nD Cert.PostEvenNextIdeal.τ).loc Cert.PostEvenNextIdeal.main_arg12) = m ((c.tc : Thread Cert.PostEvenNextIdeal.nD Cert.PostEvenNextIdeal.τ).loc Cert.PostEvenNextIdeal.main_arg12))
      ∧ θ_run (Cert.PostEvenNextReferenceIdeal.defs (F := Ideal)) (onTc (τ := Cert.PostEvenNextReferenceIdeal.τ) (Cert.PostEvenNextReferenceIdeal.main (F := Ideal))) ⟨m', fun _ => 0, g'⟩ (fun r => ∀ c : Dev Cert.PostEvenNextReferenceIdeal.nD,
          r.2.mem ((c.tc : Thread Cert.PostEvenNextReferenceIdeal.nD Cert.PostEvenNextReferenceIdeal.τ).loc Cert.PostEvenNextReferenceIdeal.main_v75) = v0 c
          ∧ r.2.mem ((c.tc : Thread Cert.PostEvenNextReferenceIdeal.nD Cert.PostEvenNextReferenceIdeal.τ).loc Cert.PostEvenNextReferenceIdeal.main_arg0) = m' ((c.tc : Thread Cert.PostEvenNextReferenceIdeal.nD Cert.PostEvenNextReferenceIdeal.τ).loc Cert.PostEvenNextReferenceIdeal.main_arg0)
          ∧ r.2.mem ((c.tc : Thread Cert.PostEvenNextReferenceIdeal.nD Cert.PostEvenNextReferenceIdeal.τ).loc Cert.PostEvenNextReferenceIdeal.main_arg1) = m' ((c.tc : Thread Cert.PostEvenNextReferenceIdeal.nD Cert.PostEvenNextReferenceIdeal.τ).loc Cert.PostEvenNextReferenceIdeal.main_arg1)
          ∧ r.2.mem ((c.tc : Thread Cert.PostEvenNextReferenceIdeal.nD Cert.PostEvenNextReferenceIdeal.τ).loc Cert.PostEvenNextReferenceIdeal.main_arg2) = m' ((c.tc : Thread Cert.PostEvenNextReferenceIdeal.nD Cert.PostEvenNextReferenceIdeal.τ).loc Cert.PostEvenNextReferenceIdeal.main_arg2)
          ∧ r.2.mem ((c.tc : Thread Cert.PostEvenNextReferenceIdeal.nD Cert.PostEvenNextReferenceIdeal.τ).loc Cert.PostEvenNextReferenceIdeal.main_arg3) = m' ((c.tc : Thread Cert.PostEvenNextReferenceIdeal.nD Cert.PostEvenNextReferenceIdeal.τ).loc Cert.PostEvenNextReferenceIdeal.main_arg3)
          ∧ r.2.mem ((c.tc : Thread Cert.PostEvenNextReferenceIdeal.nD Cert.PostEvenNextReferenceIdeal.τ).loc Cert.PostEvenNextReferenceIdeal.main_arg4) = m' ((c.tc : Thread Cert.PostEvenNextReferenceIdeal.nD Cert.PostEvenNextReferenceIdeal.τ).loc Cert.PostEvenNextReferenceIdeal.main_arg4)
          ∧ r.2.mem ((c.tc : Thread Cert.PostEvenNextReferenceIdeal.nD Cert.PostEvenNextReferenceIdeal.τ).loc Cert.PostEvenNextReferenceIdeal.main_arg5) = m' ((c.tc : Thread Cert.PostEvenNextReferenceIdeal.nD Cert.PostEvenNextReferenceIdeal.τ).loc Cert.PostEvenNextReferenceIdeal.main_arg5)
          ∧ r.2.mem ((c.tc : Thread Cert.PostEvenNextReferenceIdeal.nD Cert.PostEvenNextReferenceIdeal.τ).loc Cert.PostEvenNextReferenceIdeal.main_arg6) = m' ((c.tc : Thread Cert.PostEvenNextReferenceIdeal.nD Cert.PostEvenNextReferenceIdeal.τ).loc Cert.PostEvenNextReferenceIdeal.main_arg6)
          ∧ r.2.mem ((c.tc : Thread Cert.PostEvenNextReferenceIdeal.nD Cert.PostEvenNextReferenceIdeal.τ).loc Cert.PostEvenNextReferenceIdeal.main_arg7) = m' ((c.tc : Thread Cert.PostEvenNextReferenceIdeal.nD Cert.PostEvenNextReferenceIdeal.τ).loc Cert.PostEvenNextReferenceIdeal.main_arg7)
          ∧ r.2.mem ((c.tc : Thread Cert.PostEvenNextReferenceIdeal.nD Cert.PostEvenNextReferenceIdeal.τ).loc Cert.PostEvenNextReferenceIdeal.main_arg8) = m' ((c.tc : Thread Cert.PostEvenNextReferenceIdeal.nD Cert.PostEvenNextReferenceIdeal.τ).loc Cert.PostEvenNextReferenceIdeal.main_arg8)
          ∧ r.2.mem ((c.tc : Thread Cert.PostEvenNextReferenceIdeal.nD Cert.PostEvenNextReferenceIdeal.τ).loc Cert.PostEvenNextReferenceIdeal.main_arg9) = m' ((c.tc : Thread Cert.PostEvenNextReferenceIdeal.nD Cert.PostEvenNextReferenceIdeal.τ).loc Cert.PostEvenNextReferenceIdeal.main_arg9)
          ∧ r.2.mem ((c.tc : Thread Cert.PostEvenNextReferenceIdeal.nD Cert.PostEvenNextReferenceIdeal.τ).loc Cert.PostEvenNextReferenceIdeal.main_arg10) = m' ((c.tc : Thread Cert.PostEvenNextReferenceIdeal.nD Cert.PostEvenNextReferenceIdeal.τ).loc Cert.PostEvenNextReferenceIdeal.main_arg10)
          ∧ r.2.mem ((c.tc : Thread Cert.PostEvenNextReferenceIdeal.nD Cert.PostEvenNextReferenceIdeal.τ).loc Cert.PostEvenNextReferenceIdeal.main_arg11) = m' ((c.tc : Thread Cert.PostEvenNextReferenceIdeal.nD Cert.PostEvenNextReferenceIdeal.τ).loc Cert.PostEvenNextReferenceIdeal.main_arg11)
          ∧ r.2.mem ((c.tc : Thread Cert.PostEvenNextReferenceIdeal.nD Cert.PostEvenNextReferenceIdeal.τ).loc Cert.PostEvenNextReferenceIdeal.main_arg12) = m' ((c.tc : Thread Cert.PostEvenNextReferenceIdeal.nD Cert.PostEvenNextReferenceIdeal.τ).loc Cert.PostEvenNextReferenceIdeal.main_arg12))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hPostEven : Cert.PostEven.Facts) (hPostEvenIdeal : Cert.PostEvenIdeal.Facts) (hPostEvenReferenceIdeal : Cert.PostEvenReferenceIdeal.Facts) (hPostLast : Cert.PostLast.Facts) (hPostLastIdeal : Cert.PostLastIdeal.Facts) (hPostLastReferenceIdeal : Cert.PostLastReferenceIdeal.Facts) (hPostEvenNext : Cert.PostEvenNext.Facts) (hPostEvenNextIdeal : Cert.PostEvenNextIdeal.Facts) (hPostEvenNextReferenceIdeal : Cert.PostEvenNextReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Post (hPost := hPost)
    ∧ quiescent_PostIdeal (hPostIdeal := hPostIdeal)
    ∧ quiescent_PostReferenceIdeal (hPostReferenceIdeal := hPostReferenceIdeal)
    ∧ quiescent_PostEven (hPostEven := hPostEven)
    ∧ quiescent_PostEvenIdeal (hPostEvenIdeal := hPostEvenIdeal)
    ∧ quiescent_PostEvenReferenceIdeal (hPostEvenReferenceIdeal := hPostEvenReferenceIdeal)
    ∧ quiescent_PostLast (hPostLast := hPostLast)
    ∧ quiescent_PostLastIdeal (hPostLastIdeal := hPostLastIdeal)
    ∧ quiescent_PostLastReferenceIdeal (hPostLastReferenceIdeal := hPostLastReferenceIdeal)
    ∧ quiescent_PostEvenNext (hPostEvenNext := hPostEvenNext)
    ∧ quiescent_PostEvenNextIdeal (hPostEvenNextIdeal := hPostEvenNextIdeal)
    ∧ quiescent_PostEvenNextReferenceIdeal (hPostEvenNextReferenceIdeal := hPostEvenNextReferenceIdeal)
    ∧ preserves_Kernel_KernelIdeal
    ∧ preserves_Post_PostIdeal
    ∧ algebraic_PostIdeal_PostReferenceIdeal (hPostIdeal := hPostIdeal) (hPostReferenceIdeal := hPostReferenceIdeal)
    ∧ preserves_PostEven_PostEvenIdeal
    ∧ algebraic_PostEvenIdeal_PostEvenReferenceIdeal (hPostEvenIdeal := hPostEvenIdeal) (hPostEvenReferenceIdeal := hPostEvenReferenceIdeal)
    ∧ preserves_PostLast_PostLastIdeal
    ∧ algebraic_PostLastIdeal_PostLastReferenceIdeal (hPostLastIdeal := hPostLastIdeal) (hPostLastReferenceIdeal := hPostLastReferenceIdeal)
    ∧ preserves_PostEvenNext_PostEvenNextIdeal
    ∧ algebraic_PostEvenNextIdeal_PostEvenNextReferenceIdeal (hPostEvenNextIdeal := hPostEvenNextIdeal) (hPostEvenNextReferenceIdeal := hPostEvenNextReferenceIdeal)
-- ==== Kernel.lean ====
abbrev S8x4096x512 : Shape := ⟨3, ![8, 4096, 512]⟩
abbrev S8x255x2x64 : Shape := ⟨4, ![8, 255, 2, 64]⟩
abbrev S8x4096x128 : Shape := ⟨3, ![8, 4096, 128]⟩
abbrev S8x4096x24 : Shape := ⟨3, ![8, 4096, 24]⟩
abbrev S24 : Shape := ⟨1, ![24]⟩
abbrev S4096x128 : Shape := ⟨2, ![4096, 128]⟩
abbrev S_ : Shape := ⟨0, ![]⟩
abbrev S8x4096x8x64 : Shape := ⟨4, ![8, 4096, 8, 64]⟩
abbrev S8x4096x8x128 : Shape := ⟨4, ![8, 4096, 8, 128]⟩
abbrev S8x8x4096x128 : Shape := ⟨4, ![8, 8, 4096, 128]⟩
abbrev S8x4096x2x64 : Shape := ⟨4, ![8, 4096, 2, 64]⟩
abbrev S8x4096x2x128 : Shape := ⟨4, ![8, 4096, 2, 128]⟩
abbrev S8x2x4096x128 : Shape := ⟨4, ![8, 2, 4096, 128]⟩
abbrev S1x1x4096x128 : Shape := ⟨4, ![1, 1, 4096, 128]⟩
abbrev S8x2x255x64 : Shape := ⟨4, ![8, 2, 255, 64]⟩
abbrev S8x4x255x64 : Shape := ⟨4, ![8, 4, 255, 64]⟩
abbrev S8x4x256x128 : Shape := ⟨4, ![8, 4, 256, 128]⟩
abbrev S256 : Shape := ⟨1, ![256]⟩
abbrev S1x256 : Shape := ⟨2, ![1, 256]⟩
abbrev S64 : Shape := ⟨1, ![64]⟩
abbrev S64x1 : Shape := ⟨2, ![64, 1]⟩
abbrev S64x256 : Shape := ⟨2, ![64, 256]⟩
abbrev S1x128 : Shape := ⟨2, ![1, 128]⟩
abbrev S1 : Shape := ⟨1, ![1]⟩
abbrev S2 : Shape := ⟨1, ![2]⟩
abbrev S8x4096x1024 : Shape := ⟨3, ![8, 4096, 1024]⟩
abbrev S1x8x256x128 : Shape := ⟨4, ![1, 8, 256, 128]⟩
abbrev S1x8x4096x128 : Shape := ⟨4, ![1, 8, 4096, 128]⟩
abbrev S1x4x256x128 : Shape := ⟨4, ![1, 4, 256, 128]⟩
abbrev S1x256x128 : Shape := ⟨3, ![1, 256, 128]⟩
abbrev S1x256x1024 : Shape := ⟨3, ![1, 256, 1024]⟩
abbrev S2048x128 : Shape := ⟨2, ![2048, 128]⟩
abbrev S256x1 : Shape := ⟨2, ![256, 1]⟩
abbrev S256x128 : Shape := ⟨2, ![256, 128]⟩
abbrev S256x256 : Shape := ⟨2, ![256, 256]⟩
abbrev S1x256x256 : Shape := ⟨3, ![1, 256, 256]⟩
abbrev S1x768 : Shape := ⟨2, ![1, 768]⟩
abbrev S256x768 : Shape := ⟨2, ![256, 768]⟩
abbrev S1x256x768 : Shape := ⟨3, ![1, 256, 768]⟩
abbrev S4x256x128 : Shape := ⟨3, ![4, 256, 128]⟩
abbrev S1024x128 : Shape := ⟨2, ![1024, 128]⟩
abbrev S1x1x256x128 : Shape := ⟨4, ![1, 1, 256, 128]⟩
abbrev S1024x256 : Shape := ⟨2, ![1024, 256]⟩
abbrev S4x256x256 : Shape := ⟨3, ![4, 256, 256]⟩
abbrev S4x256 : Shape := ⟨2, ![4, 256]⟩
abbrev S4x256x1 : Shape := ⟨3, ![4, 256, 1]⟩
abbrev S1x1x768x128 : Shape := ⟨4, ![1, 1, 768, 128]⟩
abbrev S768x128 : Shape := ⟨2, ![768, 128]⟩
abbrev S1024x768 : Shape := ⟨2, ![1024, 768]⟩
abbrev S4x256x768 : Shape := ⟨3, ![4, 256, 768]⟩
abbrev S128x256 : Shape := ⟨2, ![128, 256]⟩
abbrev S1x1x512x128 : Shape := ⟨4, ![1, 1, 512, 128]⟩
abbrev S512x128 : Shape := ⟨2, ![512, 128]⟩
abbrev S1024x512 : Shape := ⟨2, ![1024, 512]⟩
abbrev S4x256x512 : Shape := ⟨3, ![4, 256, 512]⟩
abbrev S1024x1 : Shape := ⟨2, ![1024, 1]⟩
abbrev S1x512 : Shape := ⟨2, ![1, 512]⟩
abbrev S256x512 : Shape := ⟨2, ![256, 512]⟩
abbrev S1x256x512 : Shape := ⟨3, ![1, 256, 512]⟩

abbrev nBuf : Space → Nat
  | .hbm => 107
  | .vmem => 15
  | .smem => 0
  | _ => 0

abbrev bufTy : (tb : Table) → Fin (tcTables nBuf tb) → BufTy
  | .hbm, ⟨0, _⟩ => ⟨S8x4096x512, .f32⟩
  | .hbm, ⟨1, _⟩ => ⟨S8x255x2x64, .f32⟩
  | .hbm, ⟨2, _⟩ => ⟨S8x255x2x64, .f32⟩
  | .hbm, ⟨3, _⟩ => ⟨S8x4096x128, .f32⟩
  | .hbm, ⟨4, _⟩ => ⟨S8x4096x128, .f32⟩
  | .hbm, ⟨5, _⟩ => ⟨S8x4096x128, .f32⟩
  | .hbm, ⟨6, _⟩ => ⟨S8x4096x128, .f32⟩
  | .hbm, ⟨7, _⟩ => ⟨S8x4096x24, .f32⟩
  | .hbm, ⟨8, _⟩ => ⟨S24, .f32⟩
  | .hbm, ⟨9, _⟩ => ⟨S4096x128, .i32⟩
  | .hbm, ⟨10, _⟩ => ⟨S4096x128, .i32⟩
  | .hbm, ⟨11, _⟩ => ⟨S_, .i32⟩
  | .hbm, ⟨12, _⟩ => ⟨S4096x128, .i32⟩
  | .hbm, ⟨13, _⟩ => ⟨S4096x128, .i32⟩
  | .hbm, ⟨14, _⟩ => ⟨S_, .i32⟩
  | .hbm, ⟨15, _⟩ => ⟨S4096x128, .i32⟩
  | .hbm, ⟨16, _⟩ => ⟨S4096x128, .i32⟩
  | .hbm, ⟨17, _⟩ => ⟨S4096x128, .i1⟩
  | .hbm, ⟨18, _⟩ => ⟨S4096x128, .f32⟩
  | .hbm, ⟨19, _⟩ => ⟨S8x4096x8x64, .f32⟩
  | .hbm, ⟨20, _⟩ => ⟨S_, .i32⟩
  | .hbm, ⟨21, _⟩ => ⟨S_, .f32⟩
  | .hbm, ⟨22, _⟩ => ⟨S8x4096x8x128, .f32⟩
  | .hbm, ⟨23, _⟩ => ⟨S8x8x4096x128, .f32⟩
  | .hbm, ⟨24, _⟩ => ⟨S8x8x4096x128, .bf16⟩
  | .hbm, ⟨25, _⟩ => ⟨S8x4096x2x64, .f32⟩
  | .hbm, ⟨26, _⟩ => ⟨S_, .i32⟩
  | .hbm, ⟨27, _⟩ => ⟨S_, .f32⟩
  | .hbm, ⟨28, _⟩ => ⟨S8x4096x2x128, .f32⟩
  | .hbm, ⟨29, _⟩ => ⟨S8x2x4096x128, .f32⟩
  | .hbm, ⟨30, _⟩ => ⟨S1x1x4096x128, .f32⟩
  | .hbm, ⟨31, _⟩ => ⟨S8x2x4096x128, .f32⟩
  | .hbm, ⟨32, _⟩ => ⟨S8x2x4096x128, .f32⟩
  | .hbm, ⟨33, _⟩ => ⟨S8x4096x2x64, .f32⟩
  | .hbm, ⟨34, _⟩ => ⟨S_, .i32⟩
  | .hbm, ⟨35, _⟩ => ⟨S_, .f32⟩
  | .hbm, ⟨36, _⟩ => ⟨S8x4096x2x128, .f32⟩
  | .hbm, ⟨37, _⟩ => ⟨S8x2x4096x128, .f32⟩
  | .hbm, ⟨38, _⟩ => ⟨S8x4096x2x64, .f32⟩
  | .hbm, ⟨39, _⟩ => ⟨S_, .i32⟩
  | .hbm, ⟨40, _⟩ => ⟨S_, .f32⟩
  | .hbm, ⟨41, _⟩ => ⟨S8x4096x2x128, .f32⟩
  | .hbm, ⟨42, _⟩ => ⟨S8x2x4096x128, .f32⟩
  | .hbm, ⟨43, _⟩ => ⟨S8x4096x2x64, .f32⟩
  | .hbm, ⟨44, _⟩ => ⟨S_, .i32⟩
  | .hbm, ⟨45, _⟩ => ⟨S_, .f32⟩
  | .hbm, ⟨46, _⟩ => ⟨S8x4096x2x128, .f32⟩
  | .hbm, ⟨47, _⟩ => ⟨S8x2x4096x128, .f32⟩
  | .hbm, ⟨48, _⟩ => ⟨S8x8x4096x128, .f32⟩
  | .hbm, ⟨49, _⟩ => ⟨S8x8x4096x128, .bf16⟩
  | .hbm, ⟨50, _⟩ => ⟨S8x2x255x64, .f32⟩
  | .hbm, ⟨51, _⟩ => ⟨S8x2x255x64, .f32⟩
  | .hbm, ⟨52, _⟩ => ⟨S8x4x255x64, .f32⟩
  | .hbm, ⟨53, _⟩ => ⟨S_, .i32⟩
  | .hbm, ⟨54, _⟩ => ⟨S_, .f32⟩
  | .hbm, ⟨55, _⟩ => ⟨S8x4x256x128, .f32⟩
  | .hbm, ⟨56, _⟩ => ⟨S_, .i32⟩
  | .hbm, ⟨57, _⟩ => ⟨S_, .f32⟩
  | .hbm, ⟨58, _⟩ => ⟨S8x4096x128, .f32⟩
  | .hbm, ⟨59, _⟩ => ⟨S256, .i32⟩
  | .hbm, ⟨60, _⟩ => ⟨S1x256, .i32⟩
  | .hbm, ⟨61, _⟩ => ⟨S64, .i32⟩
  | .hbm, ⟨62, _⟩ => ⟨S64x1, .i32⟩
  | .hbm, ⟨63, _⟩ => ⟨S_, .i32⟩
  | .hbm, ⟨64, _⟩ => ⟨S1x256, .i32⟩
  | .hbm, ⟨65, _⟩ => ⟨S1x256, .i32⟩
  | .hbm, ⟨66, _⟩ => ⟨S_, .i32⟩
  | .hbm, ⟨67, _⟩ => ⟨S64x1, .i32⟩
  | .hbm, ⟨68, _⟩ => ⟨S64x1, .i32⟩
  | .hbm, ⟨69, _⟩ => ⟨S_, .i32⟩
  | .hbm, ⟨70, _⟩ => ⟨S64x1, .i32⟩
  | .hbm, ⟨71, _⟩ => ⟨S64x1, .i32⟩
  | .hbm, ⟨72, _⟩ => ⟨S64x256, .i32⟩
  | .hbm, ⟨73, _⟩ => ⟨S64x256, .i32⟩
  | .hbm, ⟨74, _⟩ => ⟨S64x256, .i1⟩
  | .hbm, ⟨75, _⟩ => ⟨S_, .i32⟩
  | .hbm, ⟨76, _⟩ => ⟨S1x256, .i32⟩
  | .hbm, ⟨77, _⟩ => ⟨S1x256, .i32⟩
  | .hbm, ⟨78, _⟩ => ⟨S_, .i32⟩
  | .hbm, ⟨79, _⟩ => ⟨S1x256, .i32⟩
  | .hbm, ⟨80, _⟩ => ⟨S1x256, .i32⟩
  | .hbm, ⟨81, _⟩ => ⟨S_, .i32⟩
  | .hbm, ⟨82, _⟩ => ⟨S64x1, .i32⟩
  | .hbm, ⟨83, _⟩ => ⟨S64x1, .i32⟩
  | .hbm, ⟨84, _⟩ => ⟨S64x256, .i32⟩
  | .hbm, ⟨85, _⟩ => ⟨S64x256, .i32⟩
  | .hbm, ⟨86, _⟩ => ⟨S64x256, .i1⟩
  | .hbm, ⟨87, _⟩ => ⟨S64x256, .i1⟩
  | .hbm, ⟨88, _⟩ => ⟨S_, .i32⟩
  | .hbm, ⟨89, _⟩ => ⟨S1x256, .i32⟩
  | .hbm, ⟨90, _⟩ => ⟨S1x256, .i1⟩
  | .hbm, ⟨91, _⟩ => ⟨S64x256, .i1⟩
  | .hbm, ⟨92, _⟩ => ⟨S64x256, .i1⟩
  | .hbm, ⟨93, _⟩ => ⟨S64x256, .f32⟩
  | .hbm, ⟨94, _⟩ => ⟨S_, .f32⟩
  | .hbm, ⟨95, _⟩ => ⟨S1x128, .f32⟩
  | .hbm, ⟨96, _⟩ => ⟨S_, .i32⟩
  | .hbm, ⟨97, _⟩ => ⟨S1, .i32⟩
  | .hbm, ⟨98, _⟩ => ⟨S_, .i32⟩
  | .hbm, ⟨99, _⟩ => ⟨S1, .i32⟩
  | .hbm, ⟨100, _⟩ => ⟨S2, .i32⟩
  | .hbm, ⟨101, _⟩ => ⟨S1x128, .f32⟩
  | .hbm, ⟨102, _⟩ => ⟨S8x4096x1024, .bf16⟩
  | .hbm, ⟨103, _⟩ => ⟨S8x4096x8x128, .bf16⟩
  | .hbm, ⟨104, _⟩ => ⟨S8x4096x8x64, .bf16⟩
  | .hbm, ⟨105, _⟩ => ⟨S8x4096x512, .bf16⟩
  | .hbm, ⟨106, _⟩ => ⟨S8x4096x512, .f32⟩
  | .local _ .vmem, ⟨0, _⟩ => ⟨S1x8x256x128, .bf16⟩
  | .local _ .vmem, ⟨1, _⟩ => ⟨S1x8x256x128, .bf16⟩
  | .local _ .vmem, ⟨2, _⟩ => ⟨S1x8x4096x128, .bf16⟩
  | .local _ .vmem, ⟨3, _⟩ => ⟨S1x8x4096x128, .bf16⟩
  | .local _ .vmem, ⟨4, _⟩ => ⟨S1x4x256x128, .f32⟩
  | .local _ .vmem, ⟨5, _⟩ => ⟨S1x4x256x128, .f32⟩
  | .local _ .vmem, ⟨6, _⟩ => ⟨S1x256x128, .f32⟩
  | .local _ .vmem, ⟨7, _⟩ => ⟨S1x256x128, .f32⟩
  | .local _ .vmem, ⟨8, _⟩ => ⟨S1x128, .f32⟩
  | .local _ .vmem, ⟨9, _⟩ => ⟨S64x256, .f32⟩
  | .local _ .vmem, ⟨10, _⟩ => ⟨S1x256x1024, .bf16⟩
  | .local _ .vmem, ⟨11, _⟩ => ⟨S1x256x1024, .bf16⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_call1_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_call2_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_call3_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_call4_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_call5_v0 : Ref sig .tc := ⟨.hbm, 54, rfl⟩
abbrev main_v32 : Ref sig .tc := ⟨.hbm, 55, rfl⟩
abbrev main_c_7 : Ref sig .tc := ⟨.hbm, 56, rfl⟩
abbrev main_call6_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_c_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst : Ref sig .tc := ⟨.hbm, 94, rfl⟩
abbrev main_v62 : Ref sig .tc := ⟨.hbm, 95, rfl⟩
abbrev main_c_15 : Ref sig .tc := ⟨.hbm, 96, rfl⟩
abbrev main_v63 : Ref sig .tc := ⟨.hbm, 97, rfl⟩
abbrev main_c_16 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c256_i32_14 : BitVec 32 := 256#32
  let v67 : BitVec 32 := Scalar.addi v0 c256_i32_14
  let c768_i32 : BitVec 32 := 768#32
  let v68 : BitVec 32 := Scalar.subi v67 c768_i32
  let c0_i32_15 : BitVec 32 := 0#32
  let v69 : BitVec 32 := Scalar.maxsi v68 c0_i32_15
  v69
def k0_off1 (i : grid0.Coords) : Fin 4 → Nat :=
  let c0_37 : Index := 0#32
  let c4 : Index := 4#32
  let arg1 : BitVec 32 := BitVec.ofNat 32 (i 1).val
  let c256_i32 : BitVec 32 := 256#32
  let v0 : BitVec 32 := Scalar.muli arg1 c256_i32
  let c256_i32_14 : BitVec 32 := 256#32
  let v67 : BitVec 32 := Scalar.addi v0 c256_i32_14
  let c768_i32 : BitVec 32 := 768#32
  let v68 : BitVec 32 := Scalar.subi v67 c768_i32
  let c0_i32_15 : BitVec 32 := 0#32
  let v69 : BitVec 32 := Scalar.maxsi v68 c0_i32_15
  let v70 : BitVec 32 := v69
  let v120 : Index := Scalar.indexCast v70
  let c0_38 : Index := 0#32
  ![0, 4, v120.toNat, 0]
def k0_off2 (i : grid0.Coords) : Fin 4 → Nat :=
  let c0_39 : Index := 0#32
  let c6 : Index := 6#32
  let arg1 : BitVec 32 := BitVec.ofNat 32 (i 1).val
  let c256_i32 : BitVec 32 := 256#32
  let v0 : BitVec 32 := Scalar.muli arg1 c256_i32
  let c256_i32_14 : BitVec 32 := 256#32
  let v67 : BitVec 32 := Scalar.addi v0 c256_i32_14
  let c768_i32 : BitVec 32 := 768#32
  let v68 : BitVec 32 := Scalar.subi v67 c768_i32
  let c0_i32_15 : BitVec 32 := 0#32
  let v69 : BitVec 32 := Scalar.maxsi v68 c0_i32_15
  let v70 : BitVec 32 := v69
  let v123 : Index := Scalar.indexCast v70
  let c0_40 : Index := 0#32
  ![0, 6, v123.toNat, 0]
def k0_off3 (i : grid0.Coords) : Fin 4 → Nat :=
  let c0_241 : Index := 0#32
  let c5 : Index := 5#32
  let arg1 : BitVec 32 := BitVec.ofNat 32 (i 1).val
  let c256_i32 : BitVec 32 := 256#32
  let v0 : BitVec 32 := Scalar.muli arg1 c256_i32
  let c256_i32_14 : BitVec 32 := 256#32
  let v67 : BitVec 32 := Scalar.addi v0 c256_i32_14
  let c768_i32 : BitVec 32 := 768#32
  let v68 : BitVec 32 := Scalar.subi v67 c768_i32
  let c0_i32_15 : BitVec 32 := 0#32
  let v69 : BitVec 32 := Scalar.maxsi v68 c0_i32_15
  let v70 : BitVec 32 := v69
  let v1181 : Index := Scalar.indexCast v70
  let c0_242 : Index := 0#32
  ![0, 5, v1181.toNat, 0]
def k0_off4 (i : grid0.Coords) : Fin 4 → Nat :=
  let c0_243 : Index := 0#32
  let c7 : Index := 7#32
  let arg1 : BitVec 32 := BitVec.ofNat 32 (i 1).val
  let c256_i32 : BitVec 32 := 256#32
  let v0 : BitVec 32 := Scalar.muli arg1 c256_i32
  let c256_i32_14 : BitVec 32 := 256#32
  let v67 : BitVec 32 := Scalar.addi v0 c256_i32_14
  let c768_i32 : BitVec 32 := 768#32
  let v68 : BitVec 32 := Scalar.subi v67 c768_i32
  let c0_i32_15 : BitVec 32 := 0#32
  let v69 : BitVec 32 := Scalar.maxsi v68 c0_i32_15
  let v70 : BitVec 32 := v69
  let v1184 : Index := Scalar.indexCast v70
  let c0_244 : Index := 0#32
  ![0, 7, v1184.toNat, 0]
@[reducible] def k0_t1_loop (i : grid0.Coords) : Scf.Loop 32 :=
  let c0_i32_501 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c0_i32_495 : BitVec 32 := 0#32
  let v2219 : BitVec 1 := Scalar.cmpi .sgt v2217 c0_i32_495
  let v2220 : BitVec 32 := Scalar.extui v2219
  let c0_i32_496 : BitVec 32 := 0#32
  let v2221 : BitVec 1 := Scalar.cmpi .slt v2217 c0_i32_496
  let v2222 : BitVec 32 := Scalar.extui v2221
  let v2223 : BitVec 32 := Scalar.subi v2220 v2222
  let c2_i32_494 : BitVec 32 := 2#32
  let c0_i32_497 : BitVec 32 := 0#32
  let v2224 : BitVec 1 := Scalar.cmpi .sgt c2_i32_494 c0_i32_497
  let v2225 : BitVec 32 := Scalar.extui v2224
  let c0_i32_498 : BitVec 32 := 0#32
  let v2226 : BitVec 1 := Scalar.cmpi .slt c2_i32_494 c0_i32_498
  let v2227 : BitVec 32 := Scalar.extui v2226
  let v2228 : BitVec 32 := Scalar.subi v2225 v2227
  let v2229 : BitVec 1 := Scalar.cmpi .ne v2223 v2228
  let v2230 : BitVec 32 := Scalar.remsi v2217 c2_i32_494
  let c0_i32_499 : BitVec 32 := 0#32
  let v2231 : BitVec 1 := Scalar.cmpi .ne v2230 c0_i32_499
  let v2232 : BitVec 1 := Scalar.andi v2229 v2231
  let v2218 : BitVec 32 := Scalar.divsi v2217 c2_i32_494
  let c1_i32_500 : BitVec 32 := 1#32
  let v2233 : BitVec 32 := Scalar.subi v2218 c1_i32_500
  let v2234 : BitVec 32 := Scalar.select v2232 v2233 v2218
  let v2235 : BitVec 32 := Scalar.subi v2234 c0_i32_501
  let c1_i32_502 : BitVec 32 := 1#32
  let v2237 : BitVec 32 := Scalar.divsi v2235 c1_i32_502
  let v2238 : BitVec 32 := Scalar.muli v2237 c1_i32_502
  let v2239 : BitVec 32 := Scalar.addi c0_i32_501 v2238
  let c1_i32_503 : BitVec 32 := 1#32
  ⟨c0_i32_501, v2239, c1_i32_503⟩
def k0_mult2 (i : grid0.Coords) (k0_t1 : Fin (k0_t1_loop i).trips) : BitVec 32 :=
  let c2_i32_580 : BitVec 32 := 2#32
  let c0_i32_501 : BitVec 32 := 0#32
  let c1_i32_503 : BitVec 32 := 1#32
  let arg12 : BitVec 32 := Scf.iv c0_i32_501 c1_i32_503 k0_t1
  let v2438 : BitVec 32 := Scalar.muli c2_i32_580 arg12
  let c512_i32_581 : BitVec 32 := 512#32
  let v2439 : BitVec 32 := Scalar.muli v2438 c512_i32_581
  v2439
def k0_off5 (i : grid0.Coords) (k0_t1 : Fin (k0_t1_loop i).trips) : Fin 4 → Nat :=
  let c0_582 : Index := 0#32
  let c0_583 : Index := 0#32
  let c2_i32_580 : BitVec 32 := 2#32
  let c0_i32_501 : BitVec 32 := 0#32
  let c1_i32_503 : BitVec 32 := 1#32
  let arg12 : BitVec 32 := Scf.iv c0_i32_501 c1_i32_503 k0_t1
  let v2438 : BitVec 32 := Scalar.muli c2_i32_580 arg12
  let c512_i32_581 : BitVec 32 := 512#32
  let v2439 : BitVec 32 := Scalar.muli v2438 c512_i32_581
  let v2440 : BitVec 32 := v2439
  let v2441 : Index := Scalar.indexCast v2440
  let c0_584 : Index := 0#32
  ![0, 0, v2441.toNat, 0]
def k0_off6 (i : grid0.Coords) (k0_t1 : Fin (k0_t1_loop i).trips) : Fin 4 → Nat :=
  let c0_585 : Index := 0#32
  let c2_586 : Index := 2#32
  let c2_i32_580 : BitVec 32 := 2#32
  let c0_i32_501 : BitVec 32 := 0#32
  let c1_i32_503 : BitVec 32 := 1#32
  let arg12 : BitVec 32 := Scf.iv c0_i32_501 c1_i32_503 k0_t1
  let v2438 : BitVec 32 := Scalar.muli c2_i32_580 arg12
  let c512_i32_581 : BitVec 32 := 512#32
  let v2439 : BitVec 32 := Scalar.muli v2438 c512_i32_581
  let v2440 : BitVec 32 := v2439
  let v2444 : Index := Scalar.indexCast v2440
  let c0_587 : Index := 0#32
  ![0, 2, v2444.toNat, 0]
def k0_off7 (i : grid0.Coords) (k0_t1 : Fin (k0_t1_loop i).trips) : Fin 4 → Nat :=
  let c0_598 : Index := 0#32
  let c1_599 : Index := 1#32
  let c2_i32_580 : BitVec 32 := 2#32
  let c0_i32_501 : BitVec 32 := 0#32
  let c1_i32_503 : BitVec 32 := 1#32
  let arg12 : BitVec 32 := Scf.iv c0_i32_501 c1_i32_503 k0_t1
  let v2438 : BitVec 32 := Scalar.muli c2_i32_580 arg12
  let c512_i32_581 : BitVec 32 := 512#32
  let v2439 : BitVec 32 := Scalar.muli v2438 c512_i32_581
  let v2440 : BitVec 32 := v2439
  let v2473 : Index := Scalar.indexCast v2440
  let c0_600 : Index := 0#32
  ![0, 1, v2473.toNat, 0]
def k0_off8 (i : grid0.Coords) (k0_t1 : Fin (k0_t1_loop i).trips) : Fin 4 → Nat :=
  let c0_601 : Index := 0#32
  let c3_602 : Index := 3#32
  let c2_i32_580 : BitVec 32 := 2#32
  let c0_i32_501 : BitVec 32 := 0#32
  let c1_i32_503 : BitVec 32 := 1#32
  let arg12 : BitVec 32 := Scf.iv c0_i32_501 c1_i32_503 k0_t1
  let v2438 : BitVec 32 := Scalar.muli c2_i32_580 arg12
  let c512_i32_581 : BitVec 32 := 512#32
  let v2439 : BitVec 32 := Scalar.muli v2438 c512_i32_581
  let v2440 : BitVec 32 := v2439
  let v2476 : Index := Scalar.indexCast v2440
  let c0_603 : Index := 0#32
  ![0, 3, v2476.toNat, 0]
def k0_mult3 (i : grid0.Coords) (k0_t1 : Fin (k0_t1_loop i).trips) : BitVec 32 :=
  let c2_i32_578 : BitVec 32 := 2#32
  let c0_i32_501 : BitVec 32 := 0#32
  let c1_i32_503 : BitVec 32 := 1#32
  let arg12 : BitVec 32 := Scf.iv c0_i32_501 c1_i32_503 k0_t1
  let v2436 : BitVec 32 := Scalar.muli c2_i32_578 arg12
  let c1_i32_579 : BitVec 32 := 1#32
  let v2437 : BitVec 32 := Scalar.addi v2436 c1_i32_579
  let c512_i32_614 : BitVec 32 := 512#32
  let v2505 : BitVec 32 := Scalar.muli v2437 c512_i32_614
  v2505
def k0_off9 (i : grid0.Coords) (k0_t1 : Fin (k0_t1_loop i).trips) : Fin 4 → Nat :=
  let c0_615 : Index := 0#32
  let c0_616 : Index := 0#32
  let c2_i32_578 : BitVec 32 := 2#32
  let c0_i32_501 : BitVec 32 := 0#32
  let c1_i32_503 : BitVec 32 := 1#32
  let arg12 : BitVec 32 := Scf.iv c0_i32_501 c1_i32_503 k0_t1
  let v2436 : BitVec 32 := Scalar.muli c2_i32_578 arg12
  let c1_i32_579 : BitVec 32 := 1#32
  let v2437 : BitVec 32 := Scalar.addi v2436 c1_i32_579
  let c512_i32_614 : BitVec 32 := 512#32
  let v2505 : BitVec 32 := Scalar.muli v2437 c512_i32_614
  let v2506 : BitVec 32 := v2505
  let v2507 : Index := Scalar.indexCast v2506
  let c0_617 : Index := 0#32
  ![0, 0, v2507.toNat, 0]
def k0_off10 (i : grid0.Coords) (k0_t1 : Fin (k0_t1_loop i).trips) : Fin 4 → Nat :=
  let c0_618 : Index := 0#32
  let c2_619 : Index := 2#32
  let c2_i32_578 : BitVec 32 := 2#32
  let c0_i32_501 : BitVec 32 := 0#32
  let c1_i32_503 : BitVec 32 := 1#32
  let arg12 : BitVec 32 := Scf.iv c0_i32_501 c1_i32_503 k0_t1
  let v2436 : BitVec 32 := Scalar.muli c2_i32_578 arg12
  let c1_i32_579 : BitVec 32 := 1#32
  let v2437 : BitVec 32 := Scalar.addi v2436 c1_i32_579
  let c512_i32_614 : BitVec 32 := 512#32
  let v2505 : BitVec 32 := Scalar.muli v2437 c512_i32_614
  let v2506 : BitVec 32 := v2505
  let v2510 : Index := Scalar.indexCast v2506
  let c0_620 : Index := 0#32
  ![0, 2, v2510.toNat, 0]
def k0_off11 (i : grid0.Coords) (k0_t1 : Fin (k0_t1_loop i).trips) : Fin 4 → Nat :=
  let c0_631 : Index := 0#32
  let c1_632 : Index := 1#32
  let c2_i32_578 : BitVec 32 := 2#32
  let c0_i32_501 : BitVec 32 := 0#32
  let c1_i32_503 : BitVec 32 := 1#32
  let arg12 : BitVec 32 := Scf.iv c0_i32_501 c1_i32_503 k0_t1
  let v2436 : BitVec 32 := Scalar.muli c2_i32_578 arg12
  let c1_i32_579 : BitVec 32 := 1#32
  let v2437 : BitVec 32 := Scalar.addi v2436 c1_i32_579
  let c512_i32_614 : BitVec 32 := 512#32
  let v2505 : BitVec 32 := Scalar.muli v2437 c512_i32_614
  let v2506 : BitVec 32 := v2505
  let v2539 : Index := Scalar.indexCast v2506
  let c0_633 : Index := 0#32
  ![0, 1, v2539.toNat, 0]
def k0_off12 (i : grid0.Coords) (k0_t1 : Fin (k0_t1_loop i).trips) : Fin 4 → Nat :=
  let c0_634 : Index := 0#32
  let c3_635 : Index := 3#32
  let c2_i32_578 : BitVec 32 := 2#32
  let c0_i32_501 : BitVec 32 := 0#32
  let c1_i32_503 : BitVec 32 := 1#32
  let arg12 : BitVec 32 := Scf.iv c0_i32_501 c1_i32_503 k0_t1
  let v2436 : BitVec 32 := Scalar.muli c2_i32_578 arg12
  let c1_i32_579 : BitVec 32 := 1#32
  let v2437 : BitVec 32 := Scalar.addi v2436 c1_i32_579
  let c512_i32_614 : BitVec 32 := 512#32
  let v2505 : BitVec 32 := Scalar.muli v2437 c512_i32_614
  let v2506 : BitVec 32 := v2505
  let v2542 : Index := Scalar.indexCast v2506
  let c0_636 : Index := 0#32
  ![0, 3, v2542.toNat, 0]
@[reducible] def k0_t2_loop (i : grid0.Coords) : Scf.Loop 32 :=
  let c0_i32_501 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c0_i32_495 : BitVec 32 := 0#32
  let v2219 : BitVec 1 := Scalar.cmpi .sgt v2217 c0_i32_495
  let v2220 : BitVec 32 := Scalar.extui v2219
  let c0_i32_496 : BitVec 32 := 0#32
  let v2221 : BitVec 1 := Scalar.cmpi .slt v2217 c0_i32_496
  let v2222 : BitVec 32 := Scalar.extui v2221
  let v2223 : BitVec 32 := Scalar.subi v2220 v2222
  let c2_i32_494 : BitVec 32 := 2#32
  let c0_i32_497 : BitVec 32 := 0#32
  let v2224 : BitVec 1 := Scalar.cmpi .sgt c2_i32_494 c0_i32_497
  let v2225 : BitVec 32 := Scalar.extui v2224
  let c0_i32_498 : BitVec 32 := 0#32
  let v2226 : BitVec 1 := Scalar.cmpi .slt c2_i32_494 c0_i32_498
  let v2227 : BitVec 32 := Scalar.extui v2226
  let v2228 : BitVec 32 := Scalar.subi v2225 v2227
  let v2229 : BitVec 1 := Scalar.cmpi .ne v2223 v2228
  let v2230 : BitVec 32 := Scalar.remsi v2217 c2_i32_494
  let c0_i32_499 : BitVec 32 := 0#32
  let v2231 : BitVec 1 := Scalar.cmpi .ne v2230 c0_i32_499
  let v2232 : BitVec 1 := Scalar.andi v2229 v2231
  let v2218 : BitVec 32 := Scalar.divsi v2217 c2_i32_494
  let c1_i32_500 : BitVec 32 := 1#32
  let v2233 : BitVec 32 := Scalar.subi v2218 c1_i32_500
  let v2234 : BitVec 32 := Scalar.select v2232 v2233 v2218
  let v2235 : BitVec 32 := Scalar.subi v2234 c0_i32_501
  let c1_i32_502 : BitVec 32 := 1#32
  let v2237 : BitVec 32 := Scalar.divsi v2235 c1_i32_502
  let v2238 : BitVec 32 := Scalar.muli v2237 c1_i32_502
  let v2239 : BitVec 32 := Scalar.addi c0_i32_501 v2238
  let v2236 : BitVec 32 := Scalar.addi c0_i32_501 v2235
  let c1_i32_504 : BitVec 32 := 1#32
  ⟨v2239, v2236, c1_i32_504⟩
def k0_mult4 (i : grid0.Coords) (k0_t2 : Fin (k0_t2_loop i).trips) : BitVec 32 :=
  let c2_i32_580 : BitVec 32 := 2#32
  let c0_i32_501 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c0_i32_495 : BitVec 32 := 0#32
  let v2219 : BitVec 1 := Scalar.cmpi .sgt v2217 c0_i32_495
  let v2220 : BitVec 32 := Scalar.extui v2219
  let c0_i32_496 : BitVec 32 := 0#32
  let v2221 : BitVec 1 := Scalar.cmpi .slt v2217 c0_i32_496
  let v2222 : BitVec 32 := Scalar.extui v2221
  let v2223 : BitVec 32 := Scalar.subi v2220 v2222
  let c2_i32_494 : BitVec 32 := 2#32
  let c0_i32_497 : BitVec 32 := 0#32
  let v2224 : BitVec 1 := Scalar.cmpi .sgt c2_i32_494 c0_i32_497
  let v2225 : BitVec 32 := Scalar.extui v2224
  let c0_i32_498 : BitVec 32 := 0#32
  let v2226 : BitVec 1 := Scalar.cmpi .slt c2_i32_494 c0_i32_498
  let v2227 : BitVec 32 := Scalar.extui v2226
  let v2228 : BitVec 32 := Scalar.subi v2225 v2227
  let v2229 : BitVec 1 := Scalar.cmpi .ne v2223 v2228
  let v2230 : BitVec 32 := Scalar.remsi v2217 c2_i32_494
  let c0_i32_499 : BitVec 32 := 0#32
  let v2231 : BitVec 1 := Scalar.cmpi .ne v2230 c0_i32_499
  let v2232 : BitVec 1 := Scalar.andi v2229 v2231
  let v2218 : BitVec 32 := Scalar.divsi v2217 c2_i32_494
  let c1_i32_500 : BitVec 32 := 1#32
  let v2233 : BitVec 32 := Scalar.subi v2218 c1_i32_500
  let v2234 : BitVec 32 := Scalar.select v2232 v2233 v2218
  let v2235 : BitVec 32 := Scalar.subi v2234 c0_i32_501
  let c1_i32_502 : BitVec 32 := 1#32
  let v2237 : BitVec 32 := Scalar.divsi v2235 c1_i32_502
  let v2238 : BitVec 32 := Scalar.muli v2237 c1_i32_502
  let v2239 : BitVec 32 := Scalar.addi c0_i32_501 v2238
  let c1_i32_504 : BitVec 32 := 1#32
  let arg12 : BitVec 32 := Scf.iv v2239 c1_i32_504 k0_t2
  let v2438 : BitVec 32 := Scalar.muli c2_i32_580 arg12
  let c512_i32_581 : BitVec 32 := 512#32
  let v2439 : BitVec 32 := Scalar.muli v2438 c512_i32_581
  v2439
def k0_off13 (i : grid0.Coords) (k0_t2 : Fin (k0_t2_loop i).trips) : Fin 4 → Nat :=
  let c0_582 : Index := 0#32
  let c0_583 : Index := 0#32
  let c2_i32_580 : BitVec 32 := 2#32
  let c0_i32_501 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c0_i32_495 : BitVec 32 := 0#32
  let v2219 : BitVec 1 := Scalar.cmpi .sgt v2217 c0_i32_495
  let v2220 : BitVec 32 := Scalar.extui v2219
  let c0_i32_496 : BitVec 32 := 0#32
  let v2221 : BitVec 1 := Scalar.cmpi .slt v2217 c0_i32_496
  let v2222 : BitVec 32 := Scalar.extui v2221
  let v2223 : BitVec 32 := Scalar.subi v2220 v2222
  let c2_i32_494 : BitVec 32 := 2#32
  let c0_i32_497 : BitVec 32 := 0#32
  let v2224 : BitVec 1 := Scalar.cmpi .sgt c2_i32_494 c0_i32_497
  let v2225 : BitVec 32 := Scalar.extui v2224
  let c0_i32_498 : BitVec 32 := 0#32
  let v2226 : BitVec 1 := Scalar.cmpi .slt c2_i32_494 c0_i32_498
  let v2227 : BitVec 32 := Scalar.extui v2226
  let v2228 : BitVec 32 := Scalar.subi v2225 v2227
  let v2229 : BitVec 1 := Scalar.cmpi .ne v2223 v2228
  let v2230 : BitVec 32 := Scalar.remsi v2217 c2_i32_494
  let c0_i32_499 : BitVec 32 := 0#32
  let v2231 : BitVec 1 := Scalar.cmpi .ne v2230 c0_i32_499
  let v2232 : BitVec 1 := Scalar.andi v2229 v2231
  let v2218 : BitVec 32 := Scalar.divsi v2217 c2_i32_494
  let c1_i32_500 : BitVec 32 := 1#32
  let v2233 : BitVec 32 := Scalar.subi v2218 c1_i32_500
  let v2234 : BitVec 32 := Scalar.select v2232 v2233 v2218
  let v2235 : BitVec 32 := Scalar.subi v2234 c0_i32_501
  let c1_i32_502 : BitVec 32 := 1#32
  let v2237 : BitVec 32 := Scalar.divsi v2235 c1_i32_502
  let v2238 : BitVec 32 := Scalar.muli v2237 c1_i32_502
  let v2239 : BitVec 32 := Scalar.addi c0_i32_501 v2238
  let c1_i32_504 : BitVec 32 := 1#32
  let arg12 : BitVec 32 := Scf.iv v2239 c1_i32_504 k0_t2
  let v2438 : BitVec 32 := Scalar.muli c2_i32_580 arg12
  let c512_i32_581 : BitVec 32 := 512#32
  let v2439 : BitVec 32 := Scalar.muli v2438 c512_i32_581
  let v2440 : BitVec 32 := v2439
  let v2441 : Index := Scalar.indexCast v2440
  let c0_584 : Index := 0#32
  ![0, 0, v2441.toNat, 0]
def k0_off14 (i : grid0.Coords) (k0_t2 : Fin (k0_t2_loop i).trips) : Fin 4 → Nat :=
  let c0_585 : Index := 0#32
  let c2_586 : Index := 2#32
  let c2_i32_580 : BitVec 32 := 2#32
  let c0_i32_501 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c0_i32_495 : BitVec 32 := 0#32
  let v2219 : BitVec 1 := Scalar.cmpi .sgt v2217 c0_i32_495
  let v2220 : BitVec 32 := Scalar.extui v2219
  let c0_i32_496 : BitVec 32 := 0#32
  let v2221 : BitVec 1 := Scalar.cmpi .slt v2217 c0_i32_496
  let v2222 : BitVec 32 := Scalar.extui v2221
  let v2223 : BitVec 32 := Scalar.subi v2220 v2222
  let c2_i32_494 : BitVec 32 := 2#32
  let c0_i32_497 : BitVec 32 := 0#32
  let v2224 : BitVec 1 := Scalar.cmpi .sgt c2_i32_494 c0_i32_497
  let v2225 : BitVec 32 := Scalar.extui v2224
  let c0_i32_498 : BitVec 32 := 0#32
  let v2226 : BitVec 1 := Scalar.cmpi .slt c2_i32_494 c0_i32_498
  let v2227 : BitVec 32 := Scalar.extui v2226
  let v2228 : BitVec 32 := Scalar.subi v2225 v2227
  let v2229 : BitVec 1 := Scalar.cmpi .ne v2223 v2228
  let v2230 : BitVec 32 := Scalar.remsi v2217 c2_i32_494
  let c0_i32_499 : BitVec 32 := 0#32
  let v2231 : BitVec 1 := Scalar.cmpi .ne v2230 c0_i32_499
  let v2232 : BitVec 1 := Scalar.andi v2229 v2231
  let v2218 : BitVec 32 := Scalar.divsi v2217 c2_i32_494
  let c1_i32_500 : BitVec 32 := 1#32
  let v2233 : BitVec 32 := Scalar.subi v2218 c1_i32_500
  let v2234 : BitVec 32 := Scalar.select v2232 v2233 v2218
  let v2235 : BitVec 32 := Scalar.subi v2234 c0_i32_501
  let c1_i32_502 : BitVec 32 := 1#32
  let v2237 : BitVec 32 := Scalar.divsi v2235 c1_i32_502
  let v2238 : BitVec 32 := Scalar.muli v2237 c1_i32_502
  let v2239 : BitVec 32 := Scalar.addi c0_i32_501 v2238
  let c1_i32_504 : BitVec 32 := 1#32
  let arg12 : BitVec 32 := Scf.iv v2239 c1_i32_504 k0_t2
  let v2438 : BitVec 32 := Scalar.muli c2_i32_580 arg12
  let c512_i32_581 : BitVec 32 := 512#32
  let v2439 : BitVec 32 := Scalar.muli v2438 c512_i32_581
  let v2440 : BitVec 32 := v2439
  let v2444 : Index := Scalar.indexCast v2440
  let c0_587 : Index := 0#32
  ![0, 2, v2444.toNat, 0]
def k0_off15 (i : grid0.Coords) (k0_t2 : Fin (k0_t2_loop i).trips) : Fin 4 → Nat :=
  let c0_598 : Index := 0#32
  let c1_599 : Index := 1#32
  let c2_i32_580 : BitVec 32 := 2#32
  let c0_i32_501 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c0_i32_495 : BitVec 32 := 0#32
  let v2219 : BitVec 1 := Scalar.cmpi .sgt v2217 c0_i32_495
  let v2220 : BitVec 32 := Scalar.extui v2219
  let c0_i32_496 : BitVec 32 := 0#32
  let v2221 : BitVec 1 := Scalar.cmpi .slt v2217 c0_i32_496
  let v2222 : BitVec 32 := Scalar.extui v2221
  let v2223 : BitVec 32 := Scalar.subi v2220 v2222
  let c2_i32_494 : BitVec 32 := 2#32
  let c0_i32_497 : BitVec 32 := 0#32
  let v2224 : BitVec 1 := Scalar.cmpi .sgt c2_i32_494 c0_i32_497
  let v2225 : BitVec 32 := Scalar.extui v2224
  let c0_i32_498 : BitVec 32 := 0#32
  let v2226 : BitVec 1 := Scalar.cmpi .slt c2_i32_494 c0_i32_498
  let v2227 : BitVec 32 := Scalar.extui v2226
  let v2228 : BitVec 32 := Scalar.subi v2225 v2227
  let v2229 : BitVec 1 := Scalar.cmpi .ne v2223 v2228
  let v2230 : BitVec 32 := Scalar.remsi v2217 c2_i32_494
  let c0_i32_499 : BitVec 32 := 0#32
  let v2231 : BitVec 1 := Scalar.cmpi .ne v2230 c0_i32_499
  let v2232 : BitVec 1 := Scalar.andi v2229 v2231
  let v2218 : BitVec 32 := Scalar.divsi v2217 c2_i32_494
  let c1_i32_500 : BitVec 32 := 1#32
  let v2233 : BitVec 32 := Scalar.subi v2218 c1_i32_500
  let v2234 : BitVec 32 := Scalar.select v2232 v2233 v2218
  let v2235 : BitVec 32 := Scalar.subi v2234 c0_i32_501
  let c1_i32_502 : BitVec 32 := 1#32
  let v2237 : BitVec 32 := Scalar.divsi v2235 c1_i32_502
  let v2238 : BitVec 32 := Scalar.muli v2237 c1_i32_502
  let v2239 : BitVec 32 := Scalar.addi c0_i32_501 v2238
  let c1_i32_504 : BitVec 32 := 1#32
  let arg12 : BitVec 32 := Scf.iv v2239 c1_i32_504 k0_t2
  let v2438 : BitVec 32 := Scalar.muli c2_i32_580 arg12
  let c512_i32_581 : BitVec 32 := 512#32
  let v2439 : BitVec 32 := Scalar.muli v2438 c512_i32_581
  let v2440 : BitVec 32 := v2439
  let v2473 : Index := Scalar.indexCast v2440
  let c0_600 : Index := 0#32
  ![0, 1, v2473.toNat, 0]
def k0_off16 (i : grid0.Coords) (k0_t2 : Fin (k0_t2_loop i).trips) : Fin 4 → Nat :=
  let c0_601 : Index := 0#32
  let c3_602 : Index := 3#32
  let c2_i32_580 : BitVec 32 := 2#32
  let c0_i32_501 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c0_i32_495 : BitVec 32 := 0#32
  let v2219 : BitVec 1 := Scalar.cmpi .sgt v2217 c0_i32_495
  let v2220 : BitVec 32 := Scalar.extui v2219
  let c0_i32_496 : BitVec 32 := 0#32
  let v2221 : BitVec 1 := Scalar.cmpi .slt v2217 c0_i32_496
  let v2222 : BitVec 32 := Scalar.extui v2221
  let v2223 : BitVec 32 := Scalar.subi v2220 v2222
  let c2_i32_494 : BitVec 32 := 2#32
  let c0_i32_497 : BitVec 32 := 0#32
  let v2224 : BitVec 1 := Scalar.cmpi .sgt c2_i32_494 c0_i32_497
  let v2225 : BitVec 32 := Scalar.extui v2224
  let c0_i32_498 : BitVec 32 := 0#32
  let v2226 : BitVec 1 := Scalar.cmpi .slt c2_i32_494 c0_i32_498
  let v2227 : BitVec 32 := Scalar.extui v2226
  let v2228 : BitVec 32 := Scalar.subi v2225 v2227
  let v2229 : BitVec 1 := Scalar.cmpi .ne v2223 v2228
  let v2230 : BitVec 32 := Scalar.remsi v2217 c2_i32_494
  let c0_i32_499 : BitVec 32 := 0#32
  let v2231 : BitVec 1 := Scalar.cmpi .ne v2230 c0_i32_499
  let v2232 : BitVec 1 := Scalar.andi v2229 v2231
  let v2218 : BitVec 32 := Scalar.divsi v2217 c2_i32_494
  let c1_i32_500 : BitVec 32 := 1#32
  let v2233 : BitVec 32 := Scalar.subi v2218 c1_i32_500
  let v2234 : BitVec 32 := Scalar.select v2232 v2233 v2218
  let v2235 : BitVec 32 := Scalar.subi v2234 c0_i32_501
  let c1_i32_502 : BitVec 32 := 1#32
  let v2237 : BitVec 32 := Scalar.divsi v2235 c1_i32_502
  let v2238 : BitVec 32 := Scalar.muli v2237 c1_i32_502
  let v2239 : BitVec 32 := Scalar.addi c0_i32_501 v2238
  let c1_i32_504 : BitVec 32 := 1#32
  let arg12 : BitVec 32 := Scf.iv v2239 c1_i32_504 k0_t2
  let v2438 : BitVec 32 := Scalar.muli c2_i32_580 arg12
  let c512_i32_581 : BitVec 32 := 512#32
  let v2439 : BitVec 32 := Scalar.muli v2438 c512_i32_581
  let v2440 : BitVec 32 := v2439
  let v2476 : Index := Scalar.indexCast v2440
  let c0_603 : Index := 0#32
  ![0, 3, v2476.toNat, 0]
def k0_mult5 (i : grid0.Coords) (k0_t2 : Fin (k0_t2_loop i).trips) : BitVec 32 :=
  let c2_i32_578 : BitVec 32 := 2#32
  let c0_i32_501 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c0_i32_495 : BitVec 32 := 0#32
  let v2219 : BitVec 1 := Scalar.cmpi .sgt v2217 c0_i32_495
  let v2220 : BitVec 32 := Scalar.extui v2219
  let c0_i32_496 : BitVec 32 := 0#32
  let v2221 : BitVec 1 := Scalar.cmpi .slt v2217 c0_i32_496
  let v2222 : BitVec 32 := Scalar.extui v2221
  let v2223 : BitVec 32 := Scalar.subi v2220 v2222
  let c2_i32_494 : BitVec 32 := 2#32
  let c0_i32_497 : BitVec 32 := 0#32
  let v2224 : BitVec 1 := Scalar.cmpi .sgt c2_i32_494 c0_i32_497
  let v2225 : BitVec 32 := Scalar.extui v2224
  let c0_i32_498 : BitVec 32 := 0#32
  let v2226 : BitVec 1 := Scalar.cmpi .slt c2_i32_494 c0_i32_498
  let v2227 : BitVec 32 := Scalar.extui v2226
  let v2228 : BitVec 32 := Scalar.subi v2225 v2227
  let v2229 : BitVec 1 := Scalar.cmpi .ne v2223 v2228
  let v2230 : BitVec 32 := Scalar.remsi v2217 c2_i32_494
  let c0_i32_499 : BitVec 32 := 0#32
  let v2231 : BitVec 1 := Scalar.cmpi .ne v2230 c0_i32_499
  let v2232 : BitVec 1 := Scalar.andi v2229 v2231
  let v2218 : BitVec 32 := Scalar.divsi v2217 c2_i32_494
  let c1_i32_500 : BitVec 32 := 1#32
  let v2233 : BitVec 32 := Scalar.subi v2218 c1_i32_500
  let v2234 : BitVec 32 := Scalar.select v2232 v2233 v2218
  let v2235 : BitVec 32 := Scalar.subi v2234 c0_i32_501
  let c1_i32_502 : BitVec 32 := 1#32
  let v2237 : BitVec 32 := Scalar.divsi v2235 c1_i32_502
  let v2238 : BitVec 32 := Scalar.muli v2237 c1_i32_502
  let v2239 : BitVec 32 := Scalar.addi c0_i32_501 v2238
  let c1_i32_504 : BitVec 32 := 1#32
  let arg12 : BitVec 32 := Scf.iv v2239 c1_i32_504 k0_t2
  let v2436 : BitVec 32 := Scalar.muli c2_i32_578 arg12
  let c1_i32_579 : BitVec 32 := 1#32
  let v2437 : BitVec 32 := Scalar.addi v2436 c1_i32_579
  let c512_i32_614 : BitVec 32 := 512#32
  let v2505 : BitVec 32 := Scalar.muli v2437 c512_i32_614
  v2505
def k0_off17 (i : grid0.Coords) (k0_t2 : Fin (k0_t2_loop i).trips) : Fin 4 → Nat :=
  let c0_615 : Index := 0#32
  let c0_616 : Index := 0#32
  let c2_i32_578 : BitVec 32 := 2#32
  let c0_i32_501 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c0_i32_495 : BitVec 32 := 0#32
  let v2219 : BitVec 1 := Scalar.cmpi .sgt v2217 c0_i32_495
  let v2220 : BitVec 32 := Scalar.extui v2219
  let c0_i32_496 : BitVec 32 := 0#32
  let v2221 : BitVec 1 := Scalar.cmpi .slt v2217 c0_i32_496
  let v2222 : BitVec 32 := Scalar.extui v2221
  let v2223 : BitVec 32 := Scalar.subi v2220 v2222
  let c2_i32_494 : BitVec 32 := 2#32
  let c0_i32_497 : BitVec 32 := 0#32
  let v2224 : BitVec 1 := Scalar.cmpi .sgt c2_i32_494 c0_i32_497
  let v2225 : BitVec 32 := Scalar.extui v2224
  let c0_i32_498 : BitVec 32 := 0#32
  let v2226 : BitVec 1 := Scalar.cmpi .slt c2_i32_494 c0_i32_498
  let v2227 : BitVec 32 := Scalar.extui v2226
  let v2228 : BitVec 32 := Scalar.subi v2225 v2227
  let v2229 : BitVec 1 := Scalar.cmpi .ne v2223 v2228
  let v2230 : BitVec 32 := Scalar.remsi v2217 c2_i32_494
  let c0_i32_499 : BitVec 32 := 0#32
  let v2231 : BitVec 1 := Scalar.cmpi .ne v2230 c0_i32_499
  let v2232 : BitVec 1 := Scalar.andi v2229 v2231
  let v2218 : BitVec 32 := Scalar.divsi v2217 c2_i32_494
  let c1_i32_500 : BitVec 32 := 1#32
  let v2233 : BitVec 32 := Scalar.subi v2218 c1_i32_500
  let v2234 : BitVec 32 := Scalar.select v2232 v2233 v2218
  let v2235 : BitVec 32 := Scalar.subi v2234 c0_i32_501
  let c1_i32_502 : BitVec 32 := 1#32
  let v2237 : BitVec 32 := Scalar.divsi v2235 c1_i32_502
  let v2238 : BitVec 32 := Scalar.muli v2237 c1_i32_502
  let v2239 : BitVec 32 := Scalar.addi c0_i32_501 v2238
  let c1_i32_504 : BitVec 32 := 1#32
  let arg12 : BitVec 32 := Scf.iv v2239 c1_i32_504 k0_t2
  let v2436 : BitVec 32 := Scalar.muli c2_i32_578 arg12
  let c1_i32_579 : BitVec 32 := 1#32
  let v2437 : BitVec 32 := Scalar.addi v2436 c1_i32_579
  let c512_i32_614 : BitVec 32 := 512#32
  let v2505 : BitVec 32 := Scalar.muli v2437 c512_i32_614
  let v2506 : BitVec 32 := v2505
  let v2507 : Index := Scalar.indexCast v2506
  let c0_617 : Index := 0#32
  ![0, 0, v2507.toNat, 0]
def k0_off18 (i : grid0.Coords) (k0_t2 : Fin (k0_t2_loop i).trips) : Fin 4 → Nat :=
  let c0_618 : Index := 0#32
  let c2_619 : Index := 2#32
  let c2_i32_578 : BitVec 32 := 2#32
  let c0_i32_501 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c0_i32_495 : BitVec 32 := 0#32
  let v2219 : BitVec 1 := Scalar.cmpi .sgt v2217 c0_i32_495
  let v2220 : BitVec 32 := Scalar.extui v2219
  let c0_i32_496 : BitVec 32 := 0#32
  let v2221 : BitVec 1 := Scalar.cmpi .slt v2217 c0_i32_496
  let v2222 : BitVec 32 := Scalar.extui v2221
  let v2223 : BitVec 32 := Scalar.subi v2220 v2222
  let c2_i32_494 : BitVec 32 := 2#32
  let c0_i32_497 : BitVec 32 := 0#32
  let v2224 : BitVec 1 := Scalar.cmpi .sgt c2_i32_494 c0_i32_497
  let v2225 : BitVec 32 := Scalar.extui v2224
  let c0_i32_498 : BitVec 32 := 0#32
  let v2226 : BitVec 1 := Scalar.cmpi .slt c2_i32_494 c0_i32_498
  let v2227 : BitVec 32 := Scalar.extui v2226
  let v2228 : BitVec 32 := Scalar.subi v2225 v2227
  let v2229 : BitVec 1 := Scalar.cmpi .ne v2223 v2228
  let v2230 : BitVec 32 := Scalar.remsi v2217 c2_i32_494
  let c0_i32_499 : BitVec 32 := 0#32
  let v2231 : BitVec 1 := Scalar.cmpi .ne v2230 c0_i32_499
  let v2232 : BitVec 1 := Scalar.andi v2229 v2231
  let v2218 : BitVec 32 := Scalar.divsi v2217 c2_i32_494
  let c1_i32_500 : BitVec 32 := 1#32
  let v2233 : BitVec 32 := Scalar.subi v2218 c1_i32_500
  let v2234 : BitVec 32 := Scalar.select v2232 v2233 v2218
  let v2235 : BitVec 32 := Scalar.subi v2234 c0_i32_501
  let c1_i32_502 : BitVec 32 := 1#32
  let v2237 : BitVec 32 := Scalar.divsi v2235 c1_i32_502
  let v2238 : BitVec 32 := Scalar.muli v2237 c1_i32_502
  let v2239 : BitVec 32 := Scalar.addi c0_i32_501 v2238
  let c1_i32_504 : BitVec 32 := 1#32
  let arg12 : BitVec 32 := Scf.iv v2239 c1_i32_504 k0_t2
  let v2436 : BitVec 32 := Scalar.muli c2_i32_578 arg12
  let c1_i32_579 : BitVec 32 := 1#32
  let v2437 : BitVec 32 := Scalar.addi v2436 c1_i32_579
  let c512_i32_614 : BitVec 32 := 512#32
  let v2505 : BitVec 32 := Scalar.muli v2437 c512_i32_614
  let v2506 : BitVec 32 := v2505
  let v2510 : Index := Scalar.indexCast v2506
  let c0_620 : Index := 0#32
  ![0, 2, v2510.toNat, 0]
def k0_off19 (i : grid0.Coords) (k0_t2 : Fin (k0_t2_loop i).trips) : Fin 4 → Nat :=
  let c0_631 : Index := 0#32
  let c1_632 : Index := 1#32
  let c2_i32_578 : BitVec 32 := 2#32
  let c0_i32_501 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c0_i32_495 : BitVec 32 := 0#32
  let v2219 : BitVec 1 := Scalar.cmpi .sgt v2217 c0_i32_495
  let v2220 : BitVec 32 := Scalar.extui v2219
  let c0_i32_496 : BitVec 32 := 0#32
  let v2221 : BitVec 1 := Scalar.cmpi .slt v2217 c0_i32_496
  let v2222 : BitVec 32 := Scalar.extui v2221
  let v2223 : BitVec 32 := Scalar.subi v2220 v2222
  let c2_i32_494 : BitVec 32 := 2#32
  let c0_i32_497 : BitVec 32 := 0#32
  let v2224 : BitVec 1 := Scalar.cmpi .sgt c2_i32_494 c0_i32_497
  let v2225 : BitVec 32 := Scalar.extui v2224
  let c0_i32_498 : BitVec 32 := 0#32
  let v2226 : BitVec 1 := Scalar.cmpi .slt c2_i32_494 c0_i32_498
  let v2227 : BitVec 32 := Scalar.extui v2226
  let v2228 : BitVec 32 := Scalar.subi v2225 v2227
  let v2229 : BitVec 1 := Scalar.cmpi .ne v2223 v2228
  let v2230 : BitVec 32 := Scalar.remsi v2217 c2_i32_494
  let c0_i32_499 : BitVec 32 := 0#32
  let v2231 : BitVec 1 := Scalar.cmpi .ne v2230 c0_i32_499
  let v2232 : BitVec 1 := Scalar.andi v2229 v2231
  let v2218 : BitVec 32 := Scalar.divsi v2217 c2_i32_494
  let c1_i32_500 : BitVec 32 := 1#32
  let v2233 : BitVec 32 := Scalar.subi v2218 c1_i32_500
  let v2234 : BitVec 32 := Scalar.select v2232 v2233 v2218
  let v2235 : BitVec 32 := Scalar.subi v2234 c0_i32_501
  let c1_i32_502 : BitVec 32 := 1#32
  let v2237 : BitVec 32 := Scalar.divsi v2235 c1_i32_502
  let v2238 : BitVec 32 := Scalar.muli v2237 c1_i32_502
  let v2239 : BitVec 32 := Scalar.addi c0_i32_501 v2238
  let c1_i32_504 : BitVec 32 := 1#32
  let arg12 : BitVec 32 := Scf.iv v2239 c1_i32_504 k0_t2
  let v2436 : BitVec 32 := Scalar.muli c2_i32_578 arg12
  let c1_i32_579 : BitVec 32 := 1#32
  let v2437 : BitVec 32 := Scalar.addi v2436 c1_i32_579
  let c512_i32_614 : BitVec 32 := 512#32
  let v2505 : BitVec 32 := Scalar.muli v2437 c512_i32_614
  let v2506 : BitVec 32 := v2505
  let v2539 : Index := Scalar.indexCast v2506
  let c0_633 : Index := 0#32
  ![0, 1, v2539.toNat, 0]
def k0_off20 (i : grid0.Coords) (k0_t2 : Fin (k0_t2_loop i).trips) : Fin 4 → Nat :=
  let c0_634 : Index := 0#32
  let c3_635 : Index := 3#32
  let c2_i32_578 : BitVec 32 := 2#32
  let c0_i32_501 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c0_i32_495 : BitVec 32 := 0#32
  let v2219 : BitVec 1 := Scalar.cmpi .sgt v2217 c0_i32_495
  let v2220 : BitVec 32 := Scalar.extui v2219
  let c0_i32_496 : BitVec 32 := 0#32
  let v2221 : BitVec 1 := Scalar.cmpi .slt v2217 c0_i32_496
  let v2222 : BitVec 32 := Scalar.extui v2221
  let v2223 : BitVec 32 := Scalar.subi v2220 v2222
  let c2_i32_494 : BitVec 32 := 2#32
  let c0_i32_497 : BitVec 32 := 0#32
  let v2224 : BitVec 1 := Scalar.cmpi .sgt c2_i32_494 c0_i32_497
  let v2225 : BitVec 32 := Scalar.extui v2224
  let c0_i32_498 : BitVec 32 := 0#32
  let v2226 : BitVec 1 := Scalar.cmpi .slt c2_i32_494 c0_i32_498
  let v2227 : BitVec 32 := Scalar.extui v2226
  let v2228 : BitVec 32 := Scalar.subi v2225 v2227
  let v2229 : BitVec 1 := Scalar.cmpi .ne v2223 v2228
  let v2230 : BitVec 32 := Scalar.remsi v2217 c2_i32_494
  let c0_i32_499 : BitVec 32 := 0#32
  let v2231 : BitVec 1 := Scalar.cmpi .ne v2230 c0_i32_499
  let v2232 : BitVec 1 := Scalar.andi v2229 v2231
  let v2218 : BitVec 32 := Scalar.divsi v2217 c2_i32_494
  let c1_i32_500 : BitVec 32 := 1#32
  let v2233 : BitVec 32 := Scalar.subi v2218 c1_i32_500
  let v2234 : BitVec 32 := Scalar.select v2232 v2233 v2218
  let v2235 : BitVec 32 := Scalar.subi v2234 c0_i32_501
  let c1_i32_502 : BitVec 32 := 1#32
  let v2237 : BitVec 32 := Scalar.divsi v2235 c1_i32_502
  let v2238 : BitVec 32 := Scalar.muli v2237 c1_i32_502
  let v2239 : BitVec 32 := Scalar.addi c0_i32_501 v2238
  let c1_i32_504 : BitVec 32 := 1#32
  let arg12 : BitVec 32 := Scf.iv v2239 c1_i32_504 k0_t2
  let v2436 : BitVec 32 := Scalar.muli c2_i32_578 arg12
  let c1_i32_579 : BitVec 32 := 1#32
  let v2437 : BitVec 32 := Scalar.addi v2436 c1_i32_579
  let c512_i32_614 : BitVec 32 := 512#32
  let v2505 : BitVec 32 := Scalar.muli v2437 c512_i32_614
  let v2506 : BitVec 32 := v2505
  let v2542 : Index := Scalar.indexCast v2506
  let c0_636 : Index := 0#32
  ![0, 3, v2542.toNat, 0]
def k0_cond1 (i : grid0.Coords) : BitVec 1 :=
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c2_i32_505 : BitVec 32 := 2#32
  let c0_i32_506 : BitVec 32 := 0#32
  let v2242 : BitVec 1 := Scalar.cmpi .eq c2_i32_505 c0_i32_506
  let c1_i32_507 : BitVec 32 := 1#32
  let v2243 : BitVec 32 := Scalar.select v2242 c1_i32_507 c2_i32_505
  let v2244 : BitVec 32 := Scalar.remsi v2217 v2243
  let c0_i32_509 : BitVec 32 := 0#32
  let v2246 : BitVec 1 := Scalar.cmpi .slt v2244 c0_i32_509
  let c0_i32_510 : BitVec 32 := 0#32
  let v2247 : BitVec 1 := Scalar.cmpi .slt v2243 c0_i32_510
  let v2248 : BitVec 1 := Scalar.xori v2246 v2247
  let c0_i32_508 : BitVec 32 := 0#32
  let v2245 : BitVec 1 := Scalar.cmpi .ne v2244 c0_i32_508
  let v2249 : BitVec 1 := Scalar.andi v2248 v2245
  let v2250 : BitVec 32 := Scalar.addi v2244 v2243
  let v2251 : BitVec 32 := Scalar.select v2249 v2250 v2244
  let c1_i32_511 : BitVec 32 := 1#32
  let v2252 : BitVec 1 := Scalar.cmpi .eq v2251 c1_i32_511
  let v2253 : BitVec 32 := Scalar.extui v2252
  let c0_i32_512 : BitVec 32 := 0#32
  let v2254 : BitVec 1 := Scalar.cmpi .ne v2253 c0_i32_512
  v2254

def k0_mult6 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c1_i32_578 : BitVec 32 := 1#32
  let v2436 : BitVec 32 := Scalar.subi v2217 c1_i32_578
  let c512_i32_579 : BitVec 32 := 512#32
  let v2437 : BitVec 32 := Scalar.muli v2436 c512_i32_579
  v2437
def k0_off21 (i : grid0.Coords) : Fin 4 → Nat :=
  let c0_580 : Index := 0#32
  let c0_581 : Index := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c1_i32_578 : BitVec 32 := 1#32
  let v2436 : BitVec 32 := Scalar.subi v2217 c1_i32_578
  let c512_i32_579 : BitVec 32 := 512#32
  let v2437 : BitVec 32 := Scalar.muli v2436 c512_i32_579
  let v2438 : BitVec 32 := v2437
  let v2439 : Index := Scalar.indexCast v2438
  let c0_582 : Index := 0#32
  ![0, 0, v2439.toNat, 0]
def k0_off22 (i : grid0.Coords) : Fin 4 → Nat :=
  let c0_583 : Index := 0#32
  let c2_584 : Index := 2#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c1_i32_578 : BitVec 32 := 1#32
  let v2436 : BitVec 32 := Scalar.subi v2217 c1_i32_578
  let c512_i32_579 : BitVec 32 := 512#32
  let v2437 : BitVec 32 := Scalar.muli v2436 c512_i32_579
  let v2438 : BitVec 32 := v2437
  let v2442 : Index := Scalar.indexCast v2438
  let c0_585 : Index := 0#32
  ![0, 2, v2442.toNat, 0]
def k0_off23 (i : grid0.Coords) : Fin 4 → Nat :=
  let c0_596 : Index := 0#32
  let c1_597 : Index := 1#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c1_i32_578 : BitVec 32 := 1#32
  let v2436 : BitVec 32 := Scalar.subi v2217 c1_i32_578
  let c512_i32_579 : BitVec 32 := 512#32
  let v2437 : BitVec 32 := Scalar.muli v2436 c512_i32_579
  let v2438 : BitVec 32 := v2437
  let v2471 : Index := Scalar.indexCast v2438
  let c0_598 : Index := 0#32
  ![0, 1, v2471.toNat, 0]
def k0_off24 (i : grid0.Coords) : Fin 4 → Nat :=
  let c0_599 : Index := 0#32
  let c3_600 : Index := 3#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c1_i32_578 : BitVec 32 := 1#32
  let v2436 : BitVec 32 := Scalar.subi v2217 c1_i32_578
  let c512_i32_579 : BitVec 32 := 512#32
  let v2437 : BitVec 32 := Scalar.muli v2436 c512_i32_579
  let v2438 : BitVec 32 := v2437
  let v2474 : Index := Scalar.indexCast v2438
  let c0_601 : Index := 0#32
  ![0, 3, v2474.toNat, 0]
def k0_mult7 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c512_i32_513 : BitVec 32 := 512#32
  let v2256 : BitVec 32 := Scalar.muli v2217 c512_i32_513
  v2256
def k0_off25 (i : grid0.Coords) : Fin 4 → Nat :=
  let c0_514 : Index := 0#32
  let c0_515 : Index := 0#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c512_i32_513 : BitVec 32 := 512#32
  let v2256 : BitVec 32 := Scalar.muli v2217 c512_i32_513
  let v2257 : BitVec 32 := v2256
  let v2258 : Index := Scalar.indexCast v2257
  let c0_516 : Index := 0#32
  ![0, 0, v2258.toNat, 0]
def k0_off26 (i : grid0.Coords) : Fin 4 → Nat :=
  let c0_517 : Index := 0#32
  let c2_518 : Index := 2#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c512_i32_513 : BitVec 32 := 512#32
  let v2256 : BitVec 32 := Scalar.muli v2217 c512_i32_513
  let v2257 : BitVec 32 := v2256
  let v2261 : Index := Scalar.indexCast v2257
  let c0_519 : Index := 0#32
  ![0, 2, v2261.toNat, 0]
def k0_off27 (i : grid0.Coords) : Fin 4 → Nat :=
  let c0_532 : Index := 0#32
  let c1_533 : Index := 1#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c512_i32_513 : BitVec 32 := 512#32
  let v2256 : BitVec 32 := Scalar.muli v2217 c512_i32_513
  let v2257 : BitVec 32 := v2256
  let v2302 : Index := Scalar.indexCast v2257
  let c0_534 : Index := 0#32
  ![0, 1, v2302.toNat, 0]
def k0_off28 (i : grid0.Coords) : Fin 4 → Nat :=
  let c0_535 : Index := 0#32
  let c3_536 : Index := 3#32
  let arg1 : BitVec 32 := BitVec.ofNat 32 (i 1).val
  let c256_i32 : BitVec 32 := 256#32
  let v0 : BitVec 32 := Scalar.muli arg1 c256_i32
  let c256_i32_0 : BitVec 32 := 256#32
  let v7 : BitVec 32 := Scalar.addi v0 c256_i32_0
  let c512_i32 : BitVec 32 := 512#32
  let v8 : BitVec 32 := Scalar.addi v7 c512_i32
  let c1_i32 : BitVec 32 := 1#32
  let v9 : BitVec 32 := Scalar.subi v8 c1_i32
  let c0_i32 : BitVec 32 := 0#32
  let v11 : BitVec 1 := Scalar.cmpi .sgt v9 c0_i32
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c512_i32_1 : BitVec 32 := 512#32
  let c0_i32_3 : BitVec 32 := 0#32
  let v16 : BitVec 1 := Scalar.cmpi .sgt c512_i32_1 c0_i32_3
  let v17 : BitVec 32 := Scalar.extui v16
  let c0_i32_4 : BitVec 32 := 0#32
  let v18 : BitVec 1 := Scalar.cmpi .slt c512_i32_1 c0_i32_4
  let v19 : BitVec 32 := Scalar.extui v18
  let v20 : BitVec 32 := Scalar.subi v17 v19
  let v21 : BitVec 1 := Scalar.cmpi .ne v15 v20
  let v22 : BitVec 32 := Scalar.remsi v9 c512_i32_1
  let c0_i32_5 : BitVec 32 := 0#32
  let v23 : BitVec 1 := Scalar.cmpi .ne v22 c0_i32_5
  let v24 : BitVec 1 := Scalar.andi v21 v23
  let v10 : BitVec 32 := Scalar.divsi v9 c512_i32_1
  let c1_i32_6 : BitVec 32 := 1#32
  let v25 : BitVec 32 := Scalar.subi v10 c1_i32_6
  let v26 : BitVec 32 := Scalar.select v24 v25 v10
  let c1_i32_493 : BitVec 32 := 1#32
  let v2217 : BitVec 32 := Scalar.subi v26 c1_i32_493
  let c512_i32_513 : BitVec 32 := 512#32
  let v2256 : BitVec 32 := Scalar.muli v2217 c512_i32_513
  let v2257 : BitVec 32 := v2256
  let v2305 : Index := Scalar.indexCast v2257
  let c0_537 : Index := 0#32
  ![0, 3, v2305.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "floor" => some ⊥
  | "mask" => some ⊥
  | "scale" => some (((8 * (Real.log 2))⁻¹ : ℝ) : EReal)
  | _ => none
-- ==== ReferenceIdeal.lean ====
abbrev S8x4096x512 : Shape := ⟨3, ![8, 4096, 512]⟩
abbrev S8x255x2x64 : Shape := ⟨4, ![8, 255, 2, 64]⟩
abbrev S8x4096x128 : Shape := ⟨3, ![8, 4096, 128]⟩
abbrev S8x4096x24 : Shape := ⟨3, ![8, 4096, 24]⟩
abbrev S24 : Shape := ⟨1, ![24]⟩
abbrev S8x4096x2x4x64 : Shape := ⟨5, ![8, 4096, 2, 4, 64]⟩
abbrev S_ : Shape := ⟨0, ![]⟩
abbrev S255 : Shape := ⟨1, ![255]⟩
abbrev S64 : Shape := ⟨1, ![64]⟩
abbrev S255x1 : Shape := ⟨2, ![255, 1]⟩
abbrev S1x64 : Shape := ⟨2, ![1, 64]⟩
abbrev S255x64 : Shape := ⟨2, ![255, 64]⟩
abbrev S1x1x24 : Shape := ⟨3, ![1, 1, 24]⟩
abbrev S8x4096x2x4x3 : Shape := ⟨5, ![8, 4096, 2, 4, 3]⟩
abbrev S4096 : Shape := ⟨1, ![4096]⟩
abbrev S8x2x255x4096x4 : Shape := ⟨5, ![8, 2, 255, 4096, 4]⟩
abbrev S8x4096x2x4x255 : Shape := ⟨5, ![8, 4096, 2, 4, 255]⟩
abbrev S1x255 : Shape := ⟨2, ![1, 255]⟩
abbrev S4096x1 : Shape := ⟨2, ![4096, 1]⟩
abbrev S4096x255 : Shape := ⟨2, ![4096, 255]⟩
abbrev S1x4096x1x1x255 : Shape := ⟨5, ![1, 4096, 1, 1, 255]⟩
abbrev S8x4096x2x4 : Shape := ⟨4, ![8, 4096, 2, 4]⟩
abbrev S8x4096x2x4x1 : Shape := ⟨5, ![8, 4096, 2, 4, 1]⟩
abbrev S8x2x64x4096x4 : Shape := ⟨5, ![8, 2, 64, 4096, 4]⟩
abbrev S8x4096x2x255 : Shape := ⟨4, ![8, 4096, 2, 255]⟩
abbrev S8x4096x2x64 : Shape := ⟨4, ![8, 4096, 2, 64]⟩
abbrev S4096x64 : Shape := ⟨2, ![4096, 64]⟩
abbrev S1x4096x1x64 : Shape := ⟨4, ![1, 4096, 1, 64]⟩
abbrev S8x4096x2x16 : Shape := ⟨4, ![8, 4096, 2, 16]⟩
abbrev S8x4096x2x16x1 : Shape := ⟨5, ![8, 4096, 2, 16, 1]⟩
abbrev S1x1x1x1x64 : Shape := ⟨5, ![1, 1, 1, 1, 64]⟩
abbrev S8x4096x2x16x64 : Shape := ⟨5, ![8, 4096, 2, 16, 64]⟩
abbrev S8x4096x2x64x1 : Shape := ⟨5, ![8, 4096, 2, 64, 1]⟩
abbrev S8x4096x2x64x64 : Shape := ⟨5, ![8, 4096, 2, 64, 64]⟩
abbrev S8x4096x2x4096 : Shape := ⟨4, ![8, 4096, 2, 4096]⟩
abbrev S8x2x4096x4096x4 : Shape := ⟨5, ![8, 2, 4096, 4096, 4]⟩
abbrev S8x4096x2x4x4096 : Shape := ⟨5, ![8, 4096, 2, 4, 4096]⟩
abbrev S1x4096 : Shape := ⟨2, ![1, 4096]⟩
abbrev S4096x4096 : Shape := ⟨2, ![4096, 4096]⟩
abbrev S1x4096x1x4096 : Shape := ⟨4, ![1, 4096, 1, 4096]⟩
abbrev S8x4096x2x1x4096 : Shape := ⟨5, ![8, 4096, 2, 1, 4096]⟩
abbrev S1x4096x1x1x4096 : Shape := ⟨5, ![1, 4096, 1, 1, 4096]⟩

abbrev nBuf : Space → Nat
  | .hbm => 257
  | .vmem => 0
  | .smem => 0
  | _ => 0

abbrev hbmTy0_0 (i : Nat) : BufTy := match i % 128 with
  | 0 => ⟨S8x4096x512, .f32⟩
  | 1 => ⟨S8x255x2x64, .f32⟩
  | 2 => ⟨S8x255x2x64, .f32⟩
  | 3 => ⟨S8x4096x128, .f32⟩
  | 4 => ⟨S8x4096x128, .f32⟩
  | 5 => ⟨S8x4096x128, .f32⟩
  | 6 => ⟨S8x4096x128, .f32⟩
  | 7 => ⟨S8x4096x24, .f32⟩
  | 8 => ⟨S24, .f32⟩
  | 9 => ⟨S8x4096x2x4x64, .f32⟩
  | 10 => ⟨S_, .f32⟩
  | 11 => ⟨S8x4096x2x4x64, .f32⟩
  | 12 => ⟨S8x4096x2x4x64, .f32⟩
  | 13 => ⟨S255, .i32⟩
  | 14 => ⟨S_, .i32⟩
  | 15 => ⟨S255, .i32⟩
  | 16 => ⟨S255, .i32⟩
  | 17 => ⟨S_, .i32⟩
  | 18 => ⟨S255, .i32⟩
  | 19 => ⟨S255, .i32⟩
  | 20 => ⟨S_, .i32⟩
  | 21 => ⟨S255, .i32⟩
  | 22 => ⟨S255, .i32⟩
  | 23 => ⟨S255, .i32⟩
  | 24 => ⟨S64, .i32⟩
  | 25 => ⟨S255x1, .i32⟩
  | 26 => ⟨S_, .i32⟩
  | 27 => ⟨S255x1, .i32⟩
  | 28 => ⟨S255x1, .i32⟩
  | 29 => ⟨S1x64, .i32⟩
  | 30 => ⟨S_, .i32⟩
  | 31 => ⟨S1x64, .i32⟩
  | 32 => ⟨S1x64, .i32⟩
  | 33 => ⟨S_, .i32⟩
  | 34 => ⟨S1x64, .i32⟩
  | 35 => ⟨S1x64, .i32⟩
  | 36 => ⟨S255x64, .i32⟩
  | 37 => ⟨S255x64, .i32⟩
  | 38 => ⟨S255x64, .i1⟩
  | 39 => ⟨S255x1, .i32⟩
  | 40 => ⟨S_, .i32⟩
  | 41 => ⟨S255x1, .i32⟩
  | 42 => ⟨S255x1, .i32⟩
  | 43 => ⟨S_, .i32⟩
  | 44 => ⟨S255x1, .i32⟩
  | 45 => ⟨S255x1, .i32⟩
  | 46 => ⟨S1x64, .i32⟩
  | 47 => ⟨S_, .i32⟩
  | 48 => ⟨S1x64, .i32⟩
  | 49 => ⟨S1x64, .i32⟩
  | 50 => ⟨S255x64, .i32⟩
  | 51 => ⟨S255x64, .i32⟩
  | 52 => ⟨S255x64, .i1⟩
  | 53 => ⟨S255x64, .i1⟩
  | 54 => ⟨S255x64, .f32⟩
  | 55 => ⟨S1x1x24, .f32⟩
  | 56 => ⟨S8x4096x24, .f32⟩
  | 57 => ⟨S8x4096x24, .f32⟩
  | 58 => ⟨S8x4096x24, .f32⟩
  | 59 => ⟨S8x4096x24, .f32⟩
  | 60 => ⟨S_, .f32⟩
  | 61 => ⟨S8x4096x24, .f32⟩
  | 62 => ⟨S8x4096x24, .f32⟩
  | 63 => ⟨S_, .f32⟩
  | 64 => ⟨S8x4096x24, .f32⟩
  | 65 => ⟨S8x4096x24, .f32⟩
  | 66 => ⟨S8x4096x2x4x3, .f32⟩
  | 67 => ⟨S4096, .i32⟩
  | 68 => ⟨S8x2x255x4096x4, .f32⟩
  | 69 => ⟨S8x4096x2x4x255, .f32⟩
  | 70 => ⟨S1x255, .i32⟩
  | 71 => ⟨S4096x1, .i32⟩
  | 72 => ⟨S4096x255, .i32⟩
  | 73 => ⟨S4096x255, .i32⟩
  | 74 => ⟨S4096x255, .i1⟩
  | 75 => ⟨S1x4096x1x1x255, .i1⟩
  | 76 => ⟨S8x4096x2x4x255, .i1⟩
  | 77 => ⟨S_, .f32⟩
  | 78 => ⟨S8x4096x2x4x255, .f32⟩
  | 79 => ⟨S8x4096x2x4x255, .f32⟩
  | 80 => ⟨S_, .f32⟩
  | 81 => ⟨S8x4096x2x4, .f32⟩
  | 82 => ⟨S_, .f32⟩
  | 83 => ⟨S8x4096x2x4, .f32⟩
  | 84 => ⟨S8x4096x2x4, .f32⟩
  | 85 => ⟨S8x4096x2x4x1, .f32⟩
  | 86 => ⟨S8x4096x2x4x255, .f32⟩
  | 87 => ⟨S8x4096x2x4x255, .f32⟩
  | 88 => ⟨S8x4096x2x4x255, .f32⟩
  | 89 => ⟨S_, .f32⟩
  | 90 => ⟨S8x4096x2x4, .f32⟩
  | 91 => ⟨S8x4096x2x4x1, .f32⟩
  | 92 => ⟨S8x4096x2x4x255, .f32⟩
  | 93 => ⟨S8x4096x2x4x255, .f32⟩
  | 94 => ⟨S8x4096x2x4x255, .i1⟩
  | 95 => ⟨S_, .f32⟩
  | 96 => ⟨S8x4096x2x4x255, .f32⟩
  | 97 => ⟨S8x4096x2x4x255, .f32⟩
  | 98 => ⟨S8x2x64x4096x4, .f32⟩
  | 99 => ⟨S8x4096x2x4x64, .f32⟩
  | 100 => ⟨S_, .f32⟩
  | 101 => ⟨S8x4096x2x255, .f32⟩
  | 102 => ⟨S8x4096x2x64, .f32⟩
  | 103 => ⟨S4096x1, .i32⟩
  | 104 => ⟨S_, .i32⟩
  | 105 => ⟨S_, .i32⟩
  | 106 => ⟨S4096x1, .i32⟩
  | 107 => ⟨S4096x1, .i32⟩
  | 108 => ⟨S4096x1, .i32⟩
  | 109 => ⟨S_, .i32⟩
  | 110 => ⟨S4096x1, .i32⟩
  | 111 => ⟨S4096x1, .i1⟩
  | 112 => ⟨S4096x1, .i32⟩
  | 113 => ⟨S4096x1, .i32⟩
  | 114 => ⟨S_, .i32⟩
  | 115 => ⟨S4096x1, .i32⟩
  | 116 => ⟨S4096x1, .i1⟩
  | 117 => ⟨S4096x1, .i1⟩
  | 118 => ⟨S_, .i32⟩
  | 119 => ⟨S4096x1, .i32⟩
  | 120 => ⟨S4096x1, .i32⟩
  | 121 => ⟨S4096x1, .i32⟩
  | 122 => ⟨S1x64, .i32⟩
  | 123 => ⟨S_, .i32⟩
  | 124 => ⟨S1x64, .i32⟩
  | 125 => ⟨S1x64, .i1⟩
  | 126 => ⟨S1x64, .i32⟩
  | 127 => ⟨S4096x64, .i32⟩
  | _ => ⟨S8x4096x512, .f32⟩

abbrev hbmTy0_1 (i : Nat) : BufTy := match i % 128 with
  | 0 => ⟨S4096x64, .i32⟩
  | 1 => ⟨S4096x64, .i1⟩
  | 2 => ⟨S4096x64, .i1⟩
  | 3 => ⟨S4096x64, .i1⟩
  | 4 => ⟨S1x64, .i32⟩
  | 5 => ⟨S_, .i32⟩
  | 6 => ⟨S4096x1, .i32⟩
  | 7 => ⟨S4096x1, .i32⟩
  | 8 => ⟨S4096x64, .i32⟩
  | 9 => ⟨S4096x64, .i32⟩
  | 10 => ⟨S4096x64, .i1⟩
  | 11 => ⟨S4096x64, .i1⟩
  | 12 => ⟨S1x64, .i32⟩
  | 13 => ⟨S_, .i32⟩
  | 14 => ⟨S1x64, .i32⟩
  | 15 => ⟨S1x64, .i32⟩
  | 16 => ⟨S4096x1, .i32⟩
  | 17 => ⟨S4096x64, .i32⟩
  | 18 => ⟨S4096x64, .i32⟩
  | 19 => ⟨S4096x64, .i1⟩
  | 20 => ⟨S1x4096x1x64, .i1⟩
  | 21 => ⟨S8x4096x2x64, .i1⟩
  | 22 => ⟨S_, .f32⟩
  | 23 => ⟨S8x4096x2x64, .f32⟩
  | 24 => ⟨S8x4096x2x64, .f32⟩
  | 25 => ⟨S1x4096x1x64, .i1⟩
  | 26 => ⟨S8x4096x2x64, .i1⟩
  | 27 => ⟨S_, .f32⟩
  | 28 => ⟨S8x4096x2x64, .f32⟩
  | 29 => ⟨S8x4096x2x64, .f32⟩
  | 30 => ⟨S8x4096x2x16, .f32⟩
  | 31 => ⟨S8x4096x2x16, .i32⟩
  | 32 => ⟨S8x4096x2x16x1, .i32⟩
  | 33 => ⟨S1x1x1x1x64, .i32⟩
  | 34 => ⟨S8x4096x2x16x64, .i32⟩
  | 35 => ⟨S8x4096x2x16x64, .i32⟩
  | 36 => ⟨S8x4096x2x16x64, .i1⟩
  | 37 => ⟨S_, .i1⟩
  | 38 => ⟨S8x4096x2x64, .i1⟩
  | 39 => ⟨S8x4096x2x64x1, .i1⟩
  | 40 => ⟨S8x4096x2x64x64, .i1⟩
  | 41 => ⟨S8x4096x2x4096, .i1⟩
  | 42 => ⟨S8x4096x2x64, .f32⟩
  | 43 => ⟨S8x2x4096x4096x4, .f32⟩
  | 44 => ⟨S8x4096x2x4x4096, .f32⟩
  | 45 => ⟨S1x4096, .i32⟩
  | 46 => ⟨S4096x1, .i32⟩
  | 47 => ⟨S4096x4096, .i32⟩
  | 48 => ⟨S4096x4096, .i32⟩
  | 49 => ⟨S4096x4096, .i1⟩
  | 50 => ⟨S1x4096x1x4096, .i1⟩
  | 51 => ⟨S8x4096x2x4096, .i1⟩
  | 52 => ⟨S8x4096x2x4096, .i1⟩
  | 53 => ⟨S8x4096x2x1x4096, .i1⟩
  | 54 => ⟨S8x4096x2x4x4096, .i1⟩
  | 55 => ⟨S_, .f32⟩
  | 56 => ⟨S8x4096x2x4x4096, .f32⟩
  | 57 => ⟨S8x4096x2x4x4096, .f32⟩
  | 58 => ⟨S_, .f32⟩
  | 59 => ⟨S8x4096x2x4, .f32⟩
  | 60 => ⟨S_, .f32⟩
  | 61 => ⟨S8x4096x2x4, .f32⟩
  | 62 => ⟨S8x4096x2x4, .f32⟩
  | 63 => ⟨S8x4096x2x4x1, .f32⟩
  | 64 => ⟨S8x4096x2x4x4096, .f32⟩
  | 65 => ⟨S8x4096x2x4x4096, .f32⟩
  | 66 => ⟨S8x4096x2x4x4096, .f32⟩
  | 67 => ⟨S_, .f32⟩
  | 68 => ⟨S8x4096x2x4, .f32⟩
  | 69 => ⟨S8x4096x2x4x1, .f32⟩
  | 70 => ⟨S8x4096x2x4x4096, .f32⟩
  | 71 => ⟨S8x4096x2x4x4096, .f32⟩
  | 72 => ⟨S8x4096x2x4x4096, .i1⟩
  | 73 => ⟨S_, .f32⟩
  | 74 => ⟨S8x4096x2x4x4096, .f32⟩
  | 75 => ⟨S8x4096x2x4x4096, .f32⟩
  | 76 => ⟨S8x4096x2x64, .f32⟩
  | 77 => ⟨S8x2x64x4096x4, .f32⟩
  | 78 => ⟨S8x4096x2x4x64, .f32⟩
  | 79 => ⟨S8x4096x2x64, .f32⟩
  | 80 => ⟨S8x2x4096x4096x4, .f32⟩
  | 81 => ⟨S8x4096x2x4x4096, .f32⟩
  | 82 => ⟨S1x4096, .i32⟩
  | 83 => ⟨S4096x1, .i32⟩
  | 84 => ⟨S_, .i32⟩
  | 85 => ⟨S4096x1, .i32⟩
  | 86 => ⟨S4096x1, .i32⟩
  | 87 => ⟨S4096x4096, .i32⟩
  | 88 => ⟨S4096x4096, .i32⟩
  | 89 => ⟨S4096x4096, .i1⟩
  | 90 => ⟨S4096x4096, .i1⟩
  | 91 => ⟨S1x4096x1x1x4096, .i1⟩
  | 92 => ⟨S8x4096x2x4x4096, .i1⟩
  | 93 => ⟨S_, .f32⟩
  | 94 => ⟨S8x4096x2x4x4096, .f32⟩
  | 95 => ⟨S8x4096x2x4x4096, .f32⟩
  | 96 => ⟨S_, .f32⟩
  | 97 => ⟨S8x4096x2x4, .f32⟩
  | 98 => ⟨S_, .f32⟩
  | 99 => ⟨S8x4096x2x4, .f32⟩
  | 100 => ⟨S8x4096x2x4, .f32⟩
  | 101 => ⟨S8x4096x2x4x1, .f32⟩
  | 102 => ⟨S8x4096x2x4x4096, .f32⟩
  | 103 => ⟨S8x4096x2x4x4096, .f32⟩
  | 104 => ⟨S8x4096x2x4x4096, .f32⟩
  | 105 => ⟨S_, .f32⟩
  | 106 => ⟨S8x4096x2x4, .f32⟩
  | 107 => ⟨S8x4096x2x4x1, .f32⟩
  | 108 => ⟨S8x4096x2x4x4096, .f32⟩
  | 109 => ⟨S8x4096x2x4x4096, .f32⟩
  | 110 => ⟨S8x4096x2x4x4096, .i1⟩
  | 111 => ⟨S_, .f32⟩
  | 112 => ⟨S8x4096x2x4x4096, .f32⟩
  | 113 => ⟨S8x4096x2x4x4096, .f32⟩
  | 114 => ⟨S8x4096x2x64, .f32⟩
  | 115 => ⟨S8x2x64x4096x4, .f32⟩
  | 116 => ⟨S8x4096x2x4x64, .f32⟩
  | 117 => ⟨S8x4096x2x4x1, .f32⟩
  | 118 => ⟨S8x4096x2x4x64, .f32⟩
  | 119 => ⟨S8x4096x2x4x64, .f32⟩
  | 120 => ⟨S8x4096x2x4x1, .f32⟩
  | 121 => ⟨S8x4096x2x4x64, .f32⟩
  | 122 => ⟨S8x4096x2x4x64, .f32⟩
  | 123 => ⟨S8x4096x2x4x64, .f32⟩
  | 124 => ⟨S8x4096x2x4x1, .f32⟩
  | 125 => ⟨S8x4096x2x4x64, .f32⟩
  | 126 => ⟨S8x4096x2x4x64, .f32⟩
  | 127 => ⟨S8x4096x2x4x64, .f32⟩
  | _ => ⟨S8x4096x512, .f32⟩

abbrev hbmTy0_2 (i : Nat) : BufTy := match i % 128 with
  | 0 => ⟨S8x4096x512, .f32⟩
  | _ => ⟨S8x4096x512, .f32⟩

abbrev hbmTy (i : Nat) : BufTy := match i / 128 with
  | 0 => hbmTy0_0 i
  | 1 => hbmTy0_1 i
  | 2 => hbmTy0_2 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_v5 : Ref sig .tc := ⟨.hbm, 110, rfl⟩
abbrev main_call0_v6 : Ref sig .tc := ⟨.hbm, 111, rfl⟩
abbrev main_call0_v7 : Ref sig .tc := ⟨.hbm, 112, rfl⟩
abbrev main_call0_v8 : Ref sig .tc := ⟨.hbm, 113, rfl⟩
abbrev main_call0_c : Ref sig .tc := ⟨.hbm, 114, rfl⟩
abbrev main_call0_v9 : Ref sig .tc := ⟨.hbm, 115, rfl⟩
abbrev main_call0_v10 : Ref sig .tc := ⟨.hbm, 116, rfl⟩
abbrev main_call0_v11 : Ref sig .tc := ⟨.hbm, 117, rfl⟩
abbrev main_call0_c_0 : Ref sig .tc := ⟨.hbm, 118, rfl⟩
abbrev main_call0_v12 : Ref sig .tc := ⟨.hbm, 119, rfl⟩
abbrev main_call0_v13 : Ref sig .tc := ⟨.hbm, 120, rfl⟩
abbrev main_v77 : Ref sig .tc := ⟨.hbm, 121, rfl⟩
abbrev main_v78 : Ref sig .tc := ⟨.hbm, 122, rfl⟩
abbrev main_c_17 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_c_18 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_c_19 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_20 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_21 : Ref sig .tc := ⟨.hbm, 155, rfl⟩
abbrev main_v107 : Ref sig .tc := ⟨.hbm, 156, rfl⟩
abbrev main_v108 : Ref sig .tc := ⟨.hbm, 157, rfl⟩
abbrev main_values : Ref sig .tc := ⟨.hbm, 158, rfl⟩
abbrev main_indices : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_c_22 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_23 : Ref sig .tc := ⟨.hbm, 183, rfl⟩
abbrev main_v131 : Ref sig .tc := ⟨.hbm, 184, rfl⟩
abbrev main_v132 : Ref sig .tc := ⟨.hbm, 185, rfl⟩
abbrev main_cst_24 : Ref sig .tc := ⟨.hbm, 186, rfl⟩
abbrev main_v133 : Ref sig .tc := ⟨.hbm, 187, rfl⟩
abbrev main_cst_25 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_cst_26 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_27 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_c_28 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_cst_29 : Ref sig .tc := ⟨.hbm, 221, rfl⟩
abbrev main_v163 : Ref sig .tc := ⟨.hbm, 222, rfl⟩
abbrev main_v164 : Ref sig .tc := ⟨.hbm, 223, rfl⟩
abbrev main_cst_30 : Ref sig .tc := ⟨.hbm, 224, rfl⟩
abbrev main_v165 : Ref sig .tc := ⟨.hbm, 225, rfl⟩
abbrev main_cst_31 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_cst_32 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_cst_33 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩

abbrev nD : Nat := 1
abbrev τ : Topo := Topo.v7x

variable {F : FTy → Type} [FloatOps F]
-- ==== Post.lean ====
abbrev S8x4096x1024 : Shape := ⟨3, ![8, 4096, 1024]⟩
abbrev S4x8x4096x256 : Shape := ⟨4, ![4, 8, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S32768x1024 : Shape := ⟨2, ![32768, 1024]⟩
abbrev S4x32768x256 : Shape := ⟨3, ![4, 32768, 256]⟩
abbrev S1x1024 : Shape := ⟨2, ![1, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 25
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S4x8x4096x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S256x1024, .f32⟩
  | .hbm, ⟨12, _⟩ => ⟨S32768x1024, .f32⟩
  | .hbm, ⟨13, _⟩ => ⟨S1024x1024, .bf16⟩
  | .hbm, ⟨14, _⟩ => ⟨S32768x1024, .f32⟩
  | .hbm, ⟨15, _⟩ => ⟨S1024x4096, .bf16⟩
  | .hbm, ⟨16, _⟩ => ⟨S4096x1024, .bf16⟩
  | .hbm, ⟨17, _⟩ => ⟨S1024x1024, .bf16⟩
  | .hbm, ⟨18, _⟩ => ⟨S4x32768x256, .f32⟩
  | .hbm, ⟨19, _⟩ => ⟨S256x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x512x256, .f32⟩
  | .local _ .vmem, ⟨13, _⟩ => ⟨S1x512x256, .f32⟩
  | .local _ .vmem, ⟨14, _⟩ => ⟨S256x1024, .bf16⟩
  | .local _ .vmem, ⟨15, _⟩ => ⟨S512x1024, .f32⟩
  | .local _ .vmem, ⟨16, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostReferenceIdeal.lean ====
abbrev S8x4096x1024 : Shape := ⟨3, ![8, 4096, 1024]⟩
abbrev S4x8x4096x256 : Shape := ⟨4, ![4, 8, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S1x8x4096x256 : Shape := ⟨4, ![1, 8, 4096, 256]⟩
abbrev S8x4096x256 : Shape := ⟨3, ![8, 4096, 256]⟩
abbrev S32768x1024 : Shape := ⟨2, ![32768, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S4x8x4096x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S256x1024, .f32⟩
  | .hbm, ⟨12, _⟩ => ⟨S8x4096x1024, .f32⟩
  | .hbm, ⟨13, _⟩ => ⟨S_, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S1x1x1024, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S8x4096x4096, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x1024, .f32⟩
  | .hbm, ⟨52, _⟩ => ⟨S_, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1024, .f32⟩
  | .hbm, ⟨72, _⟩ => ⟨S8x4096x1024, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x1, .f32⟩
  | .hbm, ⟨77, _⟩ => ⟨S8x4096x1024, .f32⟩
  | .hbm, ⟨78, _⟩ => ⟨S8x4096x1024, .f32⟩
  | .hbm, ⟨79, _⟩ => ⟨S1x1x1024, .f32⟩
  | .hbm, ⟨80, _⟩ => ⟨S8x4096x1024, .f32⟩
  | .hbm, ⟨81, _⟩ => ⟨S8x4096x1024, .f32⟩
  | .hbm, ⟨82, _⟩ => ⟨S1x1x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S_, .f32⟩
  | .hbm, ⟨89, _⟩ => ⟨S8x4096x1024, .f32⟩
  | .hbm, ⟨90, _⟩ => ⟨S8x4096x1024, .f32⟩
  | .hbm, ⟨91, _⟩ => ⟨S_, .f32⟩
  | .hbm, ⟨92, _⟩ => ⟨S8x4096x1024, .f32⟩
  | .hbm, ⟨93, _⟩ => ⟨S8x4096x1024, .f32⟩
  | .hbm, ⟨94, _⟩ => ⟨S1x8x4096x256, .f32⟩
  | .hbm, ⟨95, _⟩ => ⟨S8x4096x256, .f32⟩
  | .hbm, ⟨96, _⟩ => ⟨S8x4096x1024, .f32⟩
  | .hbm, ⟨97, _⟩ => ⟨S8x4096x1024, .f32⟩
  | .hbm, ⟨98, _⟩ => ⟨S8x4096x1024, .f32⟩
  | .hbm, ⟨99, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== PostEven.lean ====
abbrev S8x4096x1024 : Shape := ⟨3, ![8, 4096, 1024]⟩
abbrev S8x4096x512 : Shape := ⟨3, ![8, 4096, 512]⟩
abbrev S4x8x4096x256 : Shape := ⟨4, ![4, 8, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S32768x512 : Shape := ⟨2, ![32768, 512]⟩
abbrev S512x1024 : Shape := ⟨2, ![512, 1024]⟩
abbrev S32768x1024 : Shape := ⟨2, ![32768, 1024]⟩
abbrev S8x64x1024 : Shape := ⟨3, ![8, 64, 1024]⟩
abbrev S_ : Shape := ⟨0, ![]⟩
abbrev S8x128x1024 : Shape := ⟨3, ![8, 128, 1024]⟩
abbrev S4x32768x256 : Shape := ⟨3, ![4, 32768, 256]⟩
abbrev S1x1024 : Shape := ⟨2, ![1, 1024]⟩
abbrev S512x512 : Shape := ⟨2, ![512, 512]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 35
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x1024, .f32⟩
  | .hbm, ⟨3, _⟩ => ⟨S4x8x4096x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S32768x512, .f32⟩
  | .hbm, ⟨14, _⟩ => ⟨S512x1024, .f32⟩
  | .hbm, ⟨15, _⟩ => ⟨S512x1024, .bf16⟩
  | .hbm, ⟨16, _⟩ => ⟨S32768x1024, .f32⟩
  | .hbm, ⟨17, _⟩ => ⟨S512x1024, .f32⟩
  | .hbm, ⟨18, _⟩ => ⟨S8x64x1024, .f32⟩
  | .hbm, ⟨19, _⟩ => ⟨S_, .i32⟩
  | .hbm, ⟨20, _⟩ => ⟨S_, .f32⟩
  | .hbm, ⟨21, _⟩ => ⟨S8x128x1024, .f32⟩
  | .hbm, ⟨22, _⟩ => ⟨S1024x1024, .f32⟩
  | .hbm, ⟨23, _⟩ => ⟨S1024x1024, .bf16⟩
  | .hbm, ⟨24, _⟩ => ⟨S32768x1024, .f32⟩
  | .hbm, ⟨25, _⟩ => ⟨S1024x4096, .bf16⟩
  | .hbm, ⟨26, _⟩ => ⟨S4096x1024, .bf16⟩
  | .hbm, ⟨27, _⟩ => ⟨S1024x1024, .bf16⟩
  | .hbm, ⟨28, _⟩ => ⟨S4x32768x256, .f32⟩
  | .hbm, ⟨29, _⟩ => ⟨S256x1024, .bf16⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1x512x256, .f32⟩
  | .local _ .vmem, ⟨16, _⟩ => ⟨S1x512x256, .f32⟩
  | .local _ .vmem, ⟨17, _⟩ => ⟨S256x1024, .bf16⟩
  | .local _ .vmem, ⟨18, _⟩ => ⟨S512x1024, .f32⟩
  | .local _ .vmem, ⟨19, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PostEvenReferenceIdeal.lean ====
abbrev S8x4096x1024 : Shape := ⟨3, ![8, 4096, 1024]⟩
abbrev S8x4096x512 : Shape := ⟨3, ![8, 4096, 512]⟩
abbrev S4x8x4096x256 : Shape := ⟨4, ![4, 8, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S8x4096x8x128 : Shape := ⟨4, ![8, 4096, 8, 128]⟩
abbrev S8x4096x8x64 : Shape := ⟨4, ![8, 4096, 8, 64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S1x8x4096x256 : Shape := ⟨4, ![1, 8, 4096, 256]⟩
abbrev S8x4096x256 : Shape := ⟨3, ![8, 4096, 256]⟩
abbrev S32768x1024 : Shape := ⟨2, ![32768, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x1024, .f32⟩
  | .hbm, ⟨3, _⟩ => ⟨S4x8x4096x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S8x4096x8x128, .f32⟩
  | .hbm, ⟨14, _⟩ => ⟨S8x4096x8x64, .f32⟩
  | .hbm, ⟨15, _⟩ => ⟨S8x4096x512, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S8x4096x4096, .f32⟩
  | .hbm, ⟨52, _⟩ => ⟨S_, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x1024, .f32⟩
  | .hbm, ⟨57, _⟩ => ⟨S_, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x4096, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S8x4096x1, .f32⟩
  | .hbm, ⟨82, _⟩ => ⟨S8x4096x1024, .f32⟩
  | .hbm, ⟨83, _⟩ => ⟨S8x4096x1024, .f32⟩
  | .hbm, ⟨84, _⟩ => ⟨S1x1x1024, .f32⟩
  | .hbm, ⟨85, _⟩ => ⟨S8x4096x1024, .f32⟩
  | .hbm, ⟨86, _⟩ => ⟨S8x4096x1024, .f32⟩
  | .hbm, ⟨87, _⟩ => ⟨S1x1x1024, .f32⟩
  | .hbm, ⟨88, _⟩ => ⟨S8x4096x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S_, .f32⟩
  | .hbm, ⟨94, _⟩ => ⟨S8x4096x1024, .f32⟩
  | .hbm, ⟨95, _⟩ => ⟨S8x4096x1024, .f32⟩
  | .hbm, ⟨96, _⟩ => ⟨S_, .f32⟩
  | .hbm, ⟨97, _⟩ => ⟨S8x4096x1024, .f32⟩
  | .hbm, ⟨98, _⟩ => ⟨S8x4096x1024, .f32⟩
  | .hbm, ⟨99, _⟩ => ⟨S1x8x4096x256, .f32⟩
  | .hbm, ⟨100, _⟩ => ⟨S8x4096x256, .f32⟩
  | .hbm, ⟨101, _⟩ => ⟨S8x4096x1024, .f32⟩
  | .hbm, ⟨102, _⟩ => ⟨S8x4096x1024, .f32⟩
  | .hbm, ⟨103, _⟩ => ⟨S8x4096x1024, .f32⟩
  | .hbm, ⟨104, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== PostLast.lean ====
abbrev S8x4096x1024 : Shape := ⟨3, ![8, 4096, 1024]⟩
abbrev S4x8x4096x256 : Shape := ⟨4, ![4, 8, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S32768x1024 : Shape := ⟨2, ![32768, 1024]⟩
abbrev S4x32768x256 : Shape := ⟨3, ![4, 32768, 256]⟩
abbrev S1x1024 : Shape := ⟨2, ![1, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 25
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S4x8x4096x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S256x1024, .f32⟩
  | .hbm, ⟨12, _⟩ => ⟨S32768x1024, .f32⟩
  | .hbm, ⟨13, _⟩ => ⟨S1024x1024, .bf16⟩
  | .hbm, ⟨14, _⟩ => ⟨S32768x1024, .f32⟩
  | .hbm, ⟨15, _⟩ => ⟨S1024x4096, .bf16⟩
  | .hbm, ⟨16, _⟩ => ⟨S4096x1024, .bf16⟩
  | .hbm, ⟨17, _⟩ => ⟨S1024x1024, .bf16⟩
  | .hbm, ⟨18, _⟩ => ⟨S4x32768x256, .f32⟩
  | .hbm, ⟨19, _⟩ => ⟨S256x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x512x256, .f32⟩
  | .local _ .vmem, ⟨13, _⟩ => ⟨S1x512x256, .f32⟩
  | .local _ .vmem, ⟨14, _⟩ => ⟨S256x1024, .bf16⟩
  | .local _ .vmem, ⟨15, _⟩ => ⟨S512x1024, .f32⟩
  | .local _ .vmem, ⟨16, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostLastIdeal.lean ====
abbrev S8x4096x1024 : Shape := ⟨3, ![8, 4096, 1024]⟩
abbrev S4x8x4096x256 : Shape := ⟨4, ![4, 8, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S32768x1024 : Shape := ⟨2, ![32768, 1024]⟩
abbrev S4x32768x256 : Shape := ⟨3, ![4, 32768, 256]⟩
abbrev S1x1024 : Shape := ⟨2, ![1, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 25
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S4x8x4096x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S256x1024, .f32⟩
  | .hbm, ⟨12, _⟩ => ⟨S32768x1024, .f32⟩
  | .hbm, ⟨13, _⟩ => ⟨S1024x1024, .bf16⟩
  | .hbm, ⟨14, _⟩ => ⟨S32768x1024, .f32⟩
  | .hbm, ⟨15, _⟩ => ⟨S1024x4096, .bf16⟩
  | .hbm, ⟨16, _⟩ => ⟨S4096x1024, .bf16⟩
  | .hbm, ⟨17, _⟩ => ⟨S1024x1024, .bf16⟩
  | .hbm, ⟨18, _⟩ => ⟨S4x32768x256, .f32⟩
  | .hbm, ⟨19, _⟩ => ⟨S256x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x512x256, .f32⟩
  | .local _ .vmem, ⟨13, _⟩ => ⟨S1x512x256, .f32⟩
  | .local _ .vmem, ⟨14, _⟩ => ⟨S256x1024, .bf16⟩
  | .local _ .vmem, ⟨15, _⟩ => ⟨S512x1024, .f32⟩
  | .local _ .vmem, ⟨16, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostLastReferenceIdeal.lean ====
abbrev S8x4096x1024 : Shape := ⟨3, ![8, 4096, 1024]⟩
abbrev S4x8x4096x256 : Shape := ⟨4, ![4, 8, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S1x8x4096x256 : Shape := ⟨4, ![1, 8, 4096, 256]⟩
abbrev S8x4096x256 : Shape := ⟨3, ![8, 4096, 256]⟩
abbrev S32768x1024 : Shape := ⟨2, ![32768, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S4x8x4096x256, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S256x1024, .f32⟩
  | .hbm, ⟨12, _⟩ => ⟨S8x4096x1024, .f32⟩
  | .hbm, ⟨13, _⟩ => ⟨S_, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S1x1x1024, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S8x4096x4096, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x1024, .f32⟩
  | .hbm, ⟨52, _⟩ => ⟨S_, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1024, .f32⟩
  | .hbm, ⟨72, _⟩ => ⟨S8x4096x1024, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x1, .f32⟩
  | .hbm, ⟨77, _⟩ => ⟨S8x4096x1024, .f32⟩
  | .hbm, ⟨78, _⟩ => ⟨S8x4096x1024, .f32⟩
  | .hbm, ⟨79, _⟩ => ⟨S1x1x1024, .f32⟩
  | .hbm, ⟨80, _⟩ => ⟨S8x4096x1024, .f32⟩
  | .hbm, ⟨81, _⟩ => ⟨S8x4096x1024, .f32⟩
  | .hbm, ⟨82, _⟩ => ⟨S1x1x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S_, .f32⟩
  | .hbm, ⟨89, _⟩ => ⟨S8x4096x1024, .f32⟩
  | .hbm, ⟨90, _⟩ => ⟨S8x4096x1024, .f32⟩
  | .hbm, ⟨91, _⟩ => ⟨S_, .f32⟩
  | .hbm, ⟨92, _⟩ => ⟨S8x4096x1024, .f32⟩
  | .hbm, ⟨93, _⟩ => ⟨S8x4096x1024, .f32⟩
  | .hbm, ⟨94, _⟩ => ⟨S1x8x4096x256, .f32⟩
  | .hbm, ⟨95, _⟩ => ⟨S8x4096x256, .f32⟩
  | .hbm, ⟨96, _⟩ => ⟨S8x4096x1024, .f32⟩
  | .hbm, ⟨97, _⟩ => ⟨S8x4096x1024, .f32⟩
  | .hbm, ⟨98, _⟩ => ⟨S8x4096x1024, .f32⟩
  | .hbm, ⟨99, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== PostEvenNext.lean ====
abbrev S8x4096x1024 : Shape := ⟨3, ![8, 4096, 1024]⟩
abbrev S8x4096x512 : Shape := ⟨3, ![8, 4096, 512]⟩
abbrev S4x8x4096x256 : Shape := ⟨4, ![4, 8, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S32768x512 : Shape := ⟨2, ![32768, 512]⟩
abbrev S512x1024 : Shape := ⟨2, ![512, 1024]⟩
abbrev S32768x1024 : Shape := ⟨2, ![32768, 1024]⟩
abbrev S8x64x1024 : Shape := ⟨3, ![8, 64, 1024]⟩
abbrev S_ : Shape := ⟨0, ![]⟩
abbrev S8x128x1024 : Shape := ⟨3, ![8, 128, 1024]⟩
abbrev S4x32768x256 : Shape := ⟨3, ![4, 32768, 256]⟩
abbrev S1x1024 : Shape := ⟨2, ![1, 1024]⟩
abbrev S512x512 : Shape := ⟨2, ![512, 512]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 35
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x1024, .f32⟩
  | .hbm, ⟨3, _⟩ => ⟨S4x8x4096x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S32768x512, .f32⟩
  | .hbm, ⟨14, _⟩ => ⟨S512x1024, .f32⟩
  | .hbm, ⟨15, _⟩ => ⟨S512x1024, .bf16⟩
  | .hbm, ⟨16, _⟩ => ⟨S32768x1024, .f32⟩
  | .hbm, ⟨17, _⟩ => ⟨S512x1024, .f32⟩
  | .hbm, ⟨18, _⟩ => ⟨S8x64x1024, .f32⟩
  | .hbm, ⟨19, _⟩ => ⟨S_, .i32⟩
  | .hbm, ⟨20, _⟩ => ⟨S_, .f32⟩
  | .hbm, ⟨21, _⟩ => ⟨S8x128x1024, .f32⟩
  | .hbm, ⟨22, _⟩ => ⟨S1024x1024, .f32⟩
  | .hbm, ⟨23, _⟩ => ⟨S1024x1024, .bf16⟩
  | .hbm, ⟨24, _⟩ => ⟨S32768x1024, .f32⟩
  | .hbm, ⟨25, _⟩ => ⟨S1024x4096, .bf16⟩
  | .hbm, ⟨26, _⟩ => ⟨S4096x1024, .bf16⟩
  | .hbm, ⟨27, _⟩ => ⟨S1024x1024, .bf16⟩
  | .hbm, ⟨28, _⟩ => ⟨S4x32768x256, .f32⟩
  | .hbm, ⟨29, _⟩ => ⟨S256x1024, .bf16⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1x512x256, .f32⟩
  | .local _ .vmem, ⟨16, _⟩ => ⟨S1x512x256, .f32⟩
  | .local _ .vmem, ⟨17, _⟩ => ⟨S256x1024, .bf16⟩
  | .local _ .vmem, ⟨18, _⟩ => ⟨S512x1024, .f32⟩
  | .local _ .vmem, ⟨19, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PostEvenNextReferenceIdeal.lean ====
abbrev S8x4096x1024 : Shape := ⟨3, ![8, 4096, 1024]⟩
abbrev S8x4096x512 : Shape := ⟨3, ![8, 4096, 512]⟩
abbrev S4x8x4096x256 : Shape := ⟨4, ![4, 8, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S8x4096x8x128 : Shape := ⟨4, ![8, 4096, 8, 128]⟩
abbrev S8x4096x8x64 : Shape := ⟨4, ![8, 4096, 8, 64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S1x8x4096x256 : Shape := ⟨4, ![1, 8, 4096, 256]⟩
abbrev S8x4096x256 : Shape := ⟨3, ![8, 4096, 256]⟩
abbrev S32768x1024 : Shape := ⟨2, ![32768, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x1024, .f32⟩
  | .hbm, ⟨3, _⟩ => ⟨S4x8x4096x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S8x4096x8x128, .f32⟩
  | .hbm, ⟨14, _⟩ => ⟨S8x4096x8x64, .f32⟩
  | .hbm, ⟨15, _⟩ => ⟨S8x4096x512, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S8x4096x4096, .f32⟩
  | .hbm, ⟨52, _⟩ => ⟨S_, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x1024, .f32⟩
  | .hbm, ⟨57, _⟩ => ⟨S_, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x4096, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S8x4096x1, .f32⟩
  | .hbm, ⟨82, _⟩ => ⟨S8x4096x1024, .f32⟩
  | .hbm, ⟨83, _⟩ => ⟨S8x4096x1024, .f32⟩
  | .hbm, ⟨84, _⟩ => ⟨S1x1x1024, .f32⟩
  | .hbm, ⟨85, _⟩ => ⟨S8x4096x1024, .f32⟩
  | .hbm, ⟨86, _⟩ => ⟨S8x4096x1024, .f32⟩
  | .hbm, ⟨87, _⟩ => ⟨S1x1x1024, .f32⟩
  | .hbm, ⟨88, _⟩ => ⟨S8x4096x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S_, .f32⟩
  | .hbm, ⟨94, _⟩ => ⟨S8x4096x1024, .f32⟩
  | .hbm, ⟨95, _⟩ => ⟨S8x4096x1024, .f32⟩
  | .hbm, ⟨96, _⟩ => ⟨S_, .f32⟩
  | .hbm, ⟨97, _⟩ => ⟨S8x4096x1024, .f32⟩
  | .hbm, ⟨98, _⟩ => ⟨S8x4096x1024, .f32⟩
  | .hbm, ⟨99, _⟩ => ⟨S1x8x4096x256, .f32⟩
  | .hbm, ⟨100, _⟩ => ⟨S8x4096x256, .f32⟩
  | .hbm, ⟨101, _⟩ => ⟨S8x4096x1024, .f32⟩
  | .hbm, ⟨102, _⟩ => ⟨S8x4096x1024, .f32⟩
  | .hbm, ⟨103, _⟩ => ⟨S8x4096x1024, .f32⟩
  | .hbm, ⟨104, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Proof.KernelIdealBodyPos.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.LoopRemainder

/-!
# One grid point of the attention kernel

The kernel's body at one grid point, as a triple: it reads its six inputs and leaves them as they were, it leaves the
output block written by eight stores (one per query head), and it leaves the three scratch buffers at some contents.
The body has one conditional (the odd leftover chunk of the selected-key loop), so there is one run per outcome.
-/

@[expose] public section

set_option maxRecDepth 16384
set_option warn.classDefReducibility false
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The invariant of the loop over pairs of full key chunks. The loop's region reads none of the values computed
before it, so they are given here by arbitrary ones of their types. -/
@[sl_loop] def pairLoop (𝒱 : Variants) (c : Dev nD) (bd : Option 𝒱.V) (E : Set ℕ) (i : grid0.Coords)
    (arg2 : Memref sig .tc .vmem S1x8x256x128 .bf16) (harg2 : arg2.IsWhole)
    (arg3 : Memref sig .tc .vmem S1x8x4096x128 .bf16) (harg3 : arg3.IsWhole)
    (arg4 : Memref sig .tc .vmem S1x4x256x128 .f32) (harg4 : arg4.IsWhole)
    (arg5 : Memref sig .tc .vmem S1x256x128 .f32) (harg5 : arg5.IsWhole)
    (arg6 : Memref sig .tc .vmem S1x128 .f32) (harg6 : arg6.IsWhole)
    (arg7 : Memref sig .tc .vmem S64x256 .f32) (harg7 : arg7.IsWhole)
    (arg8 : Memref sig .tc .vmem S1x256x1024 .bf16) (harg8 : arg8.IsWhole)
    (arg9 : Memref sig .tc .vmem S2048x128 .f32) (harg9 : arg9.IsWhole)
    (arg10 : Memref sig .tc .vmem S2048x128 .f32) (harg10 : arg10.IsWhole)
    (arg11 : Memref sig .tc .vmem S2048x128 .bf16) (harg11 : arg11.IsWhole)
    (X3 : BufTy.Contents (Elt F) arg3.view.ty) (X11 : BufTy.Contents (Elt F) arg11.view.ty)
    (G9 : BufTy.Contents (Elt F) arg9.view.ty)
    (init : FVec F S4x256x1 .f32 × FVec F S4x256x1 .f32 × FVec F S4x256x1 .f32 × FVec F S4x256x1 .f32) :
  Idealize.ShloMosaic.LoopInv (M := MT nD τ sig Unit (Elt F) ℕ (UR sig nD τ) ℕ) Idealize.ShloMosaic.frame (wpE defs₀ 𝒱 (c : Thread nD τ) bd) E
    (k0_t1_loop i).lb (k0_t1_loop i).ub (k0_t1_loop i).st (k0_t1_ok i) init (k0_t1_body (F := F) i arg2 harg2 arg3 harg3 arg4 harg4 arg5 harg5 arg6 harg6 arg7 harg7 arg8 harg8 arg9 harg9 arg10 harg10 arg11 harg11 k0_pay212 k0_pay213 k0_pay214 k0_pay215 0#32 0#32 0#32 0#32) :=
  loopInv_k0_t1 𝒱 c bd E i arg2 harg2 arg3 harg3 arg4 harg4 arg5 harg5 arg6 harg6 arg7 harg7 arg8 harg8 arg9 harg9 arg10 harg10 arg11 harg11
    k0_pay212 k0_pay213 k0_pay214 k0_pay215 0#32 0#32 0#32 0#32 X3 X11 G9 init

/-- The run where the conditional's test holds: the eight stores it makes into the output block. -/
def runPos (𝒱 : Variants) (c : Dev nD) (bd : Option 𝒱.V) (i : grid0.Coords)
    (arg2 : Memref sig .tc .vmem S1x8x256x128 .bf16) (harg2 : arg2.IsWhole)
    (arg3 : Memref sig .tc .vmem S1x8x4096x128 .bf16) (harg3 : arg3.IsWhole)
    (arg4 : Memref sig .tc .vmem S1x4x256x128 .f32) (harg4 : arg4.IsWhole)
    (arg5 : Memref sig .tc .vmem S1x256x128 .f32) (harg5 : arg5.IsWhole)
    (arg6 : Memref sig .tc .vmem S1x128 .f32) (harg6 : arg6.IsWhole)
    (arg7 : Memref sig .tc .vmem S64x256 .f32) (harg7 : arg7.IsWhole)
    (arg8 : Memref sig .tc .vmem S1x256x1024 .bf16) (harg8 : arg8.IsWhole)
    (arg9 : Memref sig .tc .vmem S2048x128 .f32) (harg9 : arg9.IsWhole)
    (arg10 : Memref sig .tc .vmem S2048x128 .f32) (harg10 : arg10.IsWhole)
    (arg11 : Memref sig .tc .vmem S2048x128 .bf16) (harg11 : arg11.IsWhole)
    (hC : k0_cond1 i = 1#1) (X2 : S1x8x256x128.Idx → Elt F .bf16) (X3 : S1x8x4096x128.Idx → Elt F .bf16) (X4 : S1x4x256x128.Idx → Elt F .f32) (X5 : S1x256x128.Idx → Elt F .f32) (X6 : S1x128.Idx → Elt F .f32) (X7 : S64x256.Idx → Elt F .f32) :
    { L8 : List (View.Piece (Elt F) S1x256x1024 .bf16) // ∀ (E : Set ℕ) (K : PUnit → sProp 𝕄),
      iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg9 fullShare d) ∗ (∃ d, owns (c : Thread nD τ) arg10 fullShare d) ∗ (∃ d, owns (c : Thread nD τ) arg11 fullShare d) ∗ (∃ f, arg8.view.loc (c : Thread nD τ) ↦[arg8.view.set]{fullShare} arg8.view.writes (Elt F) f L8)) : sProp 𝕄) -∗ K ⟨⟩))
      ⊢ wp frame (wpE (defs₀ (F := F)) 𝒱 (c : Thread nD τ) bd) E
          (cc0__nsa_kernel (F := F) i arg2 harg2 arg3 harg3 arg4 harg4 arg5 harg5 arg6 harg6 arg7 harg7 arg8 harg8 arg9 harg9 arg10 harg10 arg11 harg11) K } := by
  refine ⟨?_, fun E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    simp only [cc0__nsa_kernel_eq_skeleton]; unfold cc0__nsa_kernel_skel
    simp only [k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    sl_exec_parts! (disch := sl_exact hC)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _; iexact H8

/-- The eight stores tile the output block, so they cover it. -/
theorem coverPos (𝒱 : Variants) (c : Dev nD) (bd : Option 𝒱.V) (i : grid0.Coords)
    (arg2 : Memref sig .tc .vmem S1x8x256x128 .bf16) (harg2 : arg2.IsWhole)
    (arg3 : Memref sig .tc .vmem S1x8x4096x128 .bf16) (harg3 : arg3.IsWhole)
    (arg4 : Memref sig .tc .vmem S1x4x256x128 .f32) (harg4 : arg4.IsWhole)
    (arg5 : Memref sig .tc .vmem S1x256x128 .f32) (harg5 : arg5.IsWhole)
    (arg6 : Memref sig .tc .vmem S1x128 .f32) (harg6 : arg6.IsWhole)
    (arg7 : Memref sig .tc .vmem S64x256 .f32) (harg7 : arg7.IsWhole)
    (arg8 : Memref sig .tc .vmem S1x256x1024 .bf16) (harg8 : arg8.IsWhole)
    (arg9 : Memref sig .tc .vmem S2048x128 .f32) (harg9 : arg9.IsWhole)
    (arg10 : Memref sig .tc .vmem S2048x128 .f32) (harg10 : arg10.IsWhole)
    (arg11 : Memref sig .tc .vmem S2048x128 .bf16) (harg11 : arg11.IsWhole)
    (hC : k0_cond1 i = 1#1) (X2 : S1x8x256x128.Idx → Elt F .bf16) (X3 : S1x8x4096x128.Idx → Elt F .bf16) (X4 : S1x4x256x128.Idx → Elt F .f32) (X5 : S1x256x128.Idx → Elt F .f32) (X6 : S1x128.Idx → Elt F .f32) (X7 : S64x256.Idx → Elt F .f32) (y : S1x256x1024.Idx) :
    ∃ pc ∈ (runPos 𝒱 c bd i arg2 harg2 arg3 harg3 arg4 harg4 arg5 harg5 arg6 harg6 arg7 harg7 arg8 harg8 arg9 harg9 arg10 harg10 arg11 harg11 hC X2 X3 X4 X5 X6 X7).1, y ∈ pc.1.set :=
  View.cover_of_tiledL (runPos 𝒱 c bd i arg2 harg2 arg3 harg3 arg4 harg4 arg5 harg5 arg6 harg6 arg7 harg7 arg8 harg8 arg9 harg9 arg10 harg10 arg11 harg11 hC X2 X3 X4 X5 X6 X7).1 S1x256x128.size (by sl_kernel_rfl) y

end Cert.KernelIdeal.Hand
-- ==== Proof.KernelIdealBodyNeg.lean ====
module

public import proofs.«01_k».proof.Proof.KernelIdealBodyPos
public import proofs.«01_k».proof.Proof.Gen.KernelIdeal.Frame
public import proofs.«01_k».proof.Proof.Gen.KernelIdeal.Loops
public import proofs.«01_k».proof.Proof.Gen.KernelIdeal.Skeleton
public import Idealize.ShloMosaic.Lib.LoopRemainder

/-!
# One grid point of the attention kernel

The kernel's body at one grid point, as a triple: it reads its six inputs and leaves them as they were, it leaves the
output block written by eight stores (one per query head), and it leaves the three scratch buffers at some contents.
The body has one conditional (the odd leftover chunk of the selected-key loop), so there is one run per outcome.
-/

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The run where the conditional's test fails: the eight stores it makes into the output block. -/
def runNeg (𝒱 : Variants) (c : Dev nD) (bd : Option 𝒱.V) (i : grid0.Coords)
    (arg2 : Memref sig .tc .vmem S1x8x256x128 .bf16) (harg2 : arg2.IsWhole)
    (arg3 : Memref sig .tc .vmem S1x8x4096x128 .bf16) (harg3 : arg3.IsWhole)
    (arg4 : Memref sig .tc .vmem S1x4x256x128 .f32) (harg4 : arg4.IsWhole)
    (arg5 : Memref sig .tc .vmem S1x256x128 .f32) (harg5 : arg5.IsWhole)
    (arg6 : Memref sig .tc .vmem S1x128 .f32) (harg6 : arg6.IsWhole)
    (arg7 : Memref sig .tc .vmem S64x256 .f32) (harg7 : arg7.IsWhole)
    (arg8 : Memref sig .tc .vmem S1x256x1024 .bf16) (harg8 : arg8.IsWhole)
    (arg9 : Memref sig .tc .vmem S2048x128 .f32) (harg9 : arg9.IsWhole)
    (arg10 : Memref sig .tc .vmem S2048x128 .f32) (harg10 : arg10.IsWhole)
    (arg11 : Memref sig .tc .vmem S2048x128 .bf16) (harg11 : arg11.IsWhole)
    (hC : ¬ k0_cond1 i = 1#1) (X2 : S1x8x256x128.Idx → Elt F .bf16) (X3 : S1x8x4096x128.Idx → Elt F .bf16) (X4 : S1x4x256x128.Idx → Elt F .f32) (X5 : S1x256x128.Idx → Elt F .f32) (X6 : S1x128.Idx → Elt F .f32) (X7 : S64x256.Idx → Elt F .f32) :
    { L8 : List (View.Piece (Elt F) S1x256x1024 .bf16) // ∀ (E : Set ℕ) (K : PUnit → sProp 𝕄),
      iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg9 fullShare d) ∗ (∃ d, owns (c : Thread nD τ) arg10 fullShare d) ∗ (∃ d, owns (c : Thread nD τ) arg11 fullShare d) ∗ (∃ f, arg8.view.loc (c : Thread nD τ) ↦[arg8.view.set]{fullShare} arg8.view.writes (Elt F) f L8)) : sProp 𝕄) -∗ K ⟨⟩))
      ⊢ wp frame (wpE (defs₀ (F := F)) 𝒱 (c : Thread nD τ) bd) E
          (cc0__nsa_kernel (F := F) i arg2 harg2 arg3 harg3 arg4 harg4 arg5 harg5 arg6 harg6 arg7 harg7 arg8 harg8 arg9 harg9 arg10 harg10 arg11 harg11) K } := by
  refine ⟨?_, fun E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    simp only [cc0__nsa_kernel_eq_skeleton]; unfold cc0__nsa_kernel_skel
    simp only [k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    sl_exec_parts! (disch := sl_exact hC)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _; iexact H8

/-- The eight stores tile the output block, so they cover it. -/
theorem coverNeg (𝒱 : Variants) (c : Dev nD) (bd : Option 𝒱.V) (i : grid0.Coords)
    (arg2 : Memref sig .tc .vmem S1x8x256x128 .bf16) (harg2 : arg2.IsWhole)
    (arg3 : Memref sig .tc .vmem S1x8x4096x128 .bf16) (harg3 : arg3.IsWhole)
    (arg4 : Memref sig .tc .vmem S1x4x256x128 .f32) (harg4 : arg4.IsWhole)
    (arg5 : Memref sig .tc .vmem S1x256x128 .f32) (harg5 : arg5.IsWhole)
    (arg6 : Memref sig .tc .vmem S1x128 .f32) (harg6 : arg6.IsWhole)
    (arg7 : Memref sig .tc .vmem S64x256 .f32) (harg7 : arg7.IsWhole)
    (arg8 : Memref sig .tc .vmem S1x256x1024 .bf16) (harg8 : arg8.IsWhole)
    (arg9 : Memref sig .tc .vmem S2048x128 .f32) (harg9 : arg9.IsWhole)
    (arg10 : Memref sig .tc .vmem S2048x128 .f32) (harg10 : arg10.IsWhole)
    (arg11 : Memref sig .tc .vmem S2048x128 .bf16) (harg11 : arg11.IsWhole)
    (hC : ¬ k0_cond1 i = 1#1) (X2 : S1x8x256x128.Idx → Elt F .bf16) (X3 : S1x8x4096x128.Idx → Elt F .bf16) (X4 : S1x4x256x128.Idx → Elt F .f32) (X5 : S1x256x128.Idx → Elt F .f32) (X6 : S1x128.Idx → Elt F .f32) (X7 : S64x256.Idx → Elt F .f32) (y : S1x256x1024.Idx) :
    ∃ pc ∈ (runNeg 𝒱 c bd i arg2 harg2 arg3 harg3 arg4 harg4 arg5 harg5 arg6 harg6 arg7 harg7 arg8 harg8 arg9 harg9 arg10 harg10 arg11 harg11 hC X2 X3 X4 X5 X6 X7).1, y ∈ pc.1.set :=
  View.cover_of_tiledL (runNeg 𝒱 c bd i arg2 harg2 arg3 harg3 arg4 harg4 arg5 harg5 arg6 harg6 arg7 harg7 arg8 harg8 arg9 harg9 arg10 harg10 arg11 harg11 hC X2 X3 X4 X5 X6 X7).1 S1x256x128.size (by sl_kernel_rfl) y

end Cert.KernelIdeal.Hand
-- ==== Proof.KernelIdealRun.lean ====
module

public import proofs.«01_k».proof.Proof.KernelIdealBodyPos
public import proofs.«01_k».proof.Proof.KernelIdealBodyNeg
public import proofs.«01_k».proof.Proof.Gen.KernelIdeal.Points
public import proofs.«01_k».proof.Proof.Gen.KernelIdeal.Launch

/-!
# The run of the attention program `KernelIdeal`

The two runs of the body (`runPos`, `runNeg`) joined into one statement about a grid point, the proof data of the
pipeline (what each window holds after a point), the body obligation, and the run of the whole program. The result
window's contents after a point are exact: the eight stores cover the block, so they do not depend on what it held.
-/

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Window 0's staging buffer at point `t`. -/
abbrev ms0 (t : Fin cfg0.N) := win0_0.stage (cfg0.slots t 0)
/-- It is a whole buffer. -/
theorem hs0 (t : Fin cfg0.N) : (ms0 t).IsWhole := hstage0_0 ((cfg0.slots t 0).cast nbuf0_0)
/-- Window 1's staging buffer at point `t`. -/
abbrev ms1 (t : Fin cfg0.N) := win0_1.stage (cfg0.slots t 1)
/-- It is a whole buffer. -/
theorem hs1 (t : Fin cfg0.N) : (ms1 t).IsWhole := hstage0_1 ((cfg0.slots t 1).cast nbuf0_1)
/-- Window 2's staging buffer at point `t`. -/
abbrev ms2 (t : Fin cfg0.N) := win0_2.stage (cfg0.slots t 2)
/-- It is a whole buffer. -/
theorem hs2 (t : Fin cfg0.N) : (ms2 t).IsWhole := hstage0_2 ((cfg0.slots t 2).cast nbuf0_2)
/-- Window 3's staging buffer at point `t`. -/
abbrev ms3 (t : Fin cfg0.N) := win0_3.stage (cfg0.slots t 3)
/-- It is a whole buffer. -/
theorem hs3 (t : Fin cfg0.N) : (ms3 t).IsWhole := hstage0_3 ((cfg0.slots t 3).cast nbuf0_3)
/-- Window 4's staging buffer at point `t`. -/
abbrev ms4 (t : Fin cfg0.N) := win0_4.stage (cfg0.slots t 4)
/-- It is a whole buffer. -/
theorem hs4 (t : Fin cfg0.N) : (ms4 t).IsWhole := hstage0_4 ((cfg0.slots t 4).cast nbuf0_4)
/-- Window 5's staging buffer at point `t`. -/
abbrev ms5 (t : Fin cfg0.N) := win0_5.stage (cfg0.slots t 5)
/-- It is a whole buffer. -/
theorem hs5 (t : Fin cfg0.N) : (ms5 t).IsWhole := hstage0_5 ((cfg0.slots t 5).cast nbuf0_5)
/-- Window 6's staging buffer at point `t`. -/
abbrev ms6 (t : Fin cfg0.N) := win0_6.stage (cfg0.slots t 6)
/-- It is a whole buffer. -/
theorem hs6 (t : Fin cfg0.N) : (ms6 t).IsWhole := hstage0_6 ((cfg0.slots t 6).cast nbuf0_6)

open Classical in
/-- What the output block holds after point `t`: the eight stores of that point's run read back. -/
def outAt (c : Dev nD) (t : Fin cfg0.N) : S1x256x1024.Idx → Elt F .bf16 :=
  if h : k0_cond1 (grid0.coords t) = 1#1 then
    View.canon (runPos (F := F) Variants.none c none (grid0.coords t) (ms0 t) (hs0 t) (ms1 t) (hs1 t) (ms2 t) (hs2 t) (ms3 t) (hs3 t) (ms4 t) (hs4 t) (ms5 t) (hs5 t) (ms6 t) (hs6 t) (Memref.whole cc0_scratch0) (Memref.isWhole_whole _) (Memref.whole cc0_scratch1) (Memref.isWhole_whole _) (Memref.whole cc0_scratch2) (Memref.isWhole_whole _) h (iblk m c 0 t) (iblk m c 1 t) (iblk m c 2 t) (iblk m c 3 t) (iblk m c 4 t) (iblk m c 5 t)).1
  else
    View.canon (runNeg (F := F) Variants.none c none (grid0.coords t) (ms0 t) (hs0 t) (ms1 t) (hs1 t) (ms2 t) (hs2 t) (ms3 t) (hs3 t) (ms4 t) (hs4 t) (ms5 t) (hs5 t) (ms6 t) (hs6 t) (Memref.whole cc0_scratch0) (Memref.isWhole_whole _) (Memref.whole cc0_scratch1) (Memref.isWhole_whole _) (Memref.whole cc0_scratch2) (Memref.isWhole_whole _) h (iblk m c 0 t) (iblk m c 1 t) (iblk m c 2 t) (iblk m c 3 t) (iblk m c 4 t) (iblk m c 5 t)).1

/-- At a point where the conditional's test holds. -/
theorem outAt_pos (c : Dev nD) (t : Fin cfg0.N) (h : k0_cond1 (grid0.coords t) = 1#1) :
    outAt m c t = View.canon (runPos (F := F) Variants.none c none (grid0.coords t) (ms0 t) (hs0 t) (ms1 t) (hs1 t) (ms2 t) (hs2 t) (ms3 t) (hs3 t) (ms4 t) (hs4 t) (ms5 t) (hs5 t) (ms6 t) (hs6 t) (Memref.whole cc0_scratch0) (Memref.isWhole_whole _) (Memref.whole cc0_scratch1) (Memref.isWhole_whole _) (Memref.whole cc0_scratch2) (Memref.isWhole_whole _) h (iblk m c 0 t) (iblk m c 1 t) (iblk m c 2 t) (iblk m c 3 t) (iblk m c 4 t) (iblk m c 5 t)).1 := dif_pos h
/-- At a point where it fails. -/
theorem outAt_neg (c : Dev nD) (t : Fin cfg0.N) (h : ¬ k0_cond1 (grid0.coords t) = 1#1) :
    outAt m c t = View.canon (runNeg (F := F) Variants.none c none (grid0.coords t) (ms0 t) (hs0 t) (ms1 t) (hs1 t) (ms2 t) (hs2 t) (ms3 t) (hs3 t) (ms4 t) (hs4 t) (ms5 t) (hs5 t) (ms6 t) (hs6 t) (Memref.whole cc0_scratch0) (Memref.isWhole_whole _) (Memref.whole cc0_scratch1) (Memref.isWhole_whole _) (Memref.whole cc0_scratch2) (Memref.isWhole_whole _) h (iblk m c 0 t) (iblk m c 1 t) (iblk m c 2 t) (iblk m c 3 t) (iblk m c 4 t) (iblk m c 5 t)).1 := dif_neg h

/-- The proof data: the arrays as the region finds them, each input's block left in place, the output block at
`outAt`, the scratch buffers at some contents, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = outAt m c t := by dsimp only [dats]

/-- What a point's body runs from. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)))
/-- What it leaves. -/
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t))

/-- A scratch buffer owned at some contents, said of the buffer or of the memref that is all of it. -/
theorem scratch_eq (c : Dev nD) (b : Ref sig .tc) :
    (iprop(∃ d, owns (c : Thread nD τ) (Memref.whole b) fullShare d) : sProp 𝕄)
      = iprop(∃ f : Buf (Elt F) ((c : Thread nD τ).loc b), ((c : Thread nD τ).loc b) ↦{fullShare} f) :=
  congrArg _ (funext fun d => owns_whole (c : Thread nD τ) b fullShare d)

set_option backward.isDefEq.respectTransparency.types false in
/-- One grid point's body. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6]
  unfold Pipeline.ΦA
  rw [scopedRest0_eq, ← scratch_eq, ← scratch_eq, ← scratch_eq]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4, before_5]
  by_cases h : k0_cond1 (grid0.coords t) = 1#1
  · rw [outAt_pos m c t h]
    iapply ((runPos (F := F) Variants.none c none (grid0.coords t) (ms0 t) (hs0 t) (ms1 t) (hs1 t) (ms2 t) (hs2 t) (ms3 t) (hs3 t) (ms4 t) (hs4 t) (ms5 t) (hs5 t) (ms6 t) (hs6 t) (Memref.whole cc0_scratch0) (Memref.isWhole_whole _) (Memref.whole cc0_scratch1) (Memref.isWhole_whole _) (Memref.whole cc0_scratch2) (Memref.isWhole_whole _) h (iblk m c 0 t) (iblk m c 1 t) (iblk m c 2 t) (iblk m c 3 t) (iblk m c 4 t) (iblk m c 5 t)).2 _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexact S0
    isplitl [S1]; · iexact S1
    isplitl [S2]; · iexact S2
    iintro ⟨H0, H1, H2, H3, H4, H5, S0, S1, S2, ⟨%g6, H6⟩⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_eq_canon _ _ _ (coverPos (F := F) Variants.none c none (grid0.coords t) (ms0 t) (hs0 t) (ms1 t) (hs1 t) (ms2 t) (hs2 t) (ms3 t) (hs3 t) (ms4 t) (hs4 t) (ms5 t) (hs5 t) (ms6 t) (hs6 t) (Memref.whole cc0_scratch0) (Memref.isWhole_whole _) (Memref.whole cc0_scratch1) (Memref.isWhole_whole _) (Memref.whole cc0_scratch2) (Memref.isWhole_whole _) h (iblk m c 0 t) (iblk m c 1 t) (iblk m c 2 t) (iblk m c 3 t) (iblk m c 4 t) (iblk m c 5 t))
  · rw [outAt_neg m c t h]
    iapply ((runNeg (F := F) Variants.none c none (grid0.coords t) (ms0 t) (hs0 t) (ms1 t) (hs1 t) (ms2 t) (hs2 t) (ms3 t) (hs3 t) (ms4 t) (hs4 t) (ms5 t) (hs5 t) (ms6 t) (hs6 t) (Memref.whole cc0_scratch0) (Memref.isWhole_whole _) (Memref.whole cc0_scratch1) (Memref.isWhole_whole _) (Memref.whole cc0_scratch2) (Memref.isWhole_whole _) h (iblk m c 0 t) (iblk m c 1 t) (iblk m c 2 t) (iblk m c 3 t) (iblk m c 4 t) (iblk m c 5 t)).2 _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexact S0
    isplitl [S1]; · iexact S1
    isplitl [S2]; · iexact S2
    iintro ⟨H0, H1, H2, H3, H4, H5, S0, S1, S2, ⟨%g6, H6⟩⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_eq_canon _ _ _ (coverNeg (F := F) Variants.none c none (grid0.coords t) (ms0 t) (hs0 t) (ms1 t) (hs1 t) (ms2 t) (hs2 t) (ms3 t) (hs3 t) (ms4 t) (hs4 t) (ms5 t) (hs5 t) (ms6 t) (hs6 t) (Memref.whole cc0_scratch0) (Memref.isWhole_whole _) (Memref.whole cc0_scratch1) (Memref.isWhole_whole _) (Memref.whole cc0_scratch2) (Memref.isWhole_whole _) h (iblk m c 0 t) (iblk m c 1 t) (iblk m c 2 t) (iblk m c 3 t) (iblk m c 4 t) (iblk m c 5 t))

theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program: every array at its contents, every semaphore at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _) (hQ' := fun _ h => h)

/-- The frame: the arguments end as they were launched and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c),
      ((h.1 c).2 main_arg7 (Pipeline.mem_restRefs_of main_arg7 (by decide) (by decide))).trans (W_main_arg7 m (dats m) c),
      ((h.1 c).2 main_arg8 (Pipeline.mem_restRefs_of main_arg8 (by decide) (by decide))).trans (W_main_arg8 m (dats m) c)⟩, h.2⟩)
    (run_main m ρ)

end Cert.KernelIdeal.Hand
-- ==== Proof.PostSpec.lean ====
/-
  The mathematics of the block after the mixing, one row (one token) at a time, on the extended reals: the residual and
  layer norm after the output projection, the squared-relu MLP with its residual and layer norm, and the gated
  per-layer embedding.
-/
module

public import Idealize.ShloMosaic.Lib.Pointwise

@[expose] public section

noncomputable section

namespace Cert.PostSpec

open Idealize.ShloMosaic
open scoped BigOperators

/-- The residual's multiplier, as the programs' literal. -/
def gain : EReal := Ideal.ofBits .f32 0x3FD744FD#32
/-- The layer norm's variance offset, as the programs' literal. -/
def eps : EReal := Ideal.ofBits .f32 0x3727C5AC#32
/-- The number of channels, as the programs' literal. -/
def chan : EReal := Ideal.ofBits .f32 0x44800000#32

/-- A row times a matrix. -/
def proj {k n : ℕ} (x : Fin k → EReal) (w : Fin k → Fin n → EReal) : Fin n → EReal := fun j => ∑ i, x i * w i j

/-- The mean of a row. -/
def mean (x : Fin 1024 → EReal) : EReal := Ideal.div (∑ i, x i) chan

/-- The layer norm of a row, with scale `g` and shift `b`. -/
def norm (x g b : Fin 1024 → EReal) : Fin 1024 → EReal := fun j =>
  (x j - mean x) * Ideal.rsqrt (mean (fun i => (x i - mean x) * (x i - mean x)) + eps) * g j + b j

/-- A row with its residual: `gain · h + y`. -/
def resid (h y : Fin 1024 → EReal) : Fin 1024 → EReal := fun j => gain * h j + y j

/-- The squared positive part. -/
def act (x : EReal) : EReal := max x 0 * max x 0

/-- The MLP of a row: up, squared relu, down. -/
def mlp (x : Fin 1024 → EReal) (w1 : Fin 1024 → Fin 4096 → EReal) (w2 : Fin 4096 → Fin 1024 → EReal) : Fin 1024 → EReal :=
  proj (fun f => act (proj x w1 f)) w2

/-- The row after the output projection's residual and layer norm. -/
def first (h o : Fin 1024 → EReal) (w : Fin 1024 → Fin 1024 → EReal) (g b : Fin 1024 → EReal) : Fin 1024 → EReal :=
  norm (resid h (proj o w)) g b

/-- The row after the MLP's residual and layer norm. -/
def second (x : Fin 1024 → EReal) (w1 : Fin 1024 → Fin 4096 → EReal) (w2 : Fin 4096 → Fin 1024 → EReal)
    (g b : Fin 1024 → EReal) : Fin 1024 → EReal :=
  norm (resid x (mlp x w1 w2)) g b

/-- The logistic function. -/
def gate (x : EReal) : EReal := Ideal.div 1 (1 + Ideal.exp (-x))

/-- The row with the gated embedding added. -/
def third (x : Fin 1024 → EReal) (p : Fin 256 → EReal) (wg : Fin 1024 → Fin 1024 → EReal)
    (wp : Fin 256 → Fin 1024 → EReal) : Fin 1024 → EReal := fun j =>
  x j + gate (proj x wg j) * proj p wp j

/-- The whole block on one row. -/
def row (h o : Fin 1024 → EReal) (p : Fin 256 → EReal) (w : Fin 1024 → Fin 1024 → EReal) (g1 b1 : Fin 1024 → EReal)
    (w1 : Fin 1024 → Fin 4096 → EReal) (w2 : Fin 4096 → Fin 1024 → EReal) (g2 b2 : Fin 1024 → EReal)
    (wg : Fin 1024 → Fin 1024 → EReal) (wp : Fin 256 → Fin 1024 → EReal) : Fin 1024 → EReal :=
  third (second (first h o w g1 b1) w1 w2 g2 b2) p wg wp

/-- The MLP computed in four tiles of 1024 hidden units each. -/
theorem mlp_tiles (x : Fin 1024 → EReal) (w1 : Fin 1024 → Fin 4096 → EReal) (w2 : Fin 4096 → Fin 1024 → EReal) (j : Fin 1024) :
    mlp x w1 w2 j
      = (∑ f : Fin 1024, act (proj x w1 ⟨f.val, by omega⟩) * w2 ⟨f.val, by omega⟩ j)
        + (∑ f : Fin 1024, act (proj x w1 ⟨1024 + f.val, by omega⟩) * w2 ⟨1024 + f.val, by omega⟩ j)
        + (∑ f : Fin 1024, act (proj x w1 ⟨2048 + f.val, by omega⟩) * w2 ⟨2048 + f.val, by omega⟩ j)
        + ∑ f : Fin 1024, act (proj x w1 ⟨3072 + f.val, by omega⟩) * w2 ⟨3072 + f.val, by omega⟩ j := by
  show ∑ f : Fin 4096, act (proj x w1 f) * w2 f j = _
  rw [Fin.sum_univ_tiles 4 1024 (by norm_num) (fun f : Fin 4096 => act (proj x w1 f) * w2 f j), Fin.sum_univ_four]
  rfl

end Cert.PostSpec

end
-- ==== Proof.PostTile.lean ====
/-
  One tile of the block after the mixing: the body's payloads read at a row and a channel are the row's mathematics
  (`Cert.PostSpec`), the MLP's four tiles of hidden units its one sum.
-/
module

public import proofs.«01_k».proof.Proof.PostSpec
public import proofs.«01_k».proof.Proof.Gen.PostIdeal.Value

@[expose] public section

set_option maxRecDepth 16384

noncomputable section

namespace Cert.PostIdeal.Hand

open Idealize.ShloMosaic Cert.PostIdeal Cert.PostIdeal.Gen Cert.PostSpec
open scoped BigOperators

/-- Row `r` of a matrix. -/
abbrev line {a b : ℕ} (x : (⟨2, ![a, b]⟩ : Shape).Idx → EReal) (r : Fin a) : Fin b → EReal := fun k => x (ix2 r k)

/-- A matrix by its row and its column. -/
abbrev mat {a b : ℕ} (x : (⟨2, ![a, b]⟩ : Shape).Idx → EReal) : Fin a → Fin b → EReal := fun i j => x (ix2 i j)

theorem pay2_apply (h o : Vec Ideal S512x1024 .f32) (w : Vec Ideal S1024x1024 .bf16) (g b : Vec Ideal S1x1024 .f32)
    (r : Fin 512) (l : Fin 1024) :
    k0_pay2 h o w g b (ix2 r l) = first (line h r) (line o r) (mat w) (line g 0) (line b 0) l := by
  pointwise [k0_pay2]
  rfl

theorem pay3_apply (h o : Vec Ideal S512x1024 .f32) (w : Vec Ideal S1024x1024 .bf16) (g b : Vec Ideal S1x1024 .f32)
    (r : Fin 512) (l : Fin 1024) :
    k0_pay3 h o w g b (ix2 r l) = first (line h r) (line o r) (mat w) (line g 0) (line b 0) l := by
  unfold k0_pay3
  exact pay2_apply h o w g b r l

/-- The first three tiles of hidden units. -/
theorem pay5_apply (x : FVec Ideal S512x1024 .bf16) (u0 : FVec Ideal S1024x1024 .bf16)
    (d0 u1 d1 u2 d2 : Vec Ideal S1024x1024 .bf16) (r : Fin 512) (l : Fin 1024) :
    k0_pay5 x u0 d0 u1 d1 u2 d2 (ix2 r l)
      = (∑ f : Fin 1024, act (proj (line x r) (mat u0) f) * d0 (ix2 f l))
        + (∑ f : Fin 1024, act (proj (line x r) (mat u1) f) * d1 (ix2 f l))
        + ∑ f : Fin 1024, act (proj (line x r) (mat u2) f) * d2 (ix2 f l) := by
  pointwise [k0_pay5]
  rfl

theorem pay6_apply (x : FVec Ideal S512x1024 .bf16) (u : Vec Ideal S1024x1024 .bf16) (r : Fin 512) (l : Fin 1024) :
    k0_pay6 x u (ix2 r l) = act (proj (line x r) (mat u) l) := by
  pointwise [k0_pay6]
  rfl

theorem pay7_apply (x y : FVec Ideal S512x1024 .f32) (a : FVec Ideal S512x1024 .bf16) (d : Vec Ideal S1024x1024 .bf16)
    (g b : Vec Ideal S1x1024 .f32) (r : Fin 512) (l : Fin 1024) :
    k0_pay7 x y a d g b (ix2 r l)
      = norm (resid (line x r) (fun j => y (ix2 r j) + proj (line a r) (mat d) j)) (line g 0) (line b 0) l := by
  pointwise [k0_pay7]
  rfl

theorem pay8_apply (x y : FVec Ideal S512x1024 .f32) (a : FVec Ideal S512x1024 .bf16) (d : Vec Ideal S1024x1024 .bf16)
    (g b : Vec Ideal S1x1024 .f32) (w : Vec Ideal S1024x1024 .bf16) (r : Fin 512) (l : Fin 1024) :
    k0_pay8 x y a d g b w (ix2 r l) = gate (proj (line (k0_pay7 x y a d g b) r) (mat w) l) := by
  pointwise [k0_pay8]
  rfl

theorem pay1_apply (x s : FVec Ideal S512x1024 .f32) (p : Vec Ideal S1x512x256 .f32) (w : Vec Ideal S256x1024 .bf16)
    (r : Fin 512) (l : Fin 1024) :
    k0_pay1 x s (k0_pay9 p) w (ix2 r l)
      = x (ix2 r l) + s (ix2 r l) * proj (fun k : Fin 256 => p (ix3 0 r k)) (mat w) l := by
  pointwise [k0_pay1, k0_pay9]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output window, at a row and a channel: the row's mathematics of the input blocks. -/
theorem out_apply (x0 x1 : Vec Ideal S512x1024 .f32) (x2 : Vec Ideal S1024x1024 .bf16) (x3 x4 : Vec Ideal S1x1024 .f32)
    (x5 : Vec Ideal S1024x4096 .bf16) (x6 : Vec Ideal S4096x1024 .bf16) (x7 x8 : Vec Ideal S1x1024 .f32)
    (x9 : Vec Ideal S1024x1024 .bf16) (x10 : Vec Ideal S1x512x256 .f32) (x11 : Vec Ideal S256x1024 .bf16)
    (r : Fin 512) (l : Fin 1024) :
    out0_12 x0 x1 x2 x3 x4 x5 x6 x7 x8 x9 x10 x11 (ix2 r l)
      = row (line x0 r) (line x1 r) (fun k : Fin 256 => x10 (ix3 0 r k)) (mat x2) (line x3 0) (line x4 0) (mat x5) (mat x6)
          (line x7 0) (line x8 0) (mat x9) (mat x11) l := by
  have e0 : ∀ x : Vec Ideal S512x1024 .f32, View.ld x r0_0 = x := fun x => View.ld_unit_zero (S := S512x1024) hz2 _ x
  have e1 : ∀ x : Vec Ideal S1024x1024 .bf16, View.ld x r0_1 = x := fun x => View.ld_unit_zero (S := S1024x1024) hz2 _ x
  have e2 : ∀ x : Vec Ideal S1x1024 .f32, View.ld x r0_2 = x := fun x => View.ld_unit_zero (S := S1x1024) hz2 _ x
  have e11 : View.ld x10 r0_11 = x10 := View.ld_unit_zero (S := S1x512x256) hz3 _ x10
  have e12 : View.ld x11 r0_12 = x11 := View.ld_unit_zero (S := S256x1024) hz2 _ x11
  -- the MLP's input row, and the MLP with its four tiles put together
  have hx : ∀ j, (k0_pay10 x0 x1 x2 x3 x4 x5 x6 x7 x8 x9 x10 x11) (ix2 r j)
      = first (line x0 r) (line x1 r) (mat x2) (line x3 0) (line x4 0) j := fun j => by
    unfold k0_pay10; rw [e0, e0, e1, e2, e2]; exact pay2_apply x0 x1 x2 x3 x4 r j
  have hb : line (k0_pay11 x0 x1 x2 x3 x4 x5 x6 x7 x8 x9 x10 x11) r
      = first (line x0 r) (line x1 r) (mat x2) (line x3 0) (line x4 0) := funext fun j => by
    show (k0_pay11 x0 x1 x2 x3 x4 x5 x6 x7 x8 x9 x10 x11) (ix2 r j) = _
    unfold k0_pay11; rw [e0, e0, e1, e2, e2]; exact pay3_apply x0 x1 x2 x3 x4 r j
  have hm : ∀ j, (k0_pay12 x0 x1 x2 x3 x4 x5 x6 x7 x8 x9 x10 x11) (ix2 r j)
        + proj (line (k0_pay13 x0 x1 x2 x3 x4 x5 x6 x7 x8 x9 x10 x11) r) (mat (View.ld x6 r0_10)) j
      = mlp (first (line x0 r) (line x1 r) (mat x2) (line x3 0) (line x4 0)) (mat x5) (mat x6) j := fun j => by
    rw [mlp_tiles]
    unfold k0_pay12 k0_pay13
    rw [pay5_apply, hb]
    generalize first (line x0 r) (line x1 r) (mat x2) (line x3 0) (line x4 0) = X at hb
    have h13 : ∀ f, k0_pay6 (k0_pay11 x0 x1 x2 x3 x4 x5 x6 x7 x8 x9 x10 x11) (View.ld x5 r0_9) (ix2 r f)
        = act (proj X (mat (View.ld x5 r0_9)) f) := fun f => by rw [pay6_apply, hb]
    simp only [proj, mat, line] at h13 ⊢
    simp only [h13]
    pointwise [k0_pay4]
  unfold out0_12
  rw [View.canon_unit_zero hz2]
  rw [e11, e12, e1, e2, e2]
  rw [pay1_apply, pay8_apply, pay7_apply]
  have h2 : line (k0_pay7 (k0_pay10 x0 x1 x2 x3 x4 x5 x6 x7 x8 x9 x10 x11) (k0_pay12 x0 x1 x2 x3 x4 x5 x6 x7 x8 x9 x10 x11)
        (k0_pay13 x0 x1 x2 x3 x4 x5 x6 x7 x8 x9 x10 x11) (View.ld x6 r0_10) x7 x8) r
      = second (first (line x0 r) (line x1 r) (mat x2) (line x3 0) (line x4 0)) (mat x5) (mat x6) (line x7 0) (line x8 0) :=
    funext fun j => by
      show (k0_pay7 _ _ _ _ _ _) (ix2 r j) = _
      rw [pay7_apply]
      unfold second
      rw [show line (k0_pay10 x0 x1 x2 x3 x4 x5 x6 x7 x8 x9 x10 x11) r = _ from funext hx, funext hm]
  rw [h2]
  unfold row third
  rw [show line (k0_pay10 x0 x1 x2 x3 x4 x5 x6 x7 x8 x9 x10 x11) r = _ from funext hx, funext hm]
  rfl

end Cert.PostIdeal.Hand

end
-- ==== Proof.PostWhole.lean ====
/-
  The result of the block after the mixing as one function of its arguments: what the host prepares (tokens of all batches
  in one axis, weights cast, scales and shifts as one-row matrices), each window's block of it at a grid point, and the
  result array the 64 points' blocks of 512 tokens make up.
-/
module

public import proofs.«01_k».proof.Proof.PostTile

@[expose] public section

set_option maxRecDepth 16384

noncomputable section

namespace Cert.PostIdeal.Hand

open Idealize.ShloMosaic Idealize.ShloMosaic.TcCoe Idealize.SL.Sem
open Cert.PostIdeal Cert.PostIdeal.Gen Cert.PostIdeal.Value Cert.PostSpec
open scoped BigOperators

/-- The batch and the time of a token. -/
abbrev batch (r : Fin 32768) : Fin 8 := ⟨r.val / 4096, by omega⟩
abbrev time (r : Fin 32768) : Fin 4096 := ⟨r.val % 4096, by omega⟩

/-- The entries of a vector. -/
abbrev vec {a : ℕ} (x : (⟨1, ![a]⟩ : Shape).Idx → EReal) : Fin a → EReal := fun k => x (ix1 k)

/-- The result array as one function of the arguments: each token's row of the mathematics. The embedding is layer 1's. -/
def G (h o : S8x4096x1024.Idx → EReal) (p : S4x8x4096x256.Idx → EReal) (w : S1024x1024.Idx → EReal)
    (g1 b1 : S1024.Idx → EReal) (w1 : S1024x4096.Idx → EReal) (w2 : S4096x1024.Idx → EReal) (g2 b2 : S1024.Idx → EReal)
    (wg : S1024x1024.Idx → EReal) (wp : S256x1024.Idx → EReal) : S32768x1024.Idx → EReal := fun i =>
  row (fun k => h (ix3 (batch (i 0)) (time (i 0)) k)) (fun k => o (ix3 (batch (i 0)) (time (i 0)) k))
    (fun k => p (ix4 1 (batch (i 0)) (time (i 0)) k)) (mat w) (vec g1) (vec b1) (mat w1) (mat w2) (vec g2) (vec b2)
    (mat wg) (mat wp) (i 1)

variable (m : (ℓ : Loc nD τ sig) → Buf (Elt Ideal) ℓ)

/-! ### What the host prepares -/

theorem V_v0_apply (c : Dev nD) (r : Fin 32768) (k : Fin 1024) :
    (V m c main_v0 : S32768x1024.Idx → EReal) (ix2 r k) = (m ((c : Thread nD τ).loc main_arg1) : S8x4096x1024.Idx → EReal) (ix3 (batch r) (time r) k) := by
  have e : (V m c main_v0 : S32768x1024.Idx → EReal)
      = shapeCast (s := S8x4096x1024) S32768x1024 (m ((c : Thread nD τ).loc main_arg1) : S8x4096x1024.Idx → EReal) shapeCasts_S8x4096x1024_S32768x1024 := by
    dsimp only [V, hostOps0]
    after_results <;> rfl
  rw [e]
  pointwise []

theorem V_v2_apply (c : Dev nD) (r : Fin 32768) (k : Fin 1024) :
    (V m c main_v2 : S32768x1024.Idx → EReal) (ix2 r k) = (m ((c : Thread nD τ).loc main_arg0) : S8x4096x1024.Idx → EReal) (ix3 (batch r) (time r) k) := by
  have e : (V m c main_v2 : S32768x1024.Idx → EReal)
      = shapeCast (s := S8x4096x1024) S32768x1024 (m ((c : Thread nD τ).loc main_arg0) : S8x4096x1024.Idx → EReal) shapeCasts_S8x4096x1024_S32768x1024 := by
    dsimp only [V, hostOps0]
    after_results <;> rfl
  rw [e]
  pointwise []

theorem V_v6_apply (c : Dev nD) (r : Fin 32768) (k : Fin 256) :
    (V m c main_v6 : S4x32768x256.Idx → EReal) (ix3 1 r k)
      = (m ((c : Thread nD τ).loc main_arg2) : S4x8x4096x256.Idx → EReal) (ix4 1 (batch r) (time r) k) := by
  have e : (V m c main_v6 : S4x32768x256.Idx → EReal)
      = shapeCast (s := S4x8x4096x256) S4x32768x256 (m ((c : Thread nD τ).loc main_arg2) : S4x8x4096x256.Idx → EReal) shapeCasts_S4x8x4096x256_S4x32768x256 := by
    dsimp only [V, hostOps0]
    after_results <;> rfl
  rw [e]
  pointwise []

theorem V_v1_eq (c : Dev nD) : (V m c main_v1 : S1024x1024.Idx → EReal) = (m ((c : Thread nD τ).loc main_arg3) : S1024x1024.Idx → EReal) := by
  dsimp only [V, hostOps0]
  after_results <;> rfl

theorem V_v3_eq (c : Dev nD) : (V m c main_v3 : S1024x4096.Idx → EReal) = (m ((c : Thread nD τ).loc main_arg6) : S1024x4096.Idx → EReal) := by
  dsimp only [V, hostOps0]
  after_results <;> rfl

theorem V_v4_eq (c : Dev nD) : (V m c main_v4 : S4096x1024.Idx → EReal) = (m ((c : Thread nD τ).loc main_arg7) : S4096x1024.Idx → EReal) := by
  dsimp only [V, hostOps0]
  after_results <;> rfl

theorem V_v5_eq (c : Dev nD) : (V m c main_v5 : S1024x1024.Idx → EReal) = (m ((c : Thread nD τ).loc main_arg10) : S1024x1024.Idx → EReal) := by
  dsimp only [V, hostOps0]
  after_results <;> rfl

theorem V_v7_eq (c : Dev nD) : (V m c main_v7 : S256x1024.Idx → EReal) = (m ((c : Thread nD τ).loc main_arg11) : S256x1024.Idx → EReal) := by
  dsimp only [V, hostOps0]
  after_results <;> rfl

theorem V_v8_apply (c : Dev nD) (k : Fin 1024) :
    (V m c main_v8 : S1x1024.Idx → EReal) (ix2 0 k) = (m ((c : Thread nD τ).loc main_arg4) : S1024.Idx → EReal) (ix1 k) := by
  have e : (V m c main_v8 : S1x1024.Idx → EReal)
      = broadcastInDim (s := S1024) S1x1024 ![1] bcast_S1024_S1x1024_1 (m ((c : Thread nD τ).loc main_arg4) : S1024.Idx → EReal) := by
    dsimp only [V, hostOps0]
    after_results <;> rfl
  rw [e]
  pointwise []

theorem V_v9_apply (c : Dev nD) (k : Fin 1024) :
    (V m c main_v9 : S1x1024.Idx → EReal) (ix2 0 k) = (m ((c : Thread nD τ).loc main_arg5) : S1024.Idx → EReal) (ix1 k) := by
  have e : (V m c main_v9 : S1x1024.Idx → EReal)
      = broadcastInDim (s := S1024) S1x1024 ![1] bcast_S1024_S1x1024_1 (m ((c : Thread nD τ).loc main_arg5) : S1024.Idx → EReal) := by
    dsimp only [V, hostOps0]
    after_results <;> rfl
  rw [e]
  pointwise []

theorem V_v10_apply (c : Dev nD) (k : Fin 1024) :
    (V m c main_v10 : S1x1024.Idx → EReal) (ix2 0 k) = (m ((c : Thread nD τ).loc main_arg8) : S1024.Idx → EReal) (ix1 k) := by
  have e : (V m c main_v10 : S1x1024.Idx → EReal)
      = broadcastInDim (s := S1024) S1x1024 ![1] bcast_S1024_S1x1024_1 (m ((c : Thread nD τ).loc main_arg8) : S1024.Idx → EReal) := by
    dsimp only [V, hostOps0]
    after_results <;> rfl
  rw [e]
  pointwise []

theorem V_v11_apply (c : Dev nD) (k : Fin 1024) :
    (V m c main_v11 : S1x1024.Idx → EReal) (ix2 0 k) = (m ((c : Thread nD τ).loc main_arg9) : S1024.Idx → EReal) (ix1 k) := by
  have e : (V m c main_v11 : S1x1024.Idx → EReal)
      = broadcastInDim (s := S1024) S1x1024 ![1] bcast_S1024_S1x1024_1 (m ((c : Thread nD τ).loc main_arg9) : S1024.Idx → EReal) := by
    dsimp only [V, hostOps0]
    after_results <;> rfl
  rw [e]
  pointwise []

/-! ### The windows' blocks -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx10 : ∀ t : Fin cfg0.N, win0_10.index t (0 : Fin 3) = 1 ∧ win0_10.index t (1 : Fin 3) = t.val ∧ win0_10.index t (2 : Fin 3) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

/-- Token `r` of grid point `t`'s tile. -/
abbrev tok (t : Fin cfg0.N) (r : Fin 512) : Fin 32768 :=
  ⟨t.val * 512 + r.val, by have h : t.val < 64 := t.isLt; have := r.isLt; omega⟩

theorem emb0 (t : Fin cfg0.N) (r : Fin 512) (k : Fin 1024) :
    ((cfg0.win 0).blk t).view.emb (ix2 r k : S512x1024.Idx) = (ix2 (tok t r) k : S32768x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (r : Fin 512) (k : Fin 1024) :
    ((cfg0.win 1).blk t).view.emb (ix2 r k : S512x1024.Idx) = (ix2 (tok t r) k : S32768x1024.Idx) := by
  obtain ⟨e0, e1⟩ := idx1 t
  funext a; apply Fin.ext
  match a with
  | ⟨0, _⟩ => show win0_1.index t (0 : Fin 2) * 512 + 1 * r.val = t.val * 512 + r.val; omega
  | ⟨1, _⟩ => show win0_1.index t (1 : Fin 2) * 1024 + 1 * k.val = k.val; omega

theorem iblk2_eq (c : Dev nD) (t : Fin cfg0.N) : (iblk m c 2 t : S1024x1024.Idx → EReal) = (V m c main_v1 : S1024x1024.Idx → EReal) := by
  obtain ⟨e0, e1⟩ := idx2 t
  funext j
  show (V m c main_v1 : S1024x1024.Idx → EReal) (((cfg0.win 2).blk t).view.emb j) = (V m c main_v1 : S1024x1024.Idx → EReal) j
  refine congrArg (V m c main_v1 : S1024x1024.Idx → EReal) (funext fun a => Fin.ext ?_)
  match a with
  | ⟨0, _⟩ => show win0_2.index t (0 : Fin 2) * 1024 + 1 * (j 0).val = (j 0).val; omega
  | ⟨1, _⟩ => show win0_2.index t (1 : Fin 2) * 1024 + 1 * (j 1).val = (j 1).val; omega

theorem iblk3_eq (c : Dev nD) (t : Fin cfg0.N) : (iblk m c 3 t : S1x1024.Idx → EReal) = (V m c main_v8 : S1x1024.Idx → EReal) := by
  obtain ⟨e0, e1⟩ := idx3 t
  funext j
  show (V m c main_v8 : S1x1024.Idx → EReal) (((cfg0.win 3).blk t).view.emb j) = (V m c main_v8 : S1x1024.Idx → EReal) j
  refine congrArg (V m c main_v8 : S1x1024.Idx → EReal) (funext fun a => Fin.ext ?_)
  match a with
  | ⟨0, _⟩ => show win0_3.index t (0 : Fin 2) * 1 + 1 * (j 0).val = (j 0).val; omega
  | ⟨1, _⟩ => show win0_3.index t (1 : Fin 2) * 1024 + 1 * (j 1).val = (j 1).val; omega

theorem iblk4_eq (c : Dev nD) (t : Fin cfg0.N) : (iblk m c 4 t : S1x1024.Idx → EReal) = (V m c main_v9 : S1x1024.Idx → EReal) := by
  obtain ⟨e0, e1⟩ := idx4 t
  funext j
  show (V m c main_v9 : S1x1024.Idx → EReal) (((cfg0.win 4).blk t).view.emb j) = (V m c main_v9 : S1x1024.Idx → EReal) j
  refine congrArg (V m c main_v9 : S1x1024.Idx → EReal) (funext fun a => Fin.ext ?_)
  match a with
  | ⟨0, _⟩ => show win0_4.index t (0 : Fin 2) * 1 + 1 * (j 0).val = (j 0).val; omega
  | ⟨1, _⟩ => show win0_4.index t (1 : Fin 2) * 1024 + 1 * (j 1).val = (j 1).val; omega

theorem iblk5_eq (c : Dev nD) (t : Fin cfg0.N) : (iblk m c 5 t : S1024x4096.Idx → EReal) = (V m c main_v3 : S1024x4096.Idx → EReal) := by
  obtain ⟨e0, e1⟩ := idx5 t
  funext j
  show (V m c main_v3 : S1024x4096.Idx → EReal) (((cfg0.win 5).blk t).view.emb j) = (V m c main_v3 : S1024x4096.Idx → EReal) j
  refine congrArg (V m c main_v3 : S1024x4096.Idx → EReal) (funext fun a => Fin.ext ?_)
  match a with
  | ⟨0, _⟩ => show win0_5.index t (0 : Fin 2) * 1024 + 1 * (j 0).val = (j 0).val; omega
  | ⟨1, _⟩ => show win0_5.index t (1 : Fin 2) * 4096 + 1 * (j 1).val = (j 1).val; omega

theorem iblk6_eq (c : Dev nD) (t : Fin cfg0.N) : (iblk m c 6 t : S4096x1024.Idx → EReal) = (V m c main_v4 : S4096x1024.Idx → EReal) := by
  obtain ⟨e0, e1⟩ := idx6 t
  funext j
  show (V m c main_v4 : S4096x1024.Idx → EReal) (((cfg0.win 6).blk t).view.emb j) = (V m c main_v4 : S4096x1024.Idx → EReal) j
  refine congrArg (V m c main_v4 : S4096x1024.Idx → EReal) (funext fun a => Fin.ext ?_)
  match a with
  | ⟨0, _⟩ => show win0_6.index t (0 : Fin 2) * 4096 + 1 * (j 0).val = (j 0).val; omega
  | ⟨1, _⟩ => show win0_6.index t (1 : Fin 2) * 1024 + 1 * (j 1).val = (j 1).val; omega

theorem iblk7_eq (c : Dev nD) (t : Fin cfg0.N) : (iblk m c 7 t : S1x1024.Idx → EReal) = (V m c main_v10 : S1x1024.Idx → EReal) := by
  obtain ⟨e0, e1⟩ := idx7 t
  funext j
  show (V m c main_v10 : S1x1024.Idx → EReal) (((cfg0.win 7).blk t).view.emb j) = (V m c main_v10 : S1x1024.Idx → EReal) j
  refine congrArg (V m c main_v10 : S1x1024.Idx → EReal) (funext fun a => Fin.ext ?_)
  match a with
  | ⟨0, _⟩ => show win0_7.index t (0 : Fin 2) * 1 + 1 * (j 0).val = (j 0).val; omega
  | ⟨1, _⟩ => show win0_7.index t (1 : Fin 2) * 1024 + 1 * (j 1).val = (j 1).val; omega

theorem iblk8_eq (c : Dev nD) (t : Fin cfg0.N) : (iblk m c 8 t : S1x1024.Idx → EReal) = (V m c main_v11 : S1x1024.Idx → EReal) := by
  obtain ⟨e0, e1⟩ := idx8 t
  funext j
  show (V m c main_v11 : S1x1024.Idx → EReal) (((cfg0.win 8).blk t).view.emb j) = (V m c main_v11 : S1x1024.Idx → EReal) j
  refine congrArg (V m c main_v11 : S1x1024.Idx → EReal) (funext fun a => Fin.ext ?_)
  match a with
  | ⟨0, _⟩ => show win0_8.index t (0 : Fin 2) * 1 + 1 * (j 0).val = (j 0).val; omega
  | ⟨1, _⟩ => show win0_8.index t (1 : Fin 2) * 1024 + 1 * (j 1).val = (j 1).val; omega

theorem iblk9_eq (c : Dev nD) (t : Fin cfg0.N) : (iblk m c 9 t : S1024x1024.Idx → EReal) = (V m c main_v5 : S1024x1024.Idx → EReal) := by
  obtain ⟨e0, e1⟩ := idx9 t
  funext j
  show (V m c main_v5 : S1024x1024.Idx → EReal) (((cfg0.win 9).blk t).view.emb j) = (V m c main_v5 : S1024x1024.Idx → EReal) j
  refine congrArg (V m c main_v5 : S1024x1024.Idx → EReal) (funext fun a => Fin.ext ?_)
  match a with
  | ⟨0, _⟩ => show win0_9.index t (0 : Fin 2) * 1024 + 1 * (j 0).val = (j 0).val; omega
  | ⟨1, _⟩ => show win0_9.index t (1 : Fin 2) * 1024 + 1 * (j 1).val = (j 1).val; omega

theorem iblk11_eq (c : Dev nD) (t : Fin cfg0.N) : (iblk m c 11 t : S256x1024.Idx → EReal) = (V m c main_v7 : S256x1024.Idx → EReal) := by
  obtain ⟨e0, e1⟩ := idx11 t
  funext j
  show (V m c main_v7 : S256x1024.Idx → EReal) (((cfg0.win 11).blk t).view.emb j) = (V m c main_v7 : S256x1024.Idx → EReal) j
  refine congrArg (V m c main_v7 : S256x1024.Idx → EReal) (funext fun a => Fin.ext ?_)
  match a with
  | ⟨0, _⟩ => show win0_11.index t (0 : Fin 2) * 256 + 1 * (j 0).val = (j 0).val; omega
  | ⟨1, _⟩ => show win0_11.index t (1 : Fin 2) * 1024 + 1 * (j 1).val = (j 1).val; omega

theorem emb10 (t : Fin cfg0.N) (r : Fin 512) (k : Fin 256) :
    ((cfg0.win 10).blk t).view.emb (ix3 0 r k : S1x512x256.Idx) = (ix3 1 (tok t r) k : S4x32768x256.Idx) := by
  obtain ⟨e0, e1, e2⟩ := idx10 t
  funext a; apply Fin.ext
  match a with
  | ⟨0, _⟩ => show win0_10.index t (0 : Fin 3) * 1 + 1 * 0 = 1; omega
  | ⟨1, _⟩ => show win0_10.index t (1 : Fin 3) * 512 + 1 * r.val = t.val * 512 + r.val; omega
  | ⟨2, _⟩ => show win0_10.index t (2 : Fin 3) * 256 + 1 * k.val = k.val; omega

theorem emb12 (t : Fin cfg0.N) (r : Fin 512) (k : Fin 1024) :
    ((cfg0.win 12).blk t).view.emb (ix2 r k : S512x1024.Idx) = (ix2 (tok t r) k : S32768x1024.Idx) := by
  obtain ⟨e0, e1⟩ := idx12 t
  funext a; apply Fin.ext
  match a with
  | ⟨0, _⟩ => show win0_12.index t (0 : Fin 2) * 512 + 1 * r.val = t.val * 512 + r.val; omega
  | ⟨1, _⟩ => show win0_12.index t (1 : Fin 2) * 1024 + 1 * k.val = k.val; omega

/-! ### The result array -/

/-- The result array of the arguments as launched. -/
abbrev res (c : Dev nD) : S32768x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- What a point writes back is its block of the result array. -/
theorem flushed_eq (c : Dev nD) (t : Fin cfg0.N) :
    (dats m 0 c).flushed 12 t = ((cfg0.win 12).blk t).view.read (Elt Ideal) (res m c) := by
  rw [flushed12]
  funext j
  obtain ⟨r, l, rfl⟩ : ∃ (r : Fin 512) (l : Fin 1024), j = (ix2 r l : S512x1024.Idx) := ⟨j 0, j 1, eq_ix2 j⟩
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 r l)
    = res m c (((cfg0.win 12).blk t).view.emb (ix2 r l : S512x1024.Idx))
  rw [emb12]
  refine (out_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) r l).trans ?_
  have h0 : line (iblk m c 0 t : S512x1024.Idx → EReal) r
      = fun k => (m ((c : Thread nD τ).loc main_arg0) : S8x4096x1024.Idx → EReal) (ix3 (batch (tok t r)) (time (tok t r)) k) :=
    funext fun k => by
      show (V m c main_v2 : S32768x1024.Idx → EReal) (((cfg0.win 0).blk t).view.emb (ix2 r k : S512x1024.Idx)) = _
      rw [emb0]; exact V_v2_apply m c (tok t r) k
  have h1 : line (iblk m c 1 t : S512x1024.Idx → EReal) r
      = fun k => (m ((c : Thread nD τ).loc main_arg1) : S8x4096x1024.Idx → EReal) (ix3 (batch (tok t r)) (time (tok t r)) k) :=
    funext fun k => by
      show (V m c main_v0 : S32768x1024.Idx → EReal) (((cfg0.win 1).blk t).view.emb (ix2 r k : S512x1024.Idx)) = _
      rw [emb1]; exact V_v0_apply m c (tok t r) k
  have h10 : (fun k : Fin 256 => (iblk m c 10 t : S1x512x256.Idx → EReal) (ix3 0 r k))
      = fun k => (m ((c : Thread nD τ).loc main_arg2) : S4x8x4096x256.Idx → EReal) (ix4 1 (batch (tok t r)) (time (tok t r)) k) :=
    funext fun k => by
      show (V m c main_v6 : S4x32768x256.Idx → EReal) (((cfg0.win 10).blk t).view.emb (ix3 0 r k : S1x512x256.Idx)) = _
      rw [emb10]; exact V_v6_apply m c (tok t r) k
  have h3 : line (iblk m c 3 t : S1x1024.Idx → EReal) 0 = vec (m ((c : Thread nD τ).loc main_arg4) : S1024.Idx → EReal) :=
    funext fun k => by
      show (iblk m c 3 t : S1x1024.Idx → EReal) (ix2 0 k) = _
      rw [iblk3_eq]; exact V_v8_apply m c k
  have h4 : line (iblk m c 4 t : S1x1024.Idx → EReal) 0 = vec (m ((c : Thread nD τ).loc main_arg5) : S1024.Idx → EReal) :=
    funext fun k => by
      show (iblk m c 4 t : S1x1024.Idx → EReal) (ix2 0 k) = _
      rw [iblk4_eq]; exact V_v9_apply m c k
  have h7 : line (iblk m c 7 t : S1x1024.Idx → EReal) 0 = vec (m ((c : Thread nD τ).loc main_arg8) : S1024.Idx → EReal) :=
    funext fun k => by
      show (iblk m c 7 t : S1x1024.Idx → EReal) (ix2 0 k) = _
      rw [iblk7_eq]; exact V_v10_apply m c k
  have h8 : line (iblk m c 8 t : S1x1024.Idx → EReal) 0 = vec (m ((c : Thread nD τ).loc main_arg9) : S1024.Idx → EReal) :=
    funext fun k => by
      show (iblk m c 8 t : S1x1024.Idx → EReal) (ix2 0 k) = _
      rw [iblk8_eq]; exact V_v11_apply m c k
  have h2 : mat (iblk m c 2 t : S1024x1024.Idx → EReal) = mat (m ((c : Thread nD τ).loc main_arg3) : S1024x1024.Idx → EReal) := by
    rw [iblk2_eq, V_v1_eq]
  have h5 : mat (iblk m c 5 t : S1024x4096.Idx → EReal) = mat (m ((c : Thread nD τ).loc main_arg6) : S1024x4096.Idx → EReal) := by
    rw [iblk5_eq, V_v3_eq]
  have h6 : mat (iblk m c 6 t : S4096x1024.Idx → EReal) = mat (m ((c : Thread nD τ).loc main_arg7) : S4096x1024.Idx → EReal) := by
    rw [iblk6_eq, V_v4_eq]
  have h9 : mat (iblk m c 9 t : S1024x1024.Idx → EReal) = mat (m ((c : Thread nD τ).loc main_arg10) : S1024x1024.Idx → EReal) := by
    rw [iblk9_eq, V_v5_eq]
  have h11 : mat (iblk m c 11 t : S256x1024.Idx → EReal) = mat (m ((c : Thread nD τ).loc main_arg11) : S256x1024.Idx → EReal) := by
    rw [iblk11_eq, V_v7_eq]
  show row (line (iblk m c 0 t : S512x1024.Idx → EReal) r) (line (iblk m c 1 t : S512x1024.Idx → EReal) r)
      (fun k : Fin 256 => (iblk m c 10 t : S1x512x256.Idx → EReal) (ix3 0 r k)) (mat (iblk m c 2 t : S1024x1024.Idx → EReal))
      (line (iblk m c 3 t : S1x1024.Idx → EReal) 0) (line (iblk m c 4 t : S1x1024.Idx → EReal) 0)
      (mat (iblk m c 5 t : S1024x4096.Idx → EReal)) (mat (iblk m c 6 t : S4096x1024.Idx → EReal))
      (line (iblk m c 7 t : S1x1024.Idx → EReal) 0) (line (iblk m c 8 t : S1x1024.Idx → EReal) 0)
      (mat (iblk m c 9 t : S1024x1024.Idx → EReal)) (mat (iblk m c 11 t : S256x1024.Idx → EReal)) l = _
  rw [h0, h1, h2, h3, h4, h5, h6, h7, h8, h9, h10, h11]
  rfl

/-- Every index of the result array is in the block of its token's tile. -/
theorem covered (i : S32768x1024.Idx) :
    ∃ t : Fin cfg0.N, (cfg0.win 12).flush t = true ∧ i ∈ ((cfg0.win 12).blk t).view.set := by
  have h0 : (i 0).val < 32768 := (i 0).isLt
  have hN : (i 0).val / 512 < cfg0.N := by show (i 0).val / 512 < 64; omega
  refine ⟨⟨(i 0).val / 512, hN⟩, flush0_12 _, ?_⟩
  have h := ((cfg0.win 12).blk ⟨(i 0).val / 512, hN⟩).view.emb_mem_set
    (ix2 (⟨(i 0).val % 512, by omega⟩ : Fin 512) (i 1 : Fin 1024) : S512x1024.Idx)
  have e : (ix2 (tok ⟨(i 0).val / 512, hN⟩ ⟨(i 0).val % 512, by omega⟩) (i 1 : Fin 1024) : S32768x1024.Idx) = i := by
    refine (congrArg (fun a : Fin 32768 => (ix2 a (i 1 : Fin 1024) : S32768x1024.Idx)) (Fin.ext ?_)).trans (eq_ix2 i).symm
    show (i 0).val / 512 * 512 + (i 0).val % 512 = (i 0).val
    omega
  exact (congrArg (· ∈ ((cfg0.win 12).blk ⟨(i 0).val / 512, hN⟩).view.set) ((emb12 _ _ _).trans e)).mp h

/-- The result array after the run. -/
theorem final (c : Dev nD) : (dats m 0 c).arrAt 12 cfg0.N = res m c :=
  (dats m 0 c).arrAt_eq_of_cover 12 (res m c) (fun t _ => flushed_eq m c t) covered

end Cert.PostIdeal.Hand

end
-- ==== Proof.PostReference.lean ====
/-
  The reference's result, read at a token and a channel: the row's mathematics (`Cert.PostSpec`) of the token's rows.
-/
module

public import proofs.«01_k».proof.Proof.PostSpec
public import proofs.«01_k».proof.Proof.Gen.PostReferenceIdeal.Read

@[expose] public section

set_option maxRecDepth 16384

noncomputable section

namespace Cert.PostReferenceIdeal.Hand

open Idealize.ShloMosaic Cert.PostReferenceIdeal Cert.PostReferenceIdeal.Gen Cert.PostReferenceIdeal.Read Cert.PostSpec
open scoped BigOperators

variable (x0 x1 : S8x4096x1024.Idx → EReal) (x2 : S4x8x4096x256.Idx → EReal) (x3 : S1024x1024.Idx → EReal)
  (x4 x5 : S1024.Idx → EReal) (x6 : S1024x4096.Idx → EReal) (x7 : S4096x1024.Idx → EReal) (x8 x9 : S1024.Idx → EReal)
  (x10 : S1024x1024.Idx → EReal) (x11 : S256x1024.Idx → EReal)

/-- The row after the first layer norm. -/
theorem first_apply (b : Fin 8) (t : Fin 4096) (j : Fin 1024) :
    (val_main_v27 (F := Ideal) x0 x1 x3 x4 x5 : S8x4096x1024.Idx → EReal) (ix3 b t j)
      = first (fun k => x0 (ix3 b t k)) (fun k => x1 (ix3 b t k)) (fun i j => x3 (ix2 i j)) (fun k => x4 (ix1 k))
          (fun k => x5 (ix1 k)) j := by
  pointwise [val_main_v27, val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3,
    val_main_cst_4]
  rfl

/-- The row after the second layer norm, of the row after the first. -/
theorem second_apply (b : Fin 8) (t : Fin 4096) (j : Fin 1024) :
    (val_main_v58 (F := Ideal) x0 x1 x3 x4 x5 x6 x7 x8 x9 : S8x4096x1024.Idx → EReal) (ix3 b t j)
      = second (fun k => (val_main_v27 (F := Ideal) x0 x1 x3 x4 x5 : S8x4096x1024.Idx → EReal) (ix3 b t k))
          (fun i j => x6 (ix2 i j)) (fun i j => x7 (ix2 i j)) (fun k => x8 (ix1 k)) (fun k => x9 (ix1 k)) j := by
  pointwise [val_main_v58, val_main_v57, val_main_v56, val_main_v55, val_main_v54, val_main_v53, val_main_v52, val_main_v51,
    val_main_v50, val_main_v49, val_main_v48, val_main_v47, val_main_v46, val_main_v45, val_main_v44, val_main_v43,
    val_main_v42, val_main_v41, val_main_v40, val_main_v39, val_main_v38, val_main_v37, val_main_v36, val_main_v35,
    val_main_v34, val_main_v33, val_main_v32, val_main_v31, val_main_v30, val_main_v29, val_main_v28, val_main_call0_v0,
    val_main_call0_cst, val_main_cst_5, val_main_cst_6, val_main_cst_7, val_main_cst_8, val_main_cst_9, val_main_cst_10]
  rfl

/-- The row with the gated embedding of layer 1, of the row after the second layer norm. -/
theorem third_apply (b : Fin 8) (t : Fin 4096) (j : Fin 1024) :
    (val_main_v70 (F := Ideal) x0 x1 x2 x3 x4 x5 x6 x7 x8 x9 x10 x11 : S8x4096x1024.Idx → EReal) (ix3 b t j)
      = third (fun k => (val_main_v58 (F := Ideal) x0 x1 x3 x4 x5 x6 x7 x8 x9 : S8x4096x1024.Idx → EReal) (ix3 b t k))
          (fun k => x2 (ix4 1 b t k)) (fun i j => x10 (ix2 i j)) (fun i j => x11 (ix2 i j)) j := by
  pointwise [val_main_v70, val_main_v69, val_main_v68, val_main_v67, val_main_v66, val_main_v65, val_main_v64, val_main_v63,
    val_main_v62, val_main_v61, val_main_v60, val_main_v59, val_main_cst_11, val_main_cst_12]
  rfl

/-- The result, token by token: the row's mathematics of the arguments' rows. -/
theorem result_apply (r : Fin 32768) (j : Fin 1024) :
    (val_main_v71 (F := Ideal) x0 x1 x2 x3 x4 x5 x6 x7 x8 x9 x10 x11 : S32768x1024.Idx → EReal) (ix2 r j)
      = row (fun k => x0 (ix3 ⟨r.val / 4096, by omega⟩ ⟨r.val % 4096, by omega⟩ k))
          (fun k => x1 (ix3 ⟨r.val / 4096, by omega⟩ ⟨r.val % 4096, by omega⟩ k))
          (fun k => x2 (ix4 1 ⟨r.val / 4096, by omega⟩ ⟨r.val % 4096, by omega⟩ k))
          (fun i j => x3 (ix2 i j)) (fun k => x4 (ix1 k)) (fun k => x5 (ix1 k)) (fun i j => x6 (ix2 i j))
          (fun i j => x7 (ix2 i j)) (fun k => x8 (ix1 k)) (fun k => x9 (ix1 k)) (fun i j => x10 (ix2 i j))
          (fun i j => x11 (ix2 i j)) j := by
  have e : (val_main_v71 (F := Ideal) x0 x1 x2 x3 x4 x5 x6 x7 x8 x9 x10 x11 : S32768x1024.Idx → EReal) (ix2 r j)
      = (val_main_v70 (F := Ideal) x0 x1 x2 x3 x4 x5 x6 x7 x8 x9 x10 x11 : S8x4096x1024.Idx → EReal)
          (ix3 ⟨r.val / 4096, by omega⟩ ⟨r.val % 4096, by omega⟩ j) := by
    pointwise [val_main_v71]
  rw [e, third_apply, funext (second_apply x0 x1 x3 x4 x5 x6 x7 x8 x9 _ _), funext (first_apply x0 x1 x3 x4 x5 _ _)]
  rfl

end Cert.PostReferenceIdeal.Hand

end
-- ==== Proof.PostEvenSpec.lean ====
/-
  The mathematics of the same block where two mixers' outputs enter it side by side, the second with its heads of 64
  channels each in a row of 128 lanes: the output projection takes the 512 channels of the first and the 512 of the
  second, and the other lanes belong to nothing. The rest is the block's own (`Cert.PostSpec`).
-/
module

public import proofs.«01_k».proof.Proof.PostSpec

@[expose] public section

noncomputable section

namespace Cert.PostEvenSpec

open Idealize.ShloMosaic Cert.PostSpec
open scoped BigOperators

/-- The lane of the second mixer's channel `k`: 64 channels a head, 128 lanes a head. -/
abbrev lane (k : Fin 512) : Fin 1024 := ⟨k.val / 64 * 128 + k.val % 64, by omega⟩

/-- The output projection of the two mixers' rows side by side. -/
def mix (a : Fin 512 → EReal) (b : Fin 1024 → EReal) (w : Fin 1024 → Fin 1024 → EReal) : Fin 1024 → EReal := fun j =>
  (∑ k : Fin 512, a k * w ⟨k.val, by omega⟩ j) + ∑ k : Fin 512, b (lane k) * w ⟨512 + k.val, by omega⟩ j

/-- The block on one row, after the output projection. -/
def after (h y : Fin 1024 → EReal) (p : Fin 256 → EReal) (g1 b1 : Fin 1024 → EReal)
    (w1 : Fin 1024 → Fin 4096 → EReal) (w2 : Fin 4096 → Fin 1024 → EReal) (g2 b2 : Fin 1024 → EReal)
    (wg : Fin 1024 → Fin 1024 → EReal) (wp : Fin 256 → Fin 1024 → EReal) : Fin 1024 → EReal :=
  third (second (norm (resid h y) g1 b1) w1 w2 g2 b2) p wg wp

/-- A row times a matrix whose rows at the lanes without a channel are zero: only the channels' lanes count. -/
theorem proj_lanes (b : Fin 1024 → EReal) (u : Fin 512 → Fin 1024 → EReal) (v : Fin 1024 → Fin 1024 → EReal)
    (hv : ∀ (n : Fin 8) (d : Fin 128) (j : Fin 1024), v ⟨n.val * 128 + d.val, by omega⟩ j
      = if h : d.val < 64 then u ⟨n.val * 64 + d.val, by omega⟩ j else 0) (j : Fin 1024) :
    proj b v j = ∑ k : Fin 512, b (lane k) * u k j := by
  unfold proj
  rw [Fin.sum_univ_tiles 8 128 (by norm_num) (fun i : Fin 1024 => b i * v i j),
    Fin.sum_univ_tiles 8 64 (by norm_num) (fun k : Fin 512 => b (lane k) * u k j)]
  refine Finset.sum_congr rfl fun n _ => ?_
  rw [Fin.sum_univ_two_halves 64 64 (by norm_num) (fun d : Fin 128 => b ⟨n.val * 128 + d.val, by omega⟩ * v ⟨n.val * 128 + d.val, by omega⟩ j)]
  have hz : (∑ d : Fin 64, b ⟨n.val * 128 + (64 + d.val), by omega⟩ * v ⟨n.val * 128 + (64 + d.val), by omega⟩ j) = 0 :=
    Finset.sum_eq_zero fun d _ => by
      have e := hv n ⟨64 + d.val, by omega⟩ j
      rw [dif_neg (by simp)] at e
      rw [show v ⟨n.val * 128 + (64 + d.val), by omega⟩ j = 0 from e, mul_zero]
  refine (congrArg (_ + ·) hz).trans ((add_zero _).trans (Finset.sum_congr rfl fun d _ => ?_))
  have e := hv n ⟨d.val, by omega⟩ j
  rw [dif_pos d.isLt] at e
  have hl : lane ⟨n.val * 64 + d.val, by omega⟩ = (⟨n.val * 128 + d.val, by omega⟩ : Fin 1024) := Fin.ext (by
    show (n.val * 64 + d.val) / 64 * 128 + (n.val * 64 + d.val) % 64 = n.val * 128 + d.val
    omega)
  rw [hl]
  exact congrArg (b ⟨n.val * 128 + d.val, by omega⟩ * ·) e

end Cert.PostEvenSpec

end
-- ==== Proof.PostEvenTile.lean ====
/-
  One tile of the block where two mixers' outputs enter it: the body's payloads read at a row and a channel are the row's
  mathematics (`Cert.PostEvenSpec`), the output projection the sum of the two mixers' products, the MLP's four tiles of
  hidden units its one sum.
-/
module

public import proofs.«01_k».proof.Proof.PostEvenSpec
public import proofs.«01_k».proof.Proof.Gen.PostEvenIdeal.Value

@[expose] public section

set_option maxRecDepth 16384

noncomputable section

namespace Cert.PostEvenIdeal.Hand

open Idealize.ShloMosaic Cert.PostEvenIdeal Cert.PostEvenIdeal.Gen Cert.PostSpec Cert.PostEvenSpec
open scoped BigOperators

/-- Row `r` of a matrix. -/
abbrev line {a b : ℕ} (x : (⟨2, ![a, b]⟩ : Shape).Idx → EReal) (r : Fin a) : Fin b → EReal := fun k => x (ix2 r k)

/-- A matrix by its row and its column. -/
abbrev mat {a b : ℕ} (x : (⟨2, ![a, b]⟩ : Shape).Idx → EReal) : Fin a → Fin b → EReal := fun i j => x (ix2 i j)

/-- The output projection of a tile's row: the two products of the two mixers' rows, added. -/
abbrev both (ya : Vec Ideal S512x512 .f32) (wa : Vec Ideal S512x1024 .bf16) (yb : Vec Ideal S512x1024 .f32)
    (wb : Vec Ideal S1024x1024 .bf16) (r : Fin 512) : Fin 1024 → EReal := fun j =>
  proj (line ya r) (mat wa) j + proj (line yb r) (mat wb) j

theorem pay8_apply (h : Vec Ideal S512x1024 .f32) (ya : Vec Ideal S512x512 .f32) (wa : Vec Ideal S512x1024 .bf16)
    (yb : Vec Ideal S512x1024 .f32) (wb : Vec Ideal S1024x1024 .bf16) (g b : Vec Ideal S1x1024 .f32)
    (r : Fin 512) (l : Fin 1024) :
    k0_pay8 (k0_pay3 g) (k0_pay4 b) (k0_pay6 h ya wa yb wb) (k0_pay7 h ya wa yb wb) (ix2 r l)
      = norm (resid (line h r) (both ya wa yb wb r)) (line g 0) (line b 0) l := by
  pointwise [k0_pay8, k0_pay7, k0_pay6, k0_pay5, k0_pay4, k0_pay3, k0_pay2]
  rfl

theorem pay9_eq (g b : FVec Ideal S1x1024 .f32) (x : FVec Ideal S512x1024 .f32) (v : FVec Ideal S512x1 .f32) :
    (k0_pay9 g b x v : S512x1024.Idx → EReal) = k0_pay8 g b x v := rfl

/-- The first two tiles of hidden units. -/
theorem pay10_apply (g b : FVec Ideal S1x1024 .f32) (x : FVec Ideal S512x1024 .f32) (v : FVec Ideal S512x1 .f32)
    (u0 d0 u1 d1 : Vec Ideal S1024x1024 .bf16) (r : Fin 512) (l : Fin 1024) :
    k0_pay10 g b x v u0 d0 u1 d1 (ix2 r l)
      = (∑ f : Fin 1024, act (proj (line (k0_pay8 g b x v) r) (mat u0) f) * d0 (ix2 f l))
        + ∑ f : Fin 1024, act (proj (line (k0_pay8 g b x v) r) (mat u1) f) * d1 (ix2 f l) := by
  pointwise [k0_pay10, k0_pay9]
  rfl

/-- The third tile of hidden units. -/
theorem pay11_apply (g b : FVec Ideal S1x1024 .f32) (x : FVec Ideal S512x1024 .f32) (v : FVec Ideal S512x1 .f32)
    (u d : Vec Ideal S1024x1024 .bf16) (r : Fin 512) (l : Fin 1024) :
    k0_pay11 g b x v u d (ix2 r l)
      = ∑ f : Fin 1024, act (proj (line (k0_pay8 g b x v) r) (mat u) f) * d (ix2 f l) := by
  pointwise [k0_pay11, k0_pay9]
  rfl

/-- The last tile of hidden units added to the others, and the second layer norm. -/
theorem pay12_apply (x : FVec Ideal S512x1024 .f32) (xb : FVec Ideal S512x1024 .bf16) (y z : FVec Ideal S512x1024 .f32)
    (u d : Vec Ideal S1024x1024 .bf16) (g b : Vec Ideal S1x1024 .f32) (r : Fin 512) (l : Fin 1024) :
    k0_pay12 x xb y z u d g b (ix2 r l)
      = norm (resid (line x r) (fun j => y (ix2 r j) + z (ix2 r j)
          + ∑ f : Fin 1024, act (proj (line xb r) (mat u) f) * d (ix2 f j))) (line g 0) (line b 0) l := by
  pointwise [k0_pay12]
  rfl

theorem pay1_apply (y : FVec Ideal S512x1024 .f32) (x : FVec Ideal S512x1024 .bf16) (w : Vec Ideal S1024x1024 .bf16)
    (p : Vec Ideal S1x512x256 .f32) (wp : Vec Ideal S256x1024 .bf16) (r : Fin 512) (l : Fin 1024) :
    k0_pay1 y x w p wp (ix2 r l)
      = y (ix2 r l) + gate (proj (line x r) (mat w) l) * proj (fun k : Fin 256 => p (ix3 0 r k)) (mat wp) l := by
  pointwise [k0_pay1]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output window, at a row and a channel: the row's mathematics of the input blocks. -/
theorem out_apply (x0 : Vec Ideal S512x1024 .f32) (x1 : Vec Ideal S512x512 .f32) (x2 : Vec Ideal S512x1024 .bf16)
    (x3 : Vec Ideal S512x1024 .f32) (x4 : Vec Ideal S1024x1024 .bf16) (x5 x6 : Vec Ideal S1x1024 .f32)
    (x7 : Vec Ideal S1024x4096 .bf16) (x8 : Vec Ideal S4096x1024 .bf16) (x9 x10 : Vec Ideal S1x1024 .f32)
    (x11 : Vec Ideal S1024x1024 .bf16) (x12 : Vec Ideal S1x512x256 .f32) (x13 : Vec Ideal S256x1024 .bf16)
    (r : Fin 512) (l : Fin 1024) :
    out0_14 x0 x1 x2 x3 x4 x5 x6 x7 x8 x9 x10 x11 x12 x13 (ix2 r l)
      = after (line x0 r) (both x1 x2 x3 x4 r) (fun k : Fin 256 => x12 (ix3 0 r k)) (line x5 0) (line x6 0) (mat x7) (mat x8)
          (line x9 0) (line x10 0) (mat x11) (mat x13) l := by
  have e0 : ∀ x : Vec Ideal S512x1024 .f32, View.ld x r0_0 = x := fun x => View.ld_unit_zero (S := S512x1024) hz2 _ x
  have e0' : ∀ x : Vec Ideal S512x1024 .bf16, View.ld x r0_0 = x := fun x => View.ld_unit_zero (S := S512x1024) hz2 _ x
  have e1 : View.ld x1 r0_1 = x1 := View.ld_unit_zero (S := S512x512) hz2 _ x1
  have e2 : ∀ x : Vec Ideal S1024x1024 .bf16, View.ld x r0_2 = x := fun x => View.ld_unit_zero (S := S1024x1024) hz2 _ x
  have e3 : ∀ x : Vec Ideal S1x1024 .f32, View.ld x r0_3 = x := fun x => View.ld_unit_zero (S := S1x1024) hz2 _ x
  have e12 : View.ld x12 r0_12 = x12 := View.ld_unit_zero (S := S1x512x256) hz3 _ x12
  have e13 : View.ld x13 r0_13 = x13 := View.ld_unit_zero (S := S256x1024) hz2 _ x13
  -- the row after the first layer norm
  have hx : line (k0_pay8 (k0_pay3 x5) (k0_pay4 x6) (k0_pay6 x0 x1 x2 x3 x4) (k0_pay7 x0 x1 x2 x3 x4)) r
      = norm (resid (line x0 r) (both x1 x2 x3 x4 r)) (line x5 0) (line x6 0) :=
    funext fun j => pay8_apply x0 x1 x2 x3 x4 x5 x6 r j
  unfold out0_14
  rw [View.canon_unit_zero hz2]
  unfold k0_pay20 k0_pay21 k0_pay18 k0_pay19 k0_pay14 k0_pay15 k0_pay16 k0_pay17
  rw [e0, e1, e0', e0, e2, e3, e3, e3, e3, e2, e12, e13]
  rw [pay9_eq]
  -- the row after the second
  have hy : ∀ j, k0_pay12 (k0_pay8 (k0_pay3 x5) (k0_pay4 x6) (k0_pay6 x0 x1 x2 x3 x4) (k0_pay7 x0 x1 x2 x3 x4))
        (k0_pay8 (k0_pay3 x5) (k0_pay4 x6) (k0_pay6 x0 x1 x2 x3 x4) (k0_pay7 x0 x1 x2 x3 x4))
        (k0_pay10 (k0_pay3 x5) (k0_pay4 x6) (k0_pay6 x0 x1 x2 x3 x4) (k0_pay7 x0 x1 x2 x3 x4) (View.ld x7 r0_4) (View.ld x8 r0_5) (View.ld x7 r0_6) (View.ld x8 r0_7))
        (k0_pay11 (k0_pay3 x5) (k0_pay4 x6) (k0_pay6 x0 x1 x2 x3 x4) (k0_pay7 x0 x1 x2 x3 x4) (View.ld x7 r0_8) (View.ld x8 r0_9))
        (View.ld x7 r0_10) (View.ld x8 r0_11) x9 x10 (ix2 r j)
      = second (norm (resid (line x0 r) (both x1 x2 x3 x4 r)) (line x5 0) (line x6 0)) (mat x7) (mat x8) (line x9 0) (line x10 0) j :=
    fun j => by
      rw [pay12_apply]
      unfold second
      congr 2
      funext q
      rw [mlp_tiles, pay10_apply, pay11_apply, hx]
      generalize norm (resid (line x0 r) (both x1 x2 x3 x4 r)) (line x5 0) (line x6 0) = X
      simp only [proj, mat, line]
      pointwise []
  rw [pay1_apply]
  unfold after third
  rw [hy]
  have hl : line (k0_pay13 (k0_pay8 (k0_pay3 x5) (k0_pay4 x6) (k0_pay6 x0 x1 x2 x3 x4) (k0_pay7 x0 x1 x2 x3 x4))
        (k0_pay8 (k0_pay3 x5) (k0_pay4 x6) (k0_pay6 x0 x1 x2 x3 x4) (k0_pay7 x0 x1 x2 x3 x4))
        (k0_pay10 (k0_pay3 x5) (k0_pay4 x6) (k0_pay6 x0 x1 x2 x3 x4) (k0_pay7 x0 x1 x2 x3 x4) (View.ld x7 r0_4) (View.ld x8 r0_5) (View.ld x7 r0_6) (View.ld x8 r0_7))
        (k0_pay11 (k0_pay3 x5) (k0_pay4 x6) (k0_pay6 x0 x1 x2 x3 x4) (k0_pay7 x0 x1 x2 x3 x4) (View.ld x7 r0_8) (View.ld x8 r0_9))
        (View.ld x7 r0_10) (View.ld x8 r0_11) x9 x10) r
      = second (norm (resid (line x0 r) (both x1 x2 x3 x4 r)) (line x5 0) (line x6 0)) (mat x7) (mat x8) (line x9 0) (line x10 0) :=
    funext hy
  rw [hl]

end Cert.PostEvenIdeal.Hand

end
-- ==== Proof.PostEvenWhole.lean ====
/-
  The result of the block where two mixers' outputs enter it as one function of its arguments: what the host prepares
  (tokens of all batches in one axis, weights cast, the output weight in two parts, the second with its heads' rows padded
  to 128 lanes), each window's block of it at a grid point, and the result array the 64 points' blocks of 512 tokens make
  up.
-/
module

public import proofs.«01_k».proof.Proof.PostEvenTile

@[expose] public section

set_option maxRecDepth 16384

noncomputable section

namespace Cert.PostEvenIdeal.Hand

open Idealize.ShloMosaic Idealize.ShloMosaic.TcCoe Idealize.SL.Sem
open Cert.PostEvenIdeal Cert.PostEvenIdeal.Gen Cert.PostEvenIdeal.Value Cert.PostSpec Cert.PostEvenSpec
open scoped BigOperators

/-- The batch and the time of a token. -/
abbrev batch (r : Fin 32768) : Fin 8 := ⟨r.val / 4096, by omega⟩
abbrev time (r : Fin 32768) : Fin 4096 := ⟨r.val % 4096, by omega⟩

/-- The entries of a vector. -/
abbrev vec {a : ℕ} (x : (⟨1, ![a]⟩ : Shape).Idx → EReal) : Fin a → EReal := fun k => x (ix1 k)

/-- The result array as one function of the arguments: each token's row of the mathematics. The embedding is layer 0's. -/
def G (h : S8x4096x1024.Idx → EReal) (ya : S8x4096x512.Idx → EReal) (yb : S8x4096x1024.Idx → EReal)
    (p : S4x8x4096x256.Idx → EReal) (w : S1024x1024.Idx → EReal)
    (g1 b1 : S1024.Idx → EReal) (w1 : S1024x4096.Idx → EReal) (w2 : S4096x1024.Idx → EReal) (g2 b2 : S1024.Idx → EReal)
    (wg : S1024x1024.Idx → EReal) (wp : S256x1024.Idx → EReal) : S32768x1024.Idx → EReal := fun i =>
  after (fun k => h (ix3 (batch (i 0)) (time (i 0)) k))
    (mix (fun k => ya (ix3 (batch (i 0)) (time (i 0)) k)) (fun k => yb (ix3 (batch (i 0)) (time (i 0)) k)) (mat w))
    (fun k => p (ix4 0 (batch (i 0)) (time (i 0)) k)) (vec g1) (vec b1) (mat w1) (mat w2) (vec g2) (vec b2)
    (mat wg) (mat wp) (i 1)

variable (m : (ℓ : Loc nD τ sig) → Buf (Elt Ideal) ℓ)

/-! ### What the host prepares -/

theorem V_v9_apply (c : Dev nD) (r : Fin 32768) (k : Fin 1024) :
    (V m c main_v9 : S32768x1024.Idx → EReal) (ix2 r k) = (m ((c : Thread nD τ).loc main_arg0) : S8x4096x1024.Idx → EReal) (ix3 (batch r) (time r) k) := by
  have e : (V m c main_v9 : S32768x1024.Idx → EReal)
      = shapeCast (s := S8x4096x1024) S32768x1024 (m ((c : Thread nD τ).loc main_arg0) : S8x4096x1024.Idx → EReal) shapeCasts_S8x4096x1024_S32768x1024 := by
    dsimp only [V, hostOps0, hostOps0_1, hostOps0_2, List.flatten_cons, List.flatten_nil, List.append_nil, List.cons_append, List.nil_append]
    after_results <;> rfl
  rw [e]
  pointwise []

theorem V_v0_apply (c : Dev nD) (r : Fin 32768) (k : Fin 512) :
    (V m c main_v0 : S32768x512.Idx → EReal) (ix2 r k) = (m ((c : Thread nD τ).loc main_arg1) : S8x4096x512.Idx → EReal) (ix3 (batch r) (time r) k) := by
  have e : (V m c main_v0 : S32768x512.Idx → EReal)
      = shapeCast (s := S8x4096x512) S32768x512 (m ((c : Thread nD τ).loc main_arg1) : S8x4096x512.Idx → EReal) shapeCasts_S8x4096x512_S32768x512 := by
    dsimp only [V, hostOps0, hostOps0_1, hostOps0_2, List.flatten_cons, List.flatten_nil, List.append_nil, List.cons_append, List.nil_append]
    after_results <;> rfl
  rw [e]
  pointwise []

theorem V_v3_apply (c : Dev nD) (r : Fin 32768) (k : Fin 1024) :
    (V m c main_v3 : S32768x1024.Idx → EReal) (ix2 r k) = (m ((c : Thread nD τ).loc main_arg2) : S8x4096x1024.Idx → EReal) (ix3 (batch r) (time r) k) := by
  have e : (V m c main_v3 : S32768x1024.Idx → EReal)
      = shapeCast (s := S8x4096x1024) S32768x1024 (m ((c : Thread nD τ).loc main_arg2) : S8x4096x1024.Idx → EReal) shapeCasts_S8x4096x1024_S32768x1024 := by
    dsimp only [V, hostOps0, hostOps0_1, hostOps0_2, List.flatten_cons, List.flatten_nil, List.append_nil, List.cons_append, List.nil_append]
    after_results <;> rfl
  rw [e]
  pointwise []

theorem V_v13_apply (c : Dev nD) (r : Fin 32768) (k : Fin 256) :
    (V m c main_v13 : S4x32768x256.Idx → EReal) (ix3 0 r k)
      = (m ((c : Thread nD τ).loc main_arg3) : S4x8x4096x256.Idx → EReal) (ix4 0 (batch r) (time r) k) := by
  have e : (V m c main_v13 : S4x32768x256.Idx → EReal)
      = shapeCast (s := S4x8x4096x256) S4x32768x256 (m ((c : Thread nD τ).loc main_arg3) : S4x8x4096x256.Idx → EReal) shapeCasts_S4x8x4096x256_S4x32768x256 := by
    dsimp only [V, hostOps0, hostOps0_1, hostOps0_2, List.flatten_cons, List.flatten_nil, List.append_nil, List.cons_append, List.nil_append]
    after_results <;> rfl
  rw [e]
  pointwise []

/-- The output weight's first 512 rows, for the first mixer. -/
theorem V_v2_apply (c : Dev nD) (i : Fin 512) (j : Fin 1024) :
    (V m c main_v2 : S512x1024.Idx → EReal) (ix2 i j)
      = (m ((c : Thread nD τ).loc main_arg4) : S1024x1024.Idx → EReal) (ix2 ⟨i.val, by omega⟩ j) := by
  have e : (V m c main_v2 : S512x1024.Idx → EReal)
      = extractStridedSlice S512x1024 ![0, 0] (m ((c : Thread nD τ).loc main_arg4) : S1024x1024.Idx → EReal) slices_S1024x1024_S512x1024_0_0 := by
    dsimp only [V, hostOps0, hostOps0_1, hostOps0_2, List.flatten_cons, List.flatten_nil, List.append_nil, List.cons_append, List.nil_append]
    after_results <;> rfl
  rw [e]
  pointwise []

/-- The output weight's last 512 rows, for the second mixer: 64 rows a head, then 64 rows of zeros. -/
theorem V_v8_apply (c : Dev nD) (n : Fin 8) (d : Fin 128) (j : Fin 1024) :
    (V m c main_v8 : S1024x1024.Idx → EReal) (ix2 ⟨n.val * 128 + d.val, by omega⟩ j)
      = if h : d.val < 64 then (m ((c : Thread nD τ).loc main_arg4) : S1024x1024.Idx → EReal) (ix2 ⟨512 + (n.val * 64 + d.val), by omega⟩ j) else (0 : EReal) := by
  have e : (V m c main_v8 : S1024x1024.Idx → EReal)
      = shapeCast (s := S8x128x1024) S1024x1024 (pad S8x128x1024 ![0, 0, 0] ![0, 64, 0] ![0, 0, 0]
          (shapeCast (s := S512x1024) S8x64x1024 (extractStridedSlice S512x1024 ![512, 0] (m ((c : Thread nD τ).loc main_arg4) : S1024x1024.Idx → EReal)
            slices_S1024x1024_S512x1024_512_0) shapeCasts_S512x1024_S8x64x1024)
          (sitofp (F := Ideal) .f32 (constantI S_ 32 0#32)) pads_S8x64x1024_S8x128x1024_000_0640_000 h_S_) shapeCasts_S8x128x1024_S1024x1024 := by
    dsimp only [V, hostOps0, hostOps0_1, hostOps0_2, List.flatten_cons, List.flatten_nil, List.append_nil, List.cons_append, List.nil_append]
    after_results <;> rfl
  rw [e]
  pointwise []
  by_cases h : d.val < 64
  · rw [dif_pos h, dif_pos h]
  · rw [dif_neg h, dif_neg h]
    show (((0#32 : BitVec 32).toInt : ℝ) : EReal) = 0
    simp

theorem V_v10_eq (c : Dev nD) : (V m c main_v10 : S1024x4096.Idx → EReal) = (m ((c : Thread nD τ).loc main_arg7) : S1024x4096.Idx → EReal) := by
  dsimp only [V, hostOps0, hostOps0_1, hostOps0_2, List.flatten_cons, List.flatten_nil, List.append_nil, List.cons_append, List.nil_append]
  after_results <;> rfl

theorem V_v11_eq (c : Dev nD) : (V m c main_v11 : S4096x1024.Idx → EReal) = (m ((c : Thread nD τ).loc main_arg8) : S4096x1024.Idx → EReal) := by
  dsimp only [V, hostOps0, hostOps0_1, hostOps0_2, List.flatten_cons, List.flatten_nil, List.append_nil, List.cons_append, List.nil_append]
  after_results <;> rfl

theorem V_v12_eq (c : Dev nD) : (V m c main_v12 : S1024x1024.Idx → EReal) = (m ((c : Thread nD τ).loc main_arg11) : S1024x1024.Idx → EReal) := by
  dsimp only [V, hostOps0, hostOps0_1, hostOps0_2, List.flatten_cons, List.flatten_nil, List.append_nil, List.cons_append, List.nil_append]
  after_results <;> rfl

theorem V_v14_eq (c : Dev nD) : (V m c main_v14 : S256x1024.Idx → EReal) = (m ((c : Thread nD τ).loc main_arg12) : S256x1024.Idx → EReal) := by
  dsimp only [V, hostOps0, hostOps0_1, hostOps0_2, List.flatten_cons, List.flatten_nil, List.append_nil, List.cons_append, List.nil_append]
  after_results <;> rfl

theorem V_v15_apply (c : Dev nD) (k : Fin 1024) :
    (V m c main_v15 : S1x1024.Idx → EReal) (ix2 0 k) = (m ((c : Thread nD τ).loc main_arg5) : S1024.Idx → EReal) (ix1 k) := by
  have e : (V m c main_v15 : S1x1024.Idx → EReal)
      = broadcastInDim (s := S1024) S1x1024 ![1] bcast_S1024_S1x1024_1 (m ((c : Thread nD τ).loc main_arg5) : S1024.Idx → EReal) := by
    dsimp only [V, hostOps0, hostOps0_1, hostOps0_2, List.flatten_cons, List.flatten_nil, List.append_nil, List.cons_append, List.nil_append]
    after_results <;> rfl
  rw [e]
  pointwise []

theorem V_v16_apply (c : Dev nD) (k : Fin 1024) :
    (V m c main_v16 : S1x1024.Idx → EReal) (ix2 0 k) = (m ((c : Thread nD τ).loc main_arg6) : S1024.Idx → EReal) (ix1 k) := by
  have e : (V m c main_v16 : S1x1024.Idx → EReal)
      = broadcastInDim (s := S1024) S1x1024 ![1] bcast_S1024_S1x1024_1 (m ((c : Thread nD τ).loc main_arg6) : S1024.Idx → EReal) := by
    dsimp only [V, hostOps0, hostOps0_1, hostOps0_2, List.flatten_cons, List.flatten_nil, List.append_nil, List.cons_append, List.nil_append]
    after_results <;> rfl
  rw [e]
  pointwise []

theorem V_v17_apply (c : Dev nD) (k : Fin 1024) :
    (V m c main_v17 : S1x1024.Idx → EReal) (ix2 0 k) = (m ((c : Thread nD τ).loc main_arg9) : S1024.Idx → EReal) (ix1 k) := by
  have e : (V m c main_v17 : S1x1024.Idx → EReal)
      = broadcastInDim (s := S1024) S1x1024 ![1] bcast_S1024_S1x1024_1 (m ((c : Thread nD τ).loc main_arg9) : S1024.Idx → EReal) := by
    dsimp only [V, hostOps0, hostOps0_1, hostOps0_2, List.flatten_cons, List.flatten_nil, List.append_nil, List.cons_append, List.nil_append]
    after_results <;> rfl
  rw [e]
  pointwise []

theorem V_v18_apply (c : Dev nD) (k : Fin 1024) :
    (V m c main_v18 : S1x1024.Idx → EReal) (ix2 0 k) = (m ((c : Thread nD τ).loc main_arg10) : S1024.Idx → EReal) (ix1 k) := by
  have e : (V m c main_v18 : S1x1024.Idx → EReal)
      = broadcastInDim (s := S1024) S1x1024 ![1] bcast_S1024_S1x1024_1 (m ((c : Thread nD τ).loc main_arg10) : S1024.Idx → EReal) := by
    dsimp only [V, hostOps0, hostOps0_1, hostOps0_2, List.flatten_cons, List.flatten_nil, List.append_nil, List.cons_append, List.nil_append]
    after_results <;> rfl
  rw [e]
  pointwise []

/-! ### The windows' blocks -/

theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx12 : ∀ t : Fin cfg0.N, win0_12.index t (0 : Fin 3) = 0 ∧ win0_12.index t (1 : Fin 3) = t.val ∧ win0_12.index t (2 : Fin 3) = 0 :=
  (by decide +kernel : ∀ t : Fin grid0.N, _)

/-- Token `r` of grid point `t`'s tile. -/
abbrev tok (t : Fin cfg0.N) (r : Fin 512) : Fin 32768 :=
  ⟨t.val * 512 + r.val, by have h : t.val < 64 := t.isLt; have := r.isLt; omega⟩

theorem emb0 (t : Fin cfg0.N) (r : Fin 512) (k : Fin 1024) :
    ((cfg0.win 0).blk t).view.emb (ix2 r k : S512x1024.Idx) = (ix2 (tok t r) k : S32768x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (r : Fin 512) (k : Fin 512) :
    ((cfg0.win 1).blk t).view.emb (ix2 r k : S512x512.Idx) = (ix2 (tok t r) k : S32768x512.Idx) := by
  obtain ⟨e0, e1⟩ := idx1 t
  funext a; apply Fin.ext
  match a with
  | ⟨0, _⟩ => show win0_1.index t (0 : Fin 2) * 512 + 1 * r.val = t.val * 512 + r.val; omega
  | ⟨1, _⟩ => show win0_1.index t (1 : Fin 2) * 512 + 1 * k.val = k.val; omega

theorem emb3 (t : Fin cfg0.N) (r : Fin 512) (k : Fin 1024) :
    ((cfg0.win 3).blk t).view.emb (ix2 r k : S512x1024.Idx) = (ix2 (tok t r) k : S32768x1024.Idx) := by
  obtain ⟨e0, e1⟩ := idx3 t
  funext a; apply Fin.ext
  match a with
  | ⟨0, _⟩ => show win0_3.index t (0 : Fin 2) * 512 + 1 * r.val = t.val * 512 + r.val; omega
  | ⟨1, _⟩ => show win0_3.index t (1 : Fin 2) * 1024 + 1 * k.val = k.val; omega

theorem emb14 (t : Fin cfg0.N) (r : Fin 512) (k : Fin 1024) :
    ((cfg0.win 14).blk t).view.emb (ix2 r k : S512x1024.Idx) = (ix2 (tok t r) k : S32768x1024.Idx) := by
  obtain ⟨e0, e1⟩ := idx14 t
  funext a; apply Fin.ext
  match a with
  | ⟨0, _⟩ => show win0_14.index t (0 : Fin 2) * 512 + 1 * r.val = t.val * 512 + r.val; omega
  | ⟨1, _⟩ => show win0_14.index t (1 : Fin 2) * 1024 + 1 * k.val = k.val; omega

theorem iblk5_eq (c : Dev nD) (t : Fin cfg0.N) : (iblk m c 5 t : S1x1024.Idx → EReal) = (V m c main_v15 : S1x1024.Idx → EReal) := by
  obtain ⟨e0, e1⟩ := idx5 t
  funext j
  show (V m c main_v15 : S1x1024.Idx → EReal) (((cfg0.win 5).blk t).view.emb j) = (V m c main_v15 : S1x1024.Idx → EReal) j
  refine congrArg (V m c main_v15 : S1x1024.Idx → EReal) (funext fun a => Fin.ext ?_)
  match a with
  | ⟨0, _⟩ => show win0_5.index t (0 : Fin 2) * 1 + 1 * (j 0).val = (j 0).val; omega
  | ⟨1, _⟩ => show win0_5.index t (1 : Fin 2) * 1024 + 1 * (j 1).val = (j 1).val; omega

theorem iblk6_eq (c : Dev nD) (t : Fin cfg0.N) : (iblk m c 6 t : S1x1024.Idx → EReal) = (V m c main_v16 : S1x1024.Idx → EReal) := by
  obtain ⟨e0, e1⟩ := idx6 t
  funext j
  show (V m c main_v16 : S1x1024.Idx → EReal) (((cfg0.win 6).blk t).view.emb j) = (V m c main_v16 : S1x1024.Idx → EReal) j
  refine congrArg (V m c main_v16 : S1x1024.Idx → EReal) (funext fun a => Fin.ext ?_)
  match a with
  | ⟨0, _⟩ => show win0_6.index t (0 : Fin 2) * 1 + 1 * (j 0).val = (j 0).val; omega
  | ⟨1, _⟩ => show win0_6.index t (1 : Fin 2) * 1024 + 1 * (j 1).val = (j 1).val; omega

theorem iblk7_eq (c : Dev nD) (t : Fin cfg0.N) : (iblk m c 7 t : S1024x4096.Idx → EReal) = (V m c main_v10 : S1024x4096.Idx → EReal) := by
  obtain ⟨e0, e1⟩ := idx7 t
  funext j
  show (V m c main_v10 : S1024x4096.Idx → EReal) (((cfg0.win 7).blk t).view.emb j) = (V m c main_v10 : S1024x4096.Idx → EReal) j
  refine congrArg (V m c main_v10 : S1024x4096.Idx → EReal) (funext fun a => Fin.ext ?_)
  match a with
  | ⟨0, _⟩ => show win0_7.index t (0 : Fin 2) * 1024 + 1 * (j 0).val = (j 0).val; omega
  | ⟨1, _⟩ => show win0_7.index t (1 : Fin 2) * 4096 + 1 * (j 1).val = (j 1).val; omega

theorem iblk8_eq (c : Dev nD) (t : Fin cfg0.N) : (iblk m c 8 t : S4096x1024.Idx → EReal) = (V m c main_v11 : S4096x1024.Idx → EReal) := by
  obtain ⟨e0, e1⟩ := idx8 t
  funext j
  show (V m c main_v11 : S4096x1024.Idx → EReal) (((cfg0.win 8).blk t).view.emb j) = (V m c main_v11 : S4096x1024.Idx → EReal) j
  refine congrArg (V m c main_v11 : S4096x1024.Idx → EReal) (funext fun a => Fin.ext ?_)
  match a with
  | ⟨0, _⟩ => show win0_8.index t (0 : Fin 2) * 4096 + 1 * (j 0).val = (j 0).val; omega
  | ⟨1, _⟩ => show win0_8.index t (1 : Fin 2) * 1024 + 1 * (j 1).val = (j 1).val; omega

theorem iblk9_eq (c : Dev nD) (t : Fin cfg0.N) : (iblk m c 9 t : S1x1024.Idx → EReal) = (V m c main_v17 : S1x1024.Idx → EReal) := by
  obtain ⟨e0, e1⟩ := idx9 t
  funext j
  show (V m c main_v17 : S1x1024.Idx → EReal) (((cfg0.win 9).blk t).view.emb j) = (V m c main_v17 : S1x1024.Idx → EReal) j
  refine congrArg (V m c main_v17 : S1x1024.Idx → EReal) (funext fun a => Fin.ext ?_)
  match a with
  | ⟨0, _⟩ => show win0_9.index t (0 : Fin 2) * 1 + 1 * (j 0).val = (j 0).val; omega
  | ⟨1, _⟩ => show win0_9.index t (1 : Fin 2) * 1024 + 1 * (j 1).val = (j 1).val; omega

theorem iblk10_eq (c : Dev nD) (t : Fin cfg0.N) : (iblk m c 10 t : S1x1024.Idx → EReal) = (V m c main_v18 : S1x1024.Idx → EReal) := by
  obtain ⟨e0, e1⟩ := idx10 t
  funext j
  show (V m c main_v18 : S1x1024.Idx → EReal) (((cfg0.win 10).blk t).view.emb j) = (V m c main_v18 : S1x1024.Idx → EReal) j
  refine congrArg (V m c main_v18 : S1x1024.Idx → EReal) (funext fun a => Fin.ext ?_)
  match a with
  | ⟨0, _⟩ => show win0_10.index t (0 : Fin 2) * 1 + 1 * (j 0).val = (j 0).val; omega
  | ⟨1, _⟩ => show win0_10.index t (1 : Fin 2) * 1024 + 1 * (j 1).val = (j 1).val; omega

theorem iblk11_eq (c : Dev nD) (t : Fin cfg0.N) : (iblk m c 11 t : S1024x1024.Idx → EReal) = (V m c main_v12 : S1024x1024.Idx → EReal) := by
  obtain ⟨e0, e1⟩ := idx11 t
  funext j
  show (V m c main_v12 : S1024x1024.Idx → EReal) (((cfg0.win 11).blk t).view.emb j) = (V m c main_v12 : S1024x1024.Idx → EReal) j
  refine congrArg (V m c main_v12 : S1024x1024.Idx → EReal) (funext fun a => Fin.ext ?_)
  match a with
  | ⟨0, _⟩ => show win0_11.index t (0 : Fin 2) * 1024 + 1 * (j 0).val = (j 0).val; omega
  | ⟨1, _⟩ => show win0_11.index t (1 : Fin 2) * 1024 + 1 * (j 1).val = (j 1).val; omega

theorem iblk13_eq (c : Dev nD) (t : Fin cfg0.N) : (iblk m c 13 t : S256x1024.Idx → EReal) = (V m c main_v14 : S256x1024.Idx → EReal) := by
  obtain ⟨e0, e1⟩ := idx13 t
  funext j
  show (V m c main_v14 : S256x1024.Idx → EReal) (((cfg0.win 13).blk t).view.emb j) = (V m c main_v14 : S256x1024.Idx → EReal) j
  refine congrArg (V m c main_v14 : S256x1024.Idx → EReal) (funext fun a => Fin.ext ?_)
  match a with
  | ⟨0, _⟩ => show win0_13.index t (0 : Fin 2) * 256 + 1 * (j 0).val = (j 0).val; omega
  | ⟨1, _⟩ => show win0_13.index t (1 : Fin 2) * 1024 + 1 * (j 1).val = (j 1).val; omega

theorem iblk2_eq (c : Dev nD) (t : Fin cfg0.N) : (iblk m c 2 t : S512x1024.Idx → EReal) = (V m c main_v2 : S512x1024.Idx → EReal) := by
  obtain ⟨e0, e1⟩ := idx2 t
  funext j
  show (V m c main_v2 : S512x1024.Idx → EReal) (((cfg0.win 2).blk t).view.emb j) = (V m c main_v2 : S512x1024.Idx → EReal) j
  refine congrArg (V m c main_v2 : S512x1024.Idx → EReal) (funext fun a => Fin.ext ?_)
  match a with
  | ⟨0, _⟩ => show win0_2.index t (0 : Fin 2) * 512 + 1 * (j 0).val = (j 0).val; omega
  | ⟨1, _⟩ => show win0_2.index t (1 : Fin 2) * 1024 + 1 * (j 1).val = (j 1).val; omega

theorem iblk4_eq (c : Dev nD) (t : Fin cfg0.N) : (iblk m c 4 t : S1024x1024.Idx → EReal) = (V m c main_v8 : S1024x1024.Idx → EReal) := by
  obtain ⟨e0, e1⟩ := idx4 t
  funext j
  show (V m c main_v8 : S1024x1024.Idx → EReal) (((cfg0.win 4).blk t).view.emb j) = (V m c main_v8 : S1024x1024.Idx → EReal) j
  refine congrArg (V m c main_v8 : S1024x1024.Idx → EReal) (funext fun a => Fin.ext ?_)
  match a with
  | ⟨0, _⟩ => show win0_4.index t (0 : Fin 2) * 1024 + 1 * (j 0).val = (j 0).val; omega
  | ⟨1, _⟩ => show win0_4.index t (1 : Fin 2) * 1024 + 1 * (j 1).val = (j 1).val; omega

theorem emb12 (t : Fin cfg0.N) (r : Fin 512) (k : Fin 256) :
    ((cfg0.win 12).blk t).view.emb (ix3 0 r k : S1x512x256.Idx) = (ix3 0 (tok t r) k : S4x32768x256.Idx) := by
  obtain ⟨e0, e1, e2⟩ := idx12 t
  funext a; apply Fin.ext
  match a with
  | ⟨0, _⟩ => show win0_12.index t (0 : Fin 3) * 1 + 1 * 0 = 0; omega
  | ⟨1, _⟩ => show win0_12.index t (1 : Fin 3) * 512 + 1 * r.val = t.val * 512 + r.val; omega
  | ⟨2, _⟩ => show win0_12.index t (2 : Fin 3) * 256 + 1 * k.val = k.val; omega

/-! ### The result array -/

/-- The result array of the arguments as launched. -/
abbrev res (c : Dev nD) : S32768x1024.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))

/-- What a point writes back is its block of the result array. -/
theorem flushed_eq (c : Dev nD) (t : Fin cfg0.N) :
    (dats m 0 c).flushed 14 t = ((cfg0.win 14).blk t).view.read (Elt Ideal) (res m c) := by
  rw [flushed14]
  funext j
  obtain ⟨r, l, rfl⟩ : ∃ (r : Fin 512) (l : Fin 1024), j = (ix2 r l : S512x1024.Idx) := ⟨j 0, j 1, eq_ix2 j⟩
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r l)
    = res m c (((cfg0.win 14).blk t).view.emb (ix2 r l : S512x1024.Idx))
  rw [emb14]
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r l).trans ?_
  have h0 : line (iblk m c 0 t : S512x1024.Idx → EReal) r
      = fun k => (m ((c : Thread nD τ).loc main_arg0) : S8x4096x1024.Idx → EReal) (ix3 (batch (tok t r)) (time (tok t r)) k) :=
    funext fun k => by
      show (V m c main_v9 : S32768x1024.Idx → EReal) (((cfg0.win 0).blk t).view.emb (ix2 r k : S512x1024.Idx)) = _
      rw [emb0]; exact V_v9_apply m c (tok t r) k
  have h1 : line (iblk m c 1 t : S512x512.Idx → EReal) r
      = fun k => (m ((c : Thread nD τ).loc main_arg1) : S8x4096x512.Idx → EReal) (ix3 (batch (tok t r)) (time (tok t r)) k) :=
    funext fun k => by
      show (V m c main_v0 : S32768x512.Idx → EReal) (((cfg0.win 1).blk t).view.emb (ix2 r k : S512x512.Idx)) = _
      rw [emb1]; exact V_v0_apply m c (tok t r) k
  have h3 : line (iblk m c 3 t : S512x1024.Idx → EReal) r
      = fun k => (m ((c : Thread nD τ).loc main_arg2) : S8x4096x1024.Idx → EReal) (ix3 (batch (tok t r)) (time (tok t r)) k) :=
    funext fun k => by
      show (V m c main_v3 : S32768x1024.Idx → EReal) (((cfg0.win 3).blk t).view.emb (ix2 r k : S512x1024.Idx)) = _
      rw [emb3]; exact V_v3_apply m c (tok t r) k
  have h12 : (fun k : Fin 256 => (iblk m c 12 t : S1x512x256.Idx → EReal) (ix3 0 r k))
      = fun k => (m ((c : Thread nD τ).loc main_arg3) : S4x8x4096x256.Idx → EReal) (ix4 0 (batch (tok t r)) (time (tok t r)) k) :=
    funext fun k => by
      show (V m c main_v13 : S4x32768x256.Idx → EReal) (((cfg0.win 12).blk t).view.emb (ix3 0 r k : S1x512x256.Idx)) = _
      rw [emb12]; exact V_v13_apply m c (tok t r) k
  have h5 : line (iblk m c 5 t : S1x1024.Idx → EReal) 0 = vec (m ((c : Thread nD τ).loc main_arg5) : S1024.Idx → EReal) :=
    funext fun k => by
      show (iblk m c 5 t : S1x1024.Idx → EReal) (ix2 0 k) = _
      rw [iblk5_eq]; exact V_v15_apply m c k
  have h6 : line (iblk m c 6 t : S1x1024.Idx → EReal) 0 = vec (m ((c : Thread nD τ).loc main_arg6) : S1024.Idx → EReal) :=
    funext fun k => by
      show (iblk m c 6 t : S1x1024.Idx → EReal) (ix2 0 k) = _
      rw [iblk6_eq]; exact V_v16_apply m c k
  have h9 : line (iblk m c 9 t : S1x1024.Idx → EReal) 0 = vec (m ((c : Thread nD τ).loc main_arg9) : S1024.Idx → EReal) :=
    funext fun k => by
      show (iblk m c 9 t : S1x1024.Idx → EReal) (ix2 0 k) = _
      rw [iblk9_eq]; exact V_v17_apply m c k
  have h10 : line (iblk m c 10 t : S1x1024.Idx → EReal) 0 = vec (m ((c : Thread nD τ).loc main_arg10) : S1024.Idx → EReal) :=
    funext fun k => by
      show (iblk m c 10 t : S1x1024.Idx → EReal) (ix2 0 k) = _
      rw [iblk10_eq]; exact V_v18_apply m c k
  have h7 : mat (iblk m c 7 t : S1024x4096.Idx → EReal) = mat (m ((c : Thread nD τ).loc main_arg7) : S1024x4096.Idx → EReal) := by
    rw [iblk7_eq, V_v10_eq]
  have h8 : mat (iblk m c 8 t : S4096x1024.Idx → EReal) = mat (m ((c : Thread nD τ).loc main_arg8) : S4096x1024.Idx → EReal) := by
    rw [iblk8_eq, V_v11_eq]
  have h11 : mat (iblk m c 11 t : S1024x1024.Idx → EReal) = mat (m ((c : Thread nD τ).loc main_arg11) : S1024x1024.Idx → EReal) := by
    rw [iblk11_eq, V_v12_eq]
  have h13 : mat (iblk m c 13 t : S256x1024.Idx → EReal) = mat (m ((c : Thread nD τ).loc main_arg12) : S256x1024.Idx → EReal) := by
    rw [iblk13_eq, V_v14_eq]
  have h24 : both (iblk m c 1 t) (iblk m c 2 t) (iblk m c 3 t) (iblk m c 4 t) r
      = mix (fun k => (m ((c : Thread nD τ).loc main_arg1) : S8x4096x512.Idx → EReal) (ix3 (batch (tok t r)) (time (tok t r)) k))
          (fun k => (m ((c : Thread nD τ).loc main_arg2) : S8x4096x1024.Idx → EReal) (ix3 (batch (tok t r)) (time (tok t r)) k))
          (mat (m ((c : Thread nD τ).loc main_arg4) : S1024x1024.Idx → EReal)) := funext fun j => by
    show proj (line (iblk m c 1 t : S512x512.Idx → EReal) r) (mat (iblk m c 2 t : S512x1024.Idx → EReal)) j
      + proj (line (iblk m c 3 t : S512x1024.Idx → EReal) r) (mat (iblk m c 4 t : S1024x1024.Idx → EReal)) j = _
    rw [h1, h3]
    unfold mix
    refine congrArg₂ (· + ·) (Finset.sum_congr rfl fun k _ => ?_) ?_
    · refine congrArg (HMul.hMul (α := EReal) _) ?_
      show (iblk m c 2 t : S512x1024.Idx → EReal) (ix2 k j) = _
      rw [iblk2_eq]; exact V_v2_apply m c k j
    · refine proj_lanes _ (fun k j => mat (m ((c : Thread nD τ).loc main_arg4) : S1024x1024.Idx → EReal) ⟨512 + k.val, by omega⟩ j) _ (fun n d j => ?_) j
      show (iblk m c 4 t : S1024x1024.Idx → EReal) (ix2 ⟨n.val * 128 + d.val, _⟩ j) = _
      rw [iblk4_eq]; exact V_v8_apply m c n d j
  show after (line (iblk m c 0 t : S512x1024.Idx → EReal) r) (both (iblk m c 1 t) (iblk m c 2 t) (iblk m c 3 t) (iblk m c 4 t) r)
      (fun k : Fin 256 => (iblk m c 12 t : S1x512x256.Idx → EReal) (ix3 0 r k))
      (line (iblk m c 5 t : S1x1024.Idx → EReal) 0) (line (iblk m c 6 t : S1x1024.Idx → EReal) 0)
      (mat (iblk m c 7 t : S1024x4096.Idx → EReal)) (mat (iblk m c 8 t : S4096x1024.Idx → EReal))
      (line (iblk m c 9 t : S1x1024.Idx → EReal) 0) (line (iblk m c 10 t : S1x1024.Idx → EReal) 0)
      (mat (iblk m c 11 t : S1024x1024.Idx → EReal)) (mat (iblk m c 13 t : S256x1024.Idx → EReal)) l = _
  rw [h0, h24, h5, h6, h7, h8, h9, h10, h11, h12, h13]
  rfl

/-- Every index of the result array is in the block of its token's tile. -/
theorem covered (i : S32768x1024.Idx) :
    ∃ t : Fin cfg0.N, (cfg0.win 14).flush t = true ∧ i ∈ ((cfg0.win 14).blk t).view.set := by
  have h0 : (i 0).val < 32768 := (i 0).isLt
  have hN : (i 0).val / 512 < cfg0.N := by show (i 0).val / 512 < 64; omega
  refine ⟨⟨(i 0).val / 512, hN⟩, flush0_14 _, ?_⟩
  have h := ((cfg0.win 14).blk ⟨(i 0).val / 512, hN⟩).view.emb_mem_set
    (ix2 (⟨(i 0).val % 512, by omega⟩ : Fin 512) (i 1 : Fin 1024) : S512x1024.Idx)
  have e : (ix2 (tok ⟨(i 0).val / 512, hN⟩ ⟨(i 0).val % 512, by omega⟩) (i 1 : Fin 1024) : S32768x1024.Idx) = i := by
    refine (congrArg (fun a : Fin 32768 => (ix2 a (i 1 : Fin 1024) : S32768x1024.Idx)) (Fin.ext ?_)).trans (eq_ix2 i).symm
    show (i 0).val / 512 * 512 + (i 0).val % 512 = (i 0).val
    omega
  exact (congrArg (· ∈ ((cfg0.win 14).blk ⟨(i 0).val / 512, hN⟩).view.set) ((emb14 _ _ _).trans e)).mp h

/-- The result array after the run. -/
theorem final (c : Dev nD) : (dats m 0 c).arrAt 14 cfg0.N = res m c :=
  (dats m 0 c).arrAt_eq_of_cover 14 (res m c) (fun t _ => flushed_eq m c t) covered

end Cert.PostEvenIdeal.Hand

end
-- ==== Proof.PostEvenReference.lean ====
/-
  The reference's result with two mixers side by side, read at a token and a channel: the row's mathematics
  (`Cert.PostEvenSpec`) of the token's rows.
-/
module

public import proofs.«01_k».proof.Proof.PostEvenSpec
public import proofs.«01_k».proof.Proof.Gen.PostEvenReferenceIdeal.Read

@[expose] public section

set_option maxRecDepth 16384

noncomputable section

namespace Cert.PostEvenReferenceIdeal.Hand

open Idealize.ShloMosaic Cert.PostEvenReferenceIdeal Cert.PostEvenReferenceIdeal.Gen Cert.PostEvenReferenceIdeal.Read
open Cert.PostSpec Cert.PostEvenSpec
open scoped BigOperators

variable (x0 : S8x4096x1024.Idx → EReal) (x1 : S8x4096x512.Idx → EReal) (x2 : S8x4096x1024.Idx → EReal)
  (x3 : S4x8x4096x256.Idx → EReal) (x4 : S1024x1024.Idx → EReal) (x5 x6 : S1024.Idx → EReal) (x7 : S1024x4096.Idx → EReal)
  (x8 : S4096x1024.Idx → EReal) (x9 x10 : S1024.Idx → EReal) (x11 : S1024x1024.Idx → EReal) (x12 : S256x1024.Idx → EReal)

/-- The output projection of the two mixers' rows. -/
theorem mix_apply (b : Fin 8) (t : Fin 4096) (j : Fin 1024) :
    (val_main_v4 (F := Ideal) x1 x2 x4 : S8x4096x1024.Idx → EReal) (ix3 b t j)
      = mix (fun k => x1 (ix3 b t k)) (fun k => x2 (ix3 b t k)) (fun i j => x4 (ix2 i j)) j := by
  pointwise [val_main_v4, val_main_v3, val_main_v2, val_main_v1, val_main_v0]
  rfl

/-- The row after the first layer norm, of the projected row. -/
theorem first_apply (b : Fin 8) (t : Fin 4096) (j : Fin 1024) :
    (val_main_v31 (F := Ideal) x0 x1 x2 x4 x5 x6 : S8x4096x1024.Idx → EReal) (ix3 b t j)
      = norm (resid (fun k => x0 (ix3 b t k)) (fun k => (val_main_v4 (F := Ideal) x1 x2 x4 : S8x4096x1024.Idx → EReal) (ix3 b t k)))
          (fun k => x5 (ix1 k)) (fun k => x6 (ix1 k)) j := by
  pointwise [val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_cst, val_main_cst_0, val_main_cst_1, val_main_cst_2, val_main_cst_3,
    val_main_cst_4]
  rfl

/-- The row after the second layer norm, of the row after the first. -/
theorem second_apply (b : Fin 8) (t : Fin 4096) (j : Fin 1024) :
    (val_main_v62 (F := Ideal) x0 x1 x2 x4 x5 x6 x7 x8 x9 x10 : S8x4096x1024.Idx → EReal) (ix3 b t j)
      = second (fun k => (val_main_v31 (F := Ideal) x0 x1 x2 x4 x5 x6 : S8x4096x1024.Idx → EReal) (ix3 b t k))
          (fun i j => x7 (ix2 i j)) (fun i j => x8 (ix2 i j)) (fun k => x9 (ix1 k)) (fun k => x10 (ix1 k)) j := by
  pointwise [val_main_v62, val_main_v61, val_main_v60, val_main_v59, val_main_v58, val_main_v57, val_main_v56, val_main_v55,
    val_main_v54, val_main_v53, val_main_v52, val_main_v51, val_main_v50, val_main_v49, val_main_v48, val_main_v47,
    val_main_v46, val_main_v45, val_main_v44, val_main_v43, val_main_v42, val_main_v41, val_main_v40, val_main_v39,
    val_main_v38, val_main_v37, val_main_v36, val_main_v35, val_main_v34, val_main_v33, val_main_v32, val_main_call0_v0,
    val_main_call0_cst, val_main_cst_5, val_main_cst_6, val_main_cst_7, val_main_cst_8, val_main_cst_9, val_main_cst_10]
  rfl

/-- The row with the gated embedding of layer 0, of the row after the second layer norm. -/
theorem third_apply (b : Fin 8) (t : Fin 4096) (j : Fin 1024) :
    (val_main_v74 (F := Ideal) x0 x1 x2 x3 x4 x5 x6 x7 x8 x9 x10 x11 x12 : S8x4096x1024.Idx → EReal) (ix3 b t j)
      = third (fun k => (val_main_v62 (F := Ideal) x0 x1 x2 x4 x5 x6 x7 x8 x9 x10 : S8x4096x1024.Idx → EReal) (ix3 b t k))
          (fun k => x3 (ix4 0 b t k)) (fun i j => x11 (ix2 i j)) (fun i j => x12 (ix2 i j)) j := by
  pointwise [val_main_v74, val_main_v73, val_main_v72, val_main_v71, val_main_v70, val_main_v69, val_main_v68, val_main_v67,
    val_main_v66, val_main_v65, val_main_v64, val_main_v63, val_main_cst_11, val_main_cst_12]
  rfl

/-- The result, token by token: the row's mathematics of the arguments' rows. -/
theorem result_apply (r : Fin 32768) (j : Fin 1024) :
    (val_main_v75 (F := Ideal) x0 x1 x2 x3 x4 x5 x6 x7 x8 x9 x10 x11 x12 : S32768x1024.Idx → EReal) (ix2 r j)
      = after (fun k => x0 (ix3 ⟨r.val / 4096, by omega⟩ ⟨r.val % 4096, by omega⟩ k))
          (mix (fun k => x1 (ix3 ⟨r.val / 4096, by omega⟩ ⟨r.val % 4096, by omega⟩ k))
            (fun k => x2 (ix3 ⟨r.val / 4096, by omega⟩ ⟨r.val % 4096, by omega⟩ k)) (fun i j => x4 (ix2 i j)))
          (fun k => x3 (ix4 0 ⟨r.val / 4096, by omega⟩ ⟨r.val % 4096, by omega⟩ k))
          (fun k => x5 (ix1 k)) (fun k => x6 (ix1 k)) (fun i j => x7 (ix2 i j))
          (fun i j => x8 (ix2 i j)) (fun k => x9 (ix1 k)) (fun k => x10 (ix1 k)) (fun i j => x11 (ix2 i j))
          (fun i j => x12 (ix2 i j)) j := by
  have e : (val_main_v75 (F := Ideal) x0 x1 x2 x3 x4 x5 x6 x7 x8 x9 x10 x11 x12 : S32768x1024.Idx → EReal) (ix2 r j)
      = (val_main_v74 (F := Ideal) x0 x1 x2 x3 x4 x5 x6 x7 x8 x9 x10 x11 x12 : S8x4096x1024.Idx → EReal)
          (ix3 ⟨r.val / 4096, by omega⟩ ⟨r.val % 4096, by omega⟩ j) := by
    pointwise [val_main_v75]
  rw [e, third_apply, funext (second_apply x0 x1 x2 x4 x5 x6 x7 x8 x9 x10 _ _), funext (first_apply x0 x1 x2 x4 x5 x6 _ _),
    funext (mix_apply x1 x2 x4 _ _)]
  rfl

end Cert.PostEvenReferenceIdeal.Hand

end
-- ==== Proof.PostLastTile.lean ====
/-
  One tile of the last layer's block after the mixing: the body is the earlier layer's, so what it leaves in the output window is the same function of its blocks.
-/
module

public import proofs.«01_k».proof.Proof.PostTile
public import proofs.«01_k».proof.Proof.Gen.PostLastIdeal.Value

@[expose] public section

set_option maxRecDepth 16384

noncomputable section

namespace Cert.PostLastIdeal.Hand

open Idealize.ShloMosaic Cert.PostLastIdeal Cert.PostLastIdeal.Gen Cert.PostSpec
export Cert.PostIdeal.Hand (line mat)

/-- What the body leaves in the output window, at a row and a channel: the row's mathematics of the input blocks. -/
theorem out_apply (x0 : Vec Ideal S512x1024 .f32) (x1 : Vec Ideal S512x1024 .f32) (x2 : Vec Ideal S1024x1024 .bf16) (x3 : Vec Ideal S1x1024 .f32) (x4 : Vec Ideal S1x1024 .f32) (x5 : Vec Ideal S1024x4096 .bf16) (x6 : Vec Ideal S4096x1024 .bf16) (x7 : Vec Ideal S1x1024 .f32) (x8 : Vec Ideal S1x1024 .f32) (x9 : Vec Ideal S1024x1024 .bf16) (x10 : Vec Ideal S1x512x256 .f32) (x11 : Vec Ideal S256x1024 .bf16)
    (r : Fin 512) (l : Fin 1024) :
    out0_12 x0 x1 x2 x3 x4 x5 x6 x7 x8 x9 x10 x11 (ix2 r l)
      = row (line x0 r) (line x1 r) (fun k : Fin 256 => x10 (ix3 0 r k)) (mat x2) (line x3 0) (line x4 0) (mat x5) (mat x6)
          (line x7 0) (line x8 0) (mat x9) (mat x11) l := by
  have e : out0_12 (F := Ideal) x0 x1 x2 x3 x4 x5 x6 x7 x8 x9 x10 x11 = Cert.PostIdeal.Gen.out0_12 (F := Ideal) x0 x1 x2 x3 x4 x5 x6 x7 x8 x9 x10 x11 := rfl
  rw [e]
  exact Cert.PostIdeal.Hand.out_apply x0 x1 x2 x3 x4 x5 x6 x7 x8 x9 x10 x11 r l

end Cert.PostLastIdeal.Hand

end
-- ==== Proof.PostLastWhole.lean ====
/-
  The result of the last layer's block after the mixing as one function of its arguments: what the host prepares (tokens of all batches
  in one axis, weights cast, scales and shifts as one-row matrices), each window's block of it at a grid point, and the
  result array the 64 points' blocks of 512 tokens make up.
-/
module

public import proofs.«01_k».proof.Proof.PostLastTile

@[expose] public section

set_option maxRecDepth 16384

noncomputable section

namespace Cert.PostLastIdeal.Hand

open Idealize.ShloMosaic Idealize.ShloMosaic.TcCoe Idealize.SL.Sem
open Cert.PostLastIdeal Cert.PostLastIdeal.Gen Cert.PostLastIdeal.Value Cert.PostSpec
open scoped BigOperators

/-- The batch and the time of a token. -/
abbrev batch (r : Fin 32768) : Fin 8 := ⟨r.val / 4096, by omega⟩
abbrev time (r : Fin 32768) : Fin 4096 := ⟨r.val % 4096, by omega⟩

/-- The entries of a vector. -/
abbrev vec {a : ℕ} (x : (⟨1, ![a]⟩ : Shape).Idx → EReal) : Fin a → EReal := fun k => x (ix1 k)

/-- The result array as one function of the arguments: each token's row of the mathematics. The embedding is layer 3's. -/
def G (h o : S8x4096x1024.Idx → EReal) (p : S4x8x4096x256.Idx → EReal) (w : S1024x1024.Idx → EReal)
    (g1 b1 : S1024.Idx → EReal) (w1 : S1024x4096.Idx → EReal) (w2 : S4096x1024.Idx → EReal) (g2 b2 : S1024.Idx → EReal)
    (wg : S1024x1024.Idx → EReal) (wp : S256x1024.Idx → EReal) : S32768x1024.Idx → EReal := fun i =>
  row (fun k => h (ix3 (batch (i 0)) (time (i 0)) k)) (fun k => o (ix3 (batch (i 0)) (time (i 0)) k))
    (fun k => p (ix4 3 (batch (i 0)) (time (i 0)) k)) (mat w) (vec g1) (vec b1) (mat w1) (mat w2) (vec g2) (vec b2)
    (mat wg) (mat wp) (i 1)

variable (m : (ℓ : Loc nD τ sig) → Buf (Elt Ideal) ℓ)

/-! ### What the host prepares -/

theorem V_v0_apply (c : Dev nD) (r : Fin 32768) (k : Fin 1024) :
    (V m c main_v0 : S32768x1024.Idx → EReal) (ix2 r k) = (m ((c : Thread nD τ).loc main_arg1) : S8x4096x1024.Idx → EReal) (ix3 (batch r) (time r) k) := by
  have e : (V m c main_v0 : S32768x1024.Idx → EReal)
      = shapeCast (s := S8x4096x1024) S32768x1024 (m ((c : Thread nD τ).loc main_arg1) : S8x4096x1024.Idx → EReal) shapeCasts_S8x4096x1024_S32768x1024 := by
    dsimp only [V, hostOps0]
    after_results <;> rfl
  rw [e]
  pointwise []

theorem V_v2_apply (c : Dev nD) (r : Fin 32768) (k : Fin 1024) :
    (V m c main_v2 : S32768x1024.Idx → EReal) (ix2 r k) = (m ((c : Thread nD τ).loc main_arg0) : S8x4096x1024.Idx → EReal) (ix3 (batch r) (time r) k) := by
  have e : (V m c main_v2 : S32768x1024.Idx → EReal)
      = shapeCast (s := S8x4096x1024) S32768x1024 (m ((c : Thread nD τ).loc main_arg0) : S8x4096x1024.Idx → EReal) shapeCasts_S8x4096x1024_S32768x1024 := by
    dsimp only [V, hostOps0]
    after_results <;> rfl
  rw [e]
  pointwise []

theorem V_v6_apply (c : Dev nD) (r : Fin 32768) (k : Fin 256) :
    (V m c main_v6 : S4x32768x256.Idx → EReal) (ix3 3 r k)
      = (m ((c : Thread nD τ).loc main_arg2) : S4x8x4096x256.Idx → EReal) (ix4 3 (batch r) (time r) k) := by
  have e : (V m c main_v6 : S4x32768x256.Idx → EReal)
      = shapeCast (s := S4x8x4096x256) S4x32768x256 (m ((c : Thread nD τ).loc main_arg2) : S4x8x4096x256.Idx → EReal) shapeCasts_S4x8x4096x256_S4x32768x256 := by
    dsimp only [V, hostOps0]
    after_results <;> rfl
  rw [e]
  pointwise []

theorem V_v1_eq (c : Dev nD) : (V m c main_v1 : S1024x1024.Idx → EReal) = (m ((c : Thread nD τ).loc main_arg3) : S1024x1024.Idx → EReal) := by
  dsimp only [V, hostOps0]
  after_results <;> rfl

theorem V_v3_eq (c : Dev nD) : (V m c main_v3 : S1024x4096.Idx → EReal) = (m ((c : Thread nD τ).loc main_arg6) : S1024x4096.Idx → EReal) := by
  dsimp only [V, hostOps0]
  after_results <;> rfl

theorem V_v4_eq (c : Dev nD) : (V m c main_v4 : S4096x1024.Idx → EReal) = (m ((c : Thread nD τ).loc main_arg7) : S4096x1024.Idx → EReal) := by
  dsimp only [V, hostOps0]
  after_results <;> rfl

theorem V_v5_eq (c : Dev nD) : (V m c main_v5 : S1024x1024.Idx → EReal) = (m ((c : Thread nD τ).loc main_arg10) : S1024x1024.Idx → EReal) := by
  dsimp only [V, hostOps0]
  after_results <;> rfl

theorem V_v7_eq (c : Dev nD) : (V m c main_v7 : S256x1024.Idx → EReal) = (m ((c : Thread nD τ).loc main_arg11) : S256x1024.Idx → EReal) := by
  dsimp only [V, hostOps0]
  after_results <;> rfl

theorem V_v8_apply (c : Dev nD) (k : Fin 1024) :
    (V m c main_v8 : S1x1024.Idx → EReal) (ix2 0 k) = (m ((c : Thread nD τ).loc main_arg4) : S1024.Idx → EReal) (ix1 k) := by
  have e : (V m c main_v8 : S1x1024.Idx → EReal)
      = broadcastInDim (s := S1024) S1x1024 ![1] bcast_S1024_S1x1024_1 (m ((c : Thread nD τ).loc main_arg4) : S1024.Idx → EReal) := by
    dsimp only [V, hostOps0]
    after_results <;> rfl
  rw [e]
  pointwise []

theorem V_v9_apply (c : Dev nD) (k : Fin 1024) :
    (V m c main_v9 : S1x1024.Idx → EReal) (ix2 0 k) = (m ((c : Thread nD τ).loc main_arg5) : S1024.Idx → EReal) (ix1 k) := by
  have e : (V m c main_v9 : S1x1024.Idx → EReal)
      = broadcastInDim (s := S1024) S1x1024 ![1] bcast_S1024_S1x1024_1 (m ((c : Thread nD τ).loc main_arg5) : S1024.Idx → EReal) := by
    dsimp only [V, hostOps0]
    after_results <;> rfl
  rw [e]
  pointwise []

theorem V_v10_apply (c : Dev nD) (k : Fin 1024) :
    (V m c main_v10 : S1x1024.Idx → EReal) (ix2 0 k) = (m ((c : Thread nD τ).loc main_arg8) : S1024.Idx → EReal) (ix1 k) := by
  have e : (V m c main_v10 : S1x1024.Idx → EReal)
      = broadcastInDim (s := S1024) S1x1024 ![1] bcast_S1024_S1x1024_1 (m ((c : Thread nD τ).loc main_arg8) : S1024.Idx → EReal) := by
    dsimp only [V, hostOps0]
    after_results <;> rfl
  rw [e]
  pointwise []

theorem V_v11_apply (c : Dev nD) (k : Fin 1024) :
    (V m c main_v11 : S1x1024.Idx → EReal) (ix2 0 k) = (m ((c : Thread nD τ).loc main_arg9) : S1024.Idx → EReal) (ix1 k) := by
  have e : (V m c main_v11 : S1x1024.Idx → EReal)
      = broadcastInDim (s := S1024) S1x1024 ![1] bcast_S1024_S1x1024_1 (m ((c : Thread nD τ).loc main_arg9) : S1024.Idx → EReal) := by
    dsimp only [V, hostOps0]
    after_results <;> rfl
  rw [e]
  pointwise []

/-! ### The windows' blocks -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx10 : ∀ t : Fin cfg0.N, win0_10.index t (0 : Fin 3) = 3 ∧ win0_10.index t (1 : Fin 3) = t.val ∧ win0_10.index t (2 : Fin 3) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

/-- Token `r` of grid point `t`'s tile. -/
abbrev tok (t : Fin cfg0.N) (r : Fin 512) : Fin 32768 :=
  ⟨t.val * 512 + r.val, by have h : t.val < 64 := t.isLt; have := r.isLt; omega⟩

theorem emb0 (t : Fin cfg0.N) (r : Fin 512) (k : Fin 1024) :
    ((cfg0.win 0).blk t).view.emb (ix2 r k : S512x1024.Idx) = (ix2 (tok t r) k : S32768x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (r : Fin 512) (k : Fin 1024) :
    ((cfg0.win 1).blk t).view.emb (ix2 r k : S512x1024.Idx) = (ix2 (tok t r) k : S32768x1024.Idx) := by
  obtain ⟨e0, e1⟩ := idx1 t
  funext a; apply Fin.ext
  match a with
  | ⟨0, _⟩ => show win0_1.index t (0 : Fin 2) * 512 + 1 * r.val = t.val * 512 + r.val; omega
  | ⟨1, _⟩ => show win0_1.index t (1 : Fin 2) * 1024 + 1 * k.val = k.val; omega

theorem iblk2_eq (c : Dev nD) (t : Fin cfg0.N) : (iblk m c 2 t : S1024x1024.Idx → EReal) = (V m c main_v1 : S1024x1024.Idx → EReal) := by
  obtain ⟨e0, e1⟩ := idx2 t
  funext j
  show (V m c main_v1 : S1024x1024.Idx → EReal) (((cfg0.win 2).blk t).view.emb j) = (V m c main_v1 : S1024x1024.Idx → EReal) j
  refine congrArg (V m c main_v1 : S1024x1024.Idx → EReal) (funext fun a => Fin.ext ?_)
  match a with
  | ⟨0, _⟩ => show win0_2.index t (0 : Fin 2) * 1024 + 1 * (j 0).val = (j 0).val; omega
  | ⟨1, _⟩ => show win0_2.index t (1 : Fin 2) * 1024 + 1 * (j 1).val = (j 1).val; omega

theorem iblk3_eq (c : Dev nD) (t : Fin cfg0.N) : (iblk m c 3 t : S1x1024.Idx → EReal) = (V m c main_v8 : S1x1024.Idx → EReal) := by
  obtain ⟨e0, e1⟩ := idx3 t
  funext j
  show (V m c main_v8 : S1x1024.Idx → EReal) (((cfg0.win 3).blk t).view.emb j) = (V m c main_v8 : S1x1024.Idx → EReal) j
  refine congrArg (V m c main_v8 : S1x1024.Idx → EReal) (funext fun a => Fin.ext ?_)
  match a with
  | ⟨0, _⟩ => show win0_3.index t (0 : Fin 2) * 1 + 1 * (j 0).val = (j 0).val; omega
  | ⟨1, _⟩ => show win0_3.index t (1 : Fin 2) * 1024 + 1 * (j 1).val = (j 1).val; omega

theorem iblk4_eq (c : Dev nD) (t : Fin cfg0.N) : (iblk m c 4 t : S1x1024.Idx → EReal) = (V m c main_v9 : S1x1024.Idx → EReal) := by
  obtain ⟨e0, e1⟩ := idx4 t
  funext j
  show (V m c main_v9 : S1x1024.Idx → EReal) (((cfg0.win 4).blk t).view.emb j) = (V m c main_v9 : S1x1024.Idx → EReal) j
  refine congrArg (V m c main_v9 : S1x1024.Idx → EReal) (funext fun a => Fin.ext ?_)
  match a with
  | ⟨0, _⟩ => show win0_4.index t (0 : Fin 2) * 1 + 1 * (j 0).val = (j 0).val; omega
  | ⟨1, _⟩ => show win0_4.index t (1 : Fin 2) * 1024 + 1 * (j 1).val = (j 1).val; omega

theorem iblk5_eq (c : Dev nD) (t : Fin cfg0.N) : (iblk m c 5 t : S1024x4096.Idx → EReal) = (V m c main_v3 : S1024x4096.Idx → EReal) := by
  obtain ⟨e0, e1⟩ := idx5 t
  funext j
  show (V m c main_v3 : S1024x4096.Idx → EReal) (((cfg0.win 5).blk t).view.emb j) = (V m c main_v3 : S1024x4096.Idx → EReal) j
  refine congrArg (V m c main_v3 : S1024x4096.Idx → EReal) (funext fun a => Fin.ext ?_)
  match a with
  | ⟨0, _⟩ => show win0_5.index t (0 : Fin 2) * 1024 + 1 * (j 0).val = (j 0).val; omega
  | ⟨1, _⟩ => show win0_5.index t (1 : Fin 2) * 4096 + 1 * (j 1).val = (j 1).val; omega

theorem iblk6_eq (c : Dev nD) (t : Fin cfg0.N) : (iblk m c 6 t : S4096x1024.Idx → EReal) = (V m c main_v4 : S4096x1024.Idx → EReal) := by
  obtain ⟨e0, e1⟩ := idx6 t
  funext j
  show (V m c main_v4 : S4096x1024.Idx → EReal) (((cfg0.win 6).blk t).view.emb j) = (V m c main_v4 : S4096x1024.Idx → EReal) j
  refine congrArg (V m c main_v4 : S4096x1024.Idx → EReal) (funext fun a => Fin.ext ?_)
  match a with
  | ⟨0, _⟩ => show win0_6.index t (0 : Fin 2) * 4096 + 1 * (j 0).val = (j 0).val; omega
  | ⟨1, _⟩ => show win0_6.index t (1 : Fin 2) * 1024 + 1 * (j 1).val = (j 1).val; omega

theorem iblk7_eq (c : Dev nD) (t : Fin cfg0.N) : (iblk m c 7 t : S1x1024.Idx → EReal) = (V m c main_v10 : S1x1024.Idx → EReal) := by
  obtain ⟨e0, e1⟩ := idx7 t
  funext j
  show (V m c main_v10 : S1x1024.Idx → EReal) (((cfg0.win 7).blk t).view.emb j) = (V m c main_v10 : S1x1024.Idx → EReal) j
  refine congrArg (V m c main_v10 : S1x1024.Idx → EReal) (funext fun a => Fin.ext ?_)
  match a with
  | ⟨0, _⟩ => show win0_7.index t (0 : Fin 2) * 1 + 1 * (j 0).val = (j 0).val; omega
  | ⟨1, _⟩ => show win0_7.index t (1 : Fin 2) * 1024 + 1 * (j 1).val = (j 1).val; omega

theorem iblk8_eq (c : Dev nD) (t : Fin cfg0.N) : (iblk m c 8 t : S1x1024.Idx → EReal) = (V m c main_v11 : S1x1024.Idx → EReal) := by
  obtain ⟨e0, e1⟩ := idx8 t
  funext j
  show (V m c main_v11 : S1x1024.Idx → EReal) (((cfg0.win 8).blk t).view.emb j) = (V m c main_v11 : S1x1024.Idx → EReal) j
  refine congrArg (V m c main_v11 : S1x1024.Idx → EReal) (funext fun a => Fin.ext ?_)
  match a with
  | ⟨0, _⟩ => show win0_8.index t (0 : Fin 2) * 1 + 1 * (j 0).val = (j 0).val; omega
  | ⟨1, _⟩ => show win0_8.index t (1 : Fin 2) * 1024 + 1 * (j 1).val = (j 1).val; omega

theorem iblk9_eq (c : Dev nD) (t : Fin cfg0.N) : (iblk m c 9 t : S1024x1024.Idx → EReal) = (V m c main_v5 : S1024x1024.Idx → EReal) := by
  obtain ⟨e0, e1⟩ := idx9 t
  funext j
  show (V m c main_v5 : S1024x1024.Idx → EReal) (((cfg0.win 9).blk t).view.emb j) = (V m c main_v5 : S1024x1024.Idx → EReal) j
  refine congrArg (V m c main_v5 : S1024x1024.Idx → EReal) (funext fun a => Fin.ext ?_)
  match a with
  | ⟨0, _⟩ => show win0_9.index t (0 : Fin 2) * 1024 + 1 * (j 0).val = (j 0).val; omega
  | ⟨1, _⟩ => show win0_9.index t (1 : Fin 2) * 1024 + 1 * (j 1).val = (j 1).val; omega

theorem iblk11_eq (c : Dev nD) (t : Fin cfg0.N) : (iblk m c 11 t : S256x1024.Idx → EReal) = (V m c main_v7 : S256x1024.Idx → EReal) := by
  obtain ⟨e0, e1⟩ := idx11 t
  funext j
  show (V m c main_v7 : S256x1024.Idx → EReal) (((cfg0.win 11).blk t).view.emb j) = (V m c main_v7 : S256x1024.Idx → EReal) j
  refine congrArg (V m c main_v7 : S256x1024.Idx → EReal) (funext fun a => Fin.ext ?_)
  match a with
  | ⟨0, _⟩ => show win0_11.index t (0 : Fin 2) * 256 + 1 * (j 0).val = (j 0).val; omega
  | ⟨1, _⟩ => show win0_11.index t (1 : Fin 2) * 1024 + 1 * (j 1).val = (j 1).val; omega

theorem emb10 (t : Fin cfg0.N) (r : Fin 512) (k : Fin 256) :
    ((cfg0.win 10).blk t).view.emb (ix3 0 r k : S1x512x256.Idx) = (ix3 3 (tok t r) k : S4x32768x256.Idx) := by
  obtain ⟨e0, e1, e2⟩ := idx10 t
  funext a; apply Fin.ext
  match a with
  | ⟨0, _⟩ => show win0_10.index t (0 : Fin 3) * 1 + 1 * 0 = 3; omega
  | ⟨1, _⟩ => show win0_10.index t (1 : Fin 3) * 512 + 1 * r.val = t.val * 512 + r.val; omega
  | ⟨2, _⟩ => show win0_10.index t (2 : Fin 3) * 256 + 1 * k.val = k.val; omega

theorem emb12 (t : Fin cfg0.N) (r : Fin 512) (k : Fin 1024) :
    ((cfg0.win 12).blk t).view.emb (ix2 r k : S512x1024.Idx) = (ix2 (tok t r) k : S32768x1024.Idx) := by
  obtain ⟨e0, e1⟩ := idx12 t
  funext a; apply Fin.ext
  match a with
  | ⟨0, _⟩ => show win0_12.index t (0 : Fin 2) * 512 + 1 * r.val = t.val * 512 + r.val; omega
  | ⟨1, _⟩ => show win0_12.index t (1 : Fin 2) * 1024 + 1 * k.val = k.val; omega

/-! ### The result array -/

/-- The result array of the arguments as launched. -/
abbrev res (c : Dev nD) : S32768x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- What a point writes back is its block of the result array. -/
theorem flushed_eq (c : Dev nD) (t : Fin cfg0.N) :
    (dats m 0 c).flushed 12 t = ((cfg0.win 12).blk t).view.read (Elt Ideal) (res m c) := by
  rw [flushed12]
  funext j
  obtain ⟨r, l, rfl⟩ : ∃ (r : Fin 512) (l : Fin 1024), j = (ix2 r l : S512x1024.Idx) := ⟨j 0, j 1, eq_ix2 j⟩
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 r l)
    = res m c (((cfg0.win 12).blk t).view.emb (ix2 r l : S512x1024.Idx))
  rw [emb12]
  refine (out_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) r l).trans ?_
  have h0 : line (iblk m c 0 t : S512x1024.Idx → EReal) r
      = fun k => (m ((c : Thread nD τ).loc main_arg0) : S8x4096x1024.Idx → EReal) (ix3 (batch (tok t r)) (time (tok t r)) k) :=
    funext fun k => by
      show (V m c main_v2 : S32768x1024.Idx → EReal) (((cfg0.win 0).blk t).view.emb (ix2 r k : S512x1024.Idx)) = _
      rw [emb0]; exact V_v2_apply m c (tok t r) k
  have h1 : line (iblk m c 1 t : S512x1024.Idx → EReal) r
      = fun k => (m ((c : Thread nD τ).loc main_arg1) : S8x4096x1024.Idx → EReal) (ix3 (batch (tok t r)) (time (tok t r)) k) :=
    funext fun k => by
      show (V m c main_v0 : S32768x1024.Idx → EReal) (((cfg0.win 1).blk t).view.emb (ix2 r k : S512x1024.Idx)) = _
      rw [emb1]; exact V_v0_apply m c (tok t r) k
  have h10 : (fun k : Fin 256 => (iblk m c 10 t : S1x512x256.Idx → EReal) (ix3 0 r k))
      = fun k => (m ((c : Thread nD τ).loc main_arg2) : S4x8x4096x256.Idx → EReal) (ix4 3 (batch (tok t r)) (time (tok t r)) k) :=
    funext fun k => by
      show (V m c main_v6 : S4x32768x256.Idx → EReal) (((cfg0.win 10).blk t).view.emb (ix3 0 r k : S1x512x256.Idx)) = _
      rw [emb10]; exact V_v6_apply m c (tok t r) k
  have h3 : line (iblk m c 3 t : S1x1024.Idx → EReal) 0 = vec (m ((c : Thread nD τ).loc main_arg4) : S1024.Idx → EReal) :=
    funext fun k => by
      show (iblk m c 3 t : S1x1024.Idx → EReal) (ix2 0 k) = _
      rw [iblk3_eq]; exact V_v8_apply m c k
  have h4 : line (iblk m c 4 t : S1x1024.Idx → EReal) 0 = vec (m ((c : Thread nD τ).loc main_arg5) : S1024.Idx → EReal) :=
    funext fun k => by
      show (iblk m c 4 t : S1x1024.Idx → EReal) (ix2 0 k) = _
      rw [iblk4_eq]; exact V_v9_apply m c k
  have h7 : line (iblk m c 7 t : S1x1024.Idx → EReal) 0 = vec (m ((c : Thread nD τ).loc main_arg8) : S1024.Idx → EReal) :=
    funext fun k => by
      show (iblk m c 7 t : S1x1024.Idx → EReal) (ix2 0 k) = _
      rw [iblk7_eq]; exact V_v10_apply m c k
  have h8 : line (iblk m c 8 t : S1x1024.Idx → EReal) 0 = vec (m ((c : Thread nD τ).loc main_arg9) : S1024.Idx → EReal) :=
    funext fun k => by
      show (iblk m c 8 t : S1x1024.Idx → EReal) (ix2 0 k) = _
      rw [iblk8_eq]; exact V_v11_apply m c k
  have h2 : mat (iblk m c 2 t : S1024x1024.Idx → EReal) = mat (m ((c : Thread nD τ).loc main_arg3) : S1024x1024.Idx → EReal) := by
    rw [iblk2_eq, V_v1_eq]
  have h5 : mat (iblk m c 5 t : S1024x4096.Idx → EReal) = mat (m ((c : Thread nD τ).loc main_arg6) : S1024x4096.Idx → EReal) := by
    rw [iblk5_eq, V_v3_eq]
  have h6 : mat (iblk m c 6 t : S4096x1024.Idx → EReal) = mat (m ((c : Thread nD τ).loc main_arg7) : S4096x1024.Idx → EReal) := by
    rw [iblk6_eq, V_v4_eq]
  have h9 : mat (iblk m c 9 t : S1024x1024.Idx → EReal) = mat (m ((c : Thread nD τ).loc main_arg10) : S1024x1024.Idx → EReal) := by
    rw [iblk9_eq, V_v5_eq]
  have h11 : mat (iblk m c 11 t : S256x1024.Idx → EReal) = mat (m ((c : Thread nD τ).loc main_arg11) : S256x1024.Idx → EReal) := by
    rw [iblk11_eq, V_v7_eq]
  show row (line (iblk m c 0 t : S512x1024.Idx → EReal) r) (line (iblk m c 1 t : S512x1024.Idx → EReal) r)
      (fun k : Fin 256 => (iblk m c 10 t : S1x512x256.Idx → EReal) (ix3 0 r k)) (mat (iblk m c 2 t : S1024x1024.Idx → EReal))
      (line (iblk m c 3 t : S1x1024.Idx → EReal) 0) (line (iblk m c 4 t : S1x1024.Idx → EReal) 0)
      (mat (iblk m c 5 t : S1024x4096.Idx → EReal)) (mat (iblk m c 6 t : S4096x1024.Idx → EReal))
      (line (iblk m c 7 t : S1x1024.Idx → EReal) 0) (line (iblk m c 8 t : S1x1024.Idx → EReal) 0)
      (mat (iblk m c 9 t : S1024x1024.Idx → EReal)) (mat (iblk m c 11 t : S256x1024.Idx → EReal)) l = _
  rw [h0, h1, h2, h3, h4, h5, h6, h7, h8, h9, h10, h11]
  rfl

/-- Every index of the result array is in the block of its token's tile. -/
theorem covered (i : S32768x1024.Idx) :
    ∃ t : Fin cfg0.N, (cfg0.win 12).flush t = true ∧ i ∈ ((cfg0.win 12).blk t).view.set := by
  have h0 : (i 0).val < 32768 := (i 0).isLt
  have hN : (i 0).val / 512 < cfg0.N := by show (i 0).val / 512 < 64; omega
  refine ⟨⟨(i 0).val / 512, hN⟩, flush0_12 _, ?_⟩
  have h := ((cfg0.win 12).blk ⟨(i 0).val / 512, hN⟩).view.emb_mem_set
    (ix2 (⟨(i 0).val % 512, by omega⟩ : Fin 512) (i 1 : Fin 1024) : S512x1024.Idx)
  have e : (ix2 (tok ⟨(i 0).val / 512, hN⟩ ⟨(i 0).val % 512, by omega⟩) (i 1 : Fin 1024) : S32768x1024.Idx) = i := by
    refine (congrArg (fun a : Fin 32768 => (ix2 a (i 1 : Fin 1024) : S32768x1024.Idx)) (Fin.ext ?_)).trans (eq_ix2 i).symm
    show (i 0).val / 512 * 512 + (i 0).val % 512 = (i 0).val
    omega
  exact (congrArg (· ∈ ((cfg0.win 12).blk ⟨(i 0).val / 512, hN⟩).view.set) ((emb12 _ _ _).trans e)).mp h

/-- The result array after the run. -/
theorem final (c : Dev nD) : (dats m 0 c).arrAt 12 cfg0.N = res m c :=
  (dats m 0 c).arrAt_eq_of_cover 12 (res m c) (fun t _ => flushed_eq m c t) covered

end Cert.PostLastIdeal.Hand

end
-- ==== Proof.PostLastReference.lean ====
/-
  The last layer's reference, read at a token and a channel: up to the second layer norm the stages are the earlier layer's.
-/
module

public import proofs.«01_k».proof.Proof.PostReference
public import proofs.«01_k».proof.Proof.Gen.PostLastReferenceIdeal.Read

@[expose] public section

set_option maxRecDepth 16384

noncomputable section

namespace Cert.PostLastReferenceIdeal.Hand

open Idealize.ShloMosaic Cert.PostLastReferenceIdeal Cert.PostLastReferenceIdeal.Gen Cert.PostLastReferenceIdeal.Read Cert.PostSpec
open scoped BigOperators

variable (x0 x1 : S8x4096x1024.Idx → EReal) (x2 : S4x8x4096x256.Idx → EReal) (x3 : S1024x1024.Idx → EReal)
  (x4 x5 : S1024.Idx → EReal) (x6 : S1024x4096.Idx → EReal) (x7 : S4096x1024.Idx → EReal) (x8 x9 : S1024.Idx → EReal)
  (x10 : S1024x1024.Idx → EReal) (x11 : S256x1024.Idx → EReal)

/-- The row after the first layer norm. -/
theorem first_apply (b : Fin 8) (t : Fin 4096) (j : Fin 1024) :
    (val_main_v27 (F := Ideal) x0 x1 x3 x4 x5 : S8x4096x1024.Idx → EReal) (ix3 b t j)
      = first (fun k => x0 (ix3 b t k)) (fun k => x1 (ix3 b t k)) (fun i j => x3 (ix2 i j)) (fun k => x4 (ix1 k))
          (fun k => x5 (ix1 k)) j :=
  Cert.PostReferenceIdeal.Hand.first_apply x0 x1 x3 x4 x5 b t j

/-- The row after the second layer norm, of the row after the first. -/
theorem second_apply (b : Fin 8) (t : Fin 4096) (j : Fin 1024) :
    (val_main_v58 (F := Ideal) x0 x1 x3 x4 x5 x6 x7 x8 x9 : S8x4096x1024.Idx → EReal) (ix3 b t j)
      = second (fun k => (val_main_v27 (F := Ideal) x0 x1 x3 x4 x5 : S8x4096x1024.Idx → EReal) (ix3 b t k))
          (fun i j => x6 (ix2 i j)) (fun i j => x7 (ix2 i j)) (fun k => x8 (ix1 k)) (fun k => x9 (ix1 k)) j :=
  Cert.PostReferenceIdeal.Hand.second_apply x0 x1 x3 x4 x5 x6 x7 x8 x9 b t j

/-- The row with the gated embedding of layer 3, of the row after the second layer norm. -/
theorem third_apply (b : Fin 8) (t : Fin 4096) (j : Fin 1024) :
    (val_main_v70 (F := Ideal) x0 x1 x2 x3 x4 x5 x6 x7 x8 x9 x10 x11 : S8x4096x1024.Idx → EReal) (ix3 b t j)
      = third (fun k => (val_main_v58 (F := Ideal) x0 x1 x3 x4 x5 x6 x7 x8 x9 : S8x4096x1024.Idx → EReal) (ix3 b t k))
          (fun k => x2 (ix4 3 b t k)) (fun i j => x10 (ix2 i j)) (fun i j => x11 (ix2 i j)) j := by
  pointwise [val_main_v70, val_main_v69, val_main_v68, val_main_v67, val_main_v66, val_main_v65, val_main_v64, val_main_v63,
    val_main_v62, val_main_v61, val_main_v60, val_main_v59, val_main_cst_11, val_main_cst_12]
  rfl

/-- The result, token by token: the row's mathematics of the arguments' rows. -/
theorem result_apply (r : Fin 32768) (j : Fin 1024) :
    (val_main_v71 (F := Ideal) x0 x1 x2 x3 x4 x5 x6 x7 x8 x9 x10 x11 : S32768x1024.Idx → EReal) (ix2 r j)
      = row (fun k => x0 (ix3 ⟨r.val / 4096, by omega⟩ ⟨r.val % 4096, by omega⟩ k))
          (fun k => x1 (ix3 ⟨r.val / 4096, by omega⟩ ⟨r.val % 4096, by omega⟩ k))
          (fun k => x2 (ix4 3 ⟨r.val / 4096, by omega⟩ ⟨r.val % 4096, by omega⟩ k))
          (fun i j => x3 (ix2 i j)) (fun k => x4 (ix1 k)) (fun k => x5 (ix1 k)) (fun i j => x6 (ix2 i j))
          (fun i j => x7 (ix2 i j)) (fun k => x8 (ix1 k)) (fun k => x9 (ix1 k)) (fun i j => x10 (ix2 i j))
          (fun i j => x11 (ix2 i j)) j := by
  have e : (val_main_v71 (F := Ideal) x0 x1 x2 x3 x4 x5 x6 x7 x8 x9 x10 x11 : S32768x1024.Idx → EReal) (ix2 r j)
      = (val_main_v70 (F := Ideal) x0 x1 x2 x3 x4 x5 x6 x7 x8 x9 x10 x11 : S8x4096x1024.Idx → EReal)
          (ix3 ⟨r.val / 4096, by omega⟩ ⟨r.val % 4096, by omega⟩ j) := by
    pointwise [val_main_v71]
  rw [e, third_apply, funext (second_apply x0 x1 x3 x4 x5 x6 x7 x8 x9 _ _), funext (first_apply x0 x1 x3 x4 x5 _ _)]
  rfl

end Cert.PostLastReferenceIdeal.Hand

end
-- ==== Proof.PostEvenNextTile.lean ====
/-
  One tile of layer 2's block, where two mixers' outputs enter it: the body is the earlier layer's, so what it leaves in the output window is the same function of its blocks.
-/
module

public import proofs.«01_k».proof.Proof.PostEvenTile
public import proofs.«01_k».proof.Proof.Gen.PostEvenNextIdeal.Value

@[expose] public section

set_option maxRecDepth 16384

noncomputable section

namespace Cert.PostEvenNextIdeal.Hand

open Idealize.ShloMosaic Cert.PostEvenNextIdeal Cert.PostEvenNextIdeal.Gen Cert.PostEvenSpec
export Cert.PostEvenIdeal.Hand (line mat both)

/-- What the body leaves in the output window, at a row and a channel: the row's mathematics of the input blocks. -/
theorem out_apply (x0 : Vec Ideal S512x1024 .f32) (x1 : Vec Ideal S512x512 .f32) (x2 : Vec Ideal S512x1024 .bf16) (x3 : Vec Ideal S512x1024 .f32) (x4 : Vec Ideal S1024x1024 .bf16) (x5 : Vec Ideal S1x1024 .f32) (x6 : Vec Ideal S1x1024 .f32) (x7 : Vec Ideal S1024x4096 .bf16) (x8 : Vec Ideal S4096x1024 .bf16) (x9 : Vec Ideal S1x1024 .f32) (x10 : Vec Ideal S1x1024 .f32) (x11 : Vec Ideal S1024x1024 .bf16) (x12 : Vec Ideal S1x512x256 .f32) (x13 : Vec Ideal S256x1024 .bf16)
    (r : Fin 512) (l : Fin 1024) :
    out0_14 x0 x1 x2 x3 x4 x5 x6 x7 x8 x9 x10 x11 x12 x13 (ix2 r l)
      = after (line x0 r) (both x1 x2 x3 x4 r) (fun k : Fin 256 => x12 (ix3 0 r k)) (line x5 0) (line x6 0) (mat x7) (mat x8)
          (line x9 0) (line x10 0) (mat x11) (mat x13) l := by
  have e : out0_14 (F := Ideal) x0 x1 x2 x3 x4 x5 x6 x7 x8 x9 x10 x11 x12 x13 = Cert.PostEvenIdeal.Gen.out0_14 (F := Ideal) x0 x1 x2 x3 x4 x5 x6 x7 x8 x9 x10 x11 x12 x13 := rfl
  rw [e]
  exact Cert.PostEvenIdeal.Hand.out_apply x0 x1 x2 x3 x4 x5 x6 x7 x8 x9 x10 x11 x12 x13 r l

end Cert.PostEvenNextIdeal.Hand

end
-- ==== Proof.PostEvenNextWhole.lean ====
/-
  The result of layer 2's block, where two mixers' outputs enter it, as one function of its arguments: what the host prepares
  (tokens of all batches in one axis, weights cast, the output weight in two parts, the second with its heads' rows padded
  to 128 lanes), each window's block of it at a grid point, and the result array the 64 points' blocks of 512 tokens make
  up.
-/
module

public import proofs.«01_k».proof.Proof.PostEvenNextTile

@[expose] public section

set_option maxRecDepth 16384

noncomputable section

namespace Cert.PostEvenNextIdeal.Hand

open Idealize.ShloMosaic Idealize.ShloMosaic.TcCoe Idealize.SL.Sem
open Cert.PostEvenNextIdeal Cert.PostEvenNextIdeal.Gen Cert.PostEvenNextIdeal.Value Cert.PostSpec Cert.PostEvenSpec
open scoped BigOperators

/-- The batch and the time of a token. -/
abbrev batch (r : Fin 32768) : Fin 8 := ⟨r.val / 4096, by omega⟩
abbrev time (r : Fin 32768) : Fin 4096 := ⟨r.val % 4096, by omega⟩

/-- The entries of a vector. -/
abbrev vec {a : ℕ} (x : (⟨1, ![a]⟩ : Shape).Idx → EReal) : Fin a → EReal := fun k => x (ix1 k)

/-- The result array as one function of the arguments: each token's row of the mathematics. The embedding is layer 2's. -/
def G (h : S8x4096x1024.Idx → EReal) (ya : S8x4096x512.Idx → EReal) (yb : S8x4096x1024.Idx → EReal)
    (p : S4x8x4096x256.Idx → EReal) (w : S1024x1024.Idx → EReal)
    (g1 b1 : S1024.Idx → EReal) (w1 : S1024x4096.Idx → EReal) (w2 : S4096x1024.Idx → EReal) (g2 b2 : S1024.Idx → EReal)
    (wg : S1024x1024.Idx → EReal) (wp : S256x1024.Idx → EReal) : S32768x1024.Idx → EReal := fun i =>
  after (fun k => h (ix3 (batch (i 0)) (time (i 0)) k))
    (mix (fun k => ya (ix3 (batch (i 0)) (time (i 0)) k)) (fun k => yb (ix3 (batch (i 0)) (time (i 0)) k)) (mat w))
    (fun k => p (ix4 2 (batch (i 0)) (time (i 0)) k)) (vec g1) (vec b1) (mat w1) (mat w2) (vec g2) (vec b2)
    (mat wg) (mat wp) (i 1)

variable (m : (ℓ : Loc nD τ sig) → Buf (Elt Ideal) ℓ)

/-! ### What the host prepares -/

theorem V_v9_apply (c : Dev nD) (r : Fin 32768) (k : Fin 1024) :
    (V m c main_v9 : S32768x1024.Idx → EReal) (ix2 r k) = (m ((c : Thread nD τ).loc main_arg0) : S8x4096x1024.Idx → EReal) (ix3 (batch r) (time r) k) := by
  have e : (V m c main_v9 : S32768x1024.Idx → EReal)
      = shapeCast (s := S8x4096x1024) S32768x1024 (m ((c : Thread nD τ).loc main_arg0) : S8x4096x1024.Idx → EReal) shapeCasts_S8x4096x1024_S32768x1024 := by
    dsimp only [V, hostOps0, hostOps0_1, hostOps0_2, List.flatten_cons, List.flatten_nil, List.append_nil, List.cons_append, List.nil_append]
    after_results <;> rfl
  rw [e]
  pointwise []

theorem V_v0_apply (c : Dev nD) (r : Fin 32768) (k : Fin 512) :
    (V m c main_v0 : S32768x512.Idx → EReal) (ix2 r k) = (m ((c : Thread nD τ).loc main_arg1) : S8x4096x512.Idx → EReal) (ix3 (batch r) (time r) k) := by
  have e : (V m c main_v0 : S32768x512.Idx → EReal)
      = shapeCast (s := S8x4096x512) S32768x512 (m ((c : Thread nD τ).loc main_arg1) : S8x4096x512.Idx → EReal) shapeCasts_S8x4096x512_S32768x512 := by
    dsimp only [V, hostOps0, hostOps0_1, hostOps0_2, List.flatten_cons, List.flatten_nil, List.append_nil, List.cons_append, List.nil_append]
    after_results <;> rfl
  rw [e]
  pointwise []

theorem V_v3_apply (c : Dev nD) (r : Fin 32768) (k : Fin 1024) :
    (V m c main_v3 : S32768x1024.Idx → EReal) (ix2 r k) = (m ((c : Thread nD τ).loc main_arg2) : S8x4096x1024.Idx → EReal) (ix3 (batch r) (time r) k) := by
  have e : (V m c main_v3 : S32768x1024.Idx → EReal)
      = shapeCast (s := S8x4096x1024) S32768x1024 (m ((c : Thread nD τ).loc main_arg2) : S8x4096x1024.Idx → EReal) shapeCasts_S8x4096x1024_S32768x1024 := by
    dsimp only [V, hostOps0, hostOps0_1, hostOps0_2, List.flatten_cons, List.flatten_nil, List.append_nil, List.cons_append, List.nil_append]
    after_results <;> rfl
  rw [e]
  pointwise []

theorem V_v13_apply (c : Dev nD) (r : Fin 32768) (k : Fin 256) :
    (V m c main_v13 : S4x32768x256.Idx → EReal) (ix3 2 r k)
      = (m ((c : Thread nD τ).loc main_arg3) : S4x8x4096x256.Idx → EReal) (ix4 2 (batch r) (time r) k) := by
  have e : (V m c main_v13 : S4x32768x256.Idx → EReal)
      = shapeCast (s := S4x8x4096x256) S4x32768x256 (m ((c : Thread nD τ).loc main_arg3) : S4x8x4096x256.Idx → EReal) shapeCasts_S4x8x4096x256_S4x32768x256 := by
    dsimp only [V, hostOps0, hostOps0_1, hostOps0_2, List.flatten_cons, List.flatten_nil, List.append_nil, List.cons_append, List.nil_append]
    after_results <;> rfl
  rw [e]
  pointwise []

/-- The output weight's first 512 rows, for the first mixer. -/
theorem V_v2_apply (c : Dev nD) (i : Fin 512) (j : Fin 1024) :
    (V m c main_v2 : S512x1024.Idx → EReal) (ix2 i j)
      = (m ((c : Thread nD τ).loc main_arg4) : S1024x1024.Idx → EReal) (ix2 ⟨i.val, by omega⟩ j) := by
  have e : (V m c main_v2 : S512x1024.Idx → EReal)
      = extractStridedSlice S512x1024 ![0, 0] (m ((c : Thread nD τ).loc main_arg4) : S1024x1024.Idx → EReal) slices_S1024x1024_S512x1024_0_0 := by
    dsimp only [V, hostOps0, hostOps0_1, hostOps0_2, List.flatten_cons, List.flatten_nil, List.append_nil, List.cons_append, List.nil_append]
    after_results <;> rfl
  rw [e]
  pointwise []

/-- The output weight's last 512 rows, for the second mixer: 64 rows a head, then 64 rows of zeros. -/
theorem V_v8_apply (c : Dev nD) (n : Fin 8) (d : Fin 128) (j : Fin 1024) :
    (V m c main_v8 : S1024x1024.Idx → EReal) (ix2 ⟨n.val * 128 + d.val, by omega⟩ j)
      = if h : d.val < 64 then (m ((c : Thread nD τ).loc main_arg4) : S1024x1024.Idx → EReal) (ix2 ⟨512 + (n.val * 64 + d.val), by omega⟩ j) else (0 : EReal) := by
  have e : (V m c main_v8 : S1024x1024.Idx → EReal)
      = shapeCast (s := S8x128x1024) S1024x1024 (pad S8x128x1024 ![0, 0, 0] ![0, 64, 0] ![0, 0, 0]
          (shapeCast (s := S512x1024) S8x64x1024 (extractStridedSlice S512x1024 ![512, 0] (m ((c : Thread nD τ).loc main_arg4) : S1024x1024.Idx → EReal)
            slices_S1024x1024_S512x1024_512_0) shapeCasts_S512x1024_S8x64x1024)
          (sitofp (F := Ideal) .f32 (constantI S_ 32 0#32)) pads_S8x64x1024_S8x128x1024_000_0640_000 h_S_) shapeCasts_S8x128x1024_S1024x1024 := by
    dsimp only [V, hostOps0, hostOps0_1, hostOps0_2, List.flatten_cons, List.flatten_nil, List.append_nil, List.cons_append, List.nil_append]
    after_results <;> rfl
  rw [e]
  pointwise []
  by_cases h : d.val < 64
  · rw [dif_pos h, dif_pos h]
  · rw [dif_neg h, dif_neg h]
    show (((0#32 : BitVec 32).toInt : ℝ) : EReal) = 0
    simp

theorem V_v10_eq (c : Dev nD) : (V m c main_v10 : S1024x4096.Idx → EReal) = (m ((c : Thread nD τ).loc main_arg7) : S1024x4096.Idx → EReal) := by
  dsimp only [V, hostOps0, hostOps0_1, hostOps0_2, List.flatten_cons, List.flatten_nil, List.append_nil, List.cons_append, List.nil_append]
  after_results <;> rfl

theorem V_v11_eq (c : Dev nD) : (V m c main_v11 : S4096x1024.Idx → EReal) = (m ((c : Thread nD τ).loc main_arg8) : S4096x1024.Idx → EReal) := by
  dsimp only [V, hostOps0, hostOps0_1, hostOps0_2, List.flatten_cons, List.flatten_nil, List.append_nil, List.cons_append, List.nil_append]
  after_results <;> rfl

theorem V_v12_eq (c : Dev nD) : (V m c main_v12 : S1024x1024.Idx → EReal) = (m ((c : Thread nD τ).loc main_arg11) : S1024x1024.Idx → EReal) := by
  dsimp only [V, hostOps0, hostOps0_1, hostOps0_2, List.flatten_cons, List.flatten_nil, List.append_nil, List.cons_append, List.nil_append]
  after_results <;> rfl

theorem V_v14_eq (c : Dev nD) : (V m c main_v14 : S256x1024.Idx → EReal) = (m ((c : Thread nD τ).loc main_arg12) : S256x1024.Idx → EReal) := by
  dsimp only [V, hostOps0, hostOps0_1, hostOps0_2, List.flatten_cons, List.flatten_nil, List.append_nil, List.cons_append, List.nil_append]
  after_results <;> rfl

theorem V_v15_apply (c : Dev nD) (k : Fin 1024) :
    (V m c main_v15 : S1x1024.Idx → EReal) (ix2 0 k) = (m ((c : Thread nD τ).loc main_arg5) : S1024.Idx → EReal) (ix1 k) := by
  have e : (V m c main_v15 : S1x1024.Idx → EReal)
      = broadcastInDim (s := S1024) S1x1024 ![1] bcast_S1024_S1x1024_1 (m ((c : Thread nD τ).loc main_arg5) : S1024.Idx → EReal) := by
    dsimp only [V, hostOps0, hostOps0_1, hostOps0_2, List.flatten_cons, List.flatten_nil, List.append_nil, List.cons_append, List.nil_append]
    after_results <;> rfl
  rw [e]
  pointwise []

theorem V_v16_apply (c : Dev nD) (k : Fin 1024) :
    (V m c main_v16 : S1x1024.Idx → EReal) (ix2 0 k) = (m ((c : Thread nD τ).loc main_arg6) : S1024.Idx → EReal) (ix1 k) := by
  have e : (V m c main_v16 : S1x1024.Idx → EReal)
      = broadcastInDim (s := S1024) S1x1024 ![1] bcast_S1024_S1x1024_1 (m ((c : Thread nD τ).loc main_arg6) : S1024.Idx → EReal) := by
    dsimp only [V, hostOps0, hostOps0_1, hostOps0_2, List.flatten_cons, List.flatten_nil, List.append_nil, List.cons_append, List.nil_append]
    after_results <;> rfl
  rw [e]
  pointwise []

theorem V_v17_apply (c : Dev nD) (k : Fin 1024) :
    (V m c main_v17 : S1x1024.Idx → EReal) (ix2 0 k) = (m ((c : Thread nD τ).loc main_arg9) : S1024.Idx → EReal) (ix1 k) := by
  have e : (V m c main_v17 : S1x1024.Idx → EReal)
      = broadcastInDim (s := S1024) S1x1024 ![1] bcast_S1024_S1x1024_1 (m ((c : Thread nD τ).loc main_arg9) : S1024.Idx → EReal) := by
    dsimp only [V, hostOps0, hostOps0_1, hostOps0_2, List.flatten_cons, List.flatten_nil, List.append_nil, List.cons_append, List.nil_append]
    after_results <;> rfl
  rw [e]
  pointwise []

theorem V_v18_apply (c : Dev nD) (k : Fin 1024) :
    (V m c main_v18 : S1x1024.Idx → EReal) (ix2 0 k) = (m ((c : Thread nD τ).loc main_arg10) : S1024.Idx → EReal) (ix1 k) := by
  have e : (V m c main_v18 : S1x1024.Idx → EReal)
      = broadcastInDim (s := S1024) S1x1024 ![1] bcast_S1024_S1x1024_1 (m ((c : Thread nD τ).loc main_arg10) : S1024.Idx → EReal) := by
    dsimp only [V, hostOps0, hostOps0_1, hostOps0_2, List.flatten_cons, List.flatten_nil, List.append_nil, List.cons_append, List.nil_append]
    after_results <;> rfl
  rw [e]
  pointwise []

/-! ### The windows' blocks -/

theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx12 : ∀ t : Fin cfg0.N, win0_12.index t (0 : Fin 3) = 2 ∧ win0_12.index t (1 : Fin 3) = t.val ∧ win0_12.index t (2 : Fin 3) = 0 :=
  (by decide +kernel : ∀ t : Fin grid0.N, _)

/-- Token `r` of grid point `t`'s tile. -/
abbrev tok (t : Fin cfg0.N) (r : Fin 512) : Fin 32768 :=
  ⟨t.val * 512 + r.val, by have h : t.val < 64 := t.isLt; have := r.isLt; omega⟩

theorem emb0 (t : Fin cfg0.N) (r : Fin 512) (k : Fin 1024) :
    ((cfg0.win 0).blk t).view.emb (ix2 r k : S512x1024.Idx) = (ix2 (tok t r) k : S32768x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (r : Fin 512) (k : Fin 512) :
    ((cfg0.win 1).blk t).view.emb (ix2 r k : S512x512.Idx) = (ix2 (tok t r) k : S32768x512.Idx) := by
  obtain ⟨e0, e1⟩ := idx1 t
  funext a; apply Fin.ext
  match a with
  | ⟨0, _⟩ => show win0_1.index t (0 : Fin 2) * 512 + 1 * r.val = t.val * 512 + r.val; omega
  | ⟨1, _⟩ => show win0_1.index t (1 : Fin 2) * 512 + 1 * k.val = k.val; omega

theorem emb3 (t : Fin cfg0.N) (r : Fin 512) (k : Fin 1024) :
    ((cfg0.win 3).blk t).view.emb (ix2 r k : S512x1024.Idx) = (ix2 (tok t r) k : S32768x1024.Idx) := by
  obtain ⟨e0, e1⟩ := idx3 t
  funext a; apply Fin.ext
  match a with
  | ⟨0, _⟩ => show win0_3.index t (0 : Fin 2) * 512 + 1 * r.val = t.val * 512 + r.val; omega
  | ⟨1, _⟩ => show win0_3.index t (1 : Fin 2) * 1024 + 1 * k.val = k.val; omega

theorem emb14 (t : Fin cfg0.N) (r : Fin 512) (k : Fin 1024) :
    ((cfg0.win 14).blk t).view.emb (ix2 r k : S512x1024.Idx) = (ix2 (tok t r) k : S32768x1024.Idx) := by
  obtain ⟨e0, e1⟩ := idx14 t
  funext a; apply Fin.ext
  match a with
  | ⟨0, _⟩ => show win0_14.index t (0 : Fin 2) * 512 + 1 * r.val = t.val * 512 + r.val; omega
  | ⟨1, _⟩ => show win0_14.index t (1 : Fin 2) * 1024 + 1 * k.val = k.val; omega

theorem iblk5_eq (c : Dev nD) (t : Fin cfg0.N) : (iblk m c 5 t : S1x1024.Idx → EReal) = (V m c main_v15 : S1x1024.Idx → EReal) := by
  obtain ⟨e0, e1⟩ := idx5 t
  funext j
  show (V m c main_v15 : S1x1024.Idx → EReal) (((cfg0.win 5).blk t).view.emb j) = (V m c main_v15 : S1x1024.Idx → EReal) j
  refine congrArg (V m c main_v15 : S1x1024.Idx → EReal) (funext fun a => Fin.ext ?_)
  match a with
  | ⟨0, _⟩ => show win0_5.index t (0 : Fin 2) * 1 + 1 * (j 0).val = (j 0).val; omega
  | ⟨1, _⟩ => show win0_5.index t (1 : Fin 2) * 1024 + 1 * (j 1).val = (j 1).val; omega

theorem iblk6_eq (c : Dev nD) (t : Fin cfg0.N) : (iblk m c 6 t : S1x1024.Idx → EReal) = (V m c main_v16 : S1x1024.Idx → EReal) := by
  obtain ⟨e0, e1⟩ := idx6 t
  funext j
  show (V m c main_v16 : S1x1024.Idx → EReal) (((cfg0.win 6).blk t).view.emb j) = (V m c main_v16 : S1x1024.Idx → EReal) j
  refine congrArg (V m c main_v16 : S1x1024.Idx → EReal) (funext fun a => Fin.ext ?_)
  match a with
  | ⟨0, _⟩ => show win0_6.index t (0 : Fin 2) * 1 + 1 * (j 0).val = (j 0).val; omega
  | ⟨1, _⟩ => show win0_6.index t (1 : Fin 2) * 1024 + 1 * (j 1).val = (j 1).val; omega

theorem iblk7_eq (c : Dev nD) (t : Fin cfg0.N) : (iblk m c 7 t : S1024x4096.Idx → EReal) = (V m c main_v10 : S1024x4096.Idx → EReal) := by
  obtain ⟨e0, e1⟩ := idx7 t
  funext j
  show (V m c main_v10 : S1024x4096.Idx → EReal) (((cfg0.win 7).blk t).view.emb j) = (V m c main_v10 : S1024x4096.Idx → EReal) j
  refine congrArg (V m c main_v10 : S1024x4096.Idx → EReal) (funext fun a => Fin.ext ?_)
  match a with
  | ⟨0, _⟩ => show win0_7.index t (0 : Fin 2) * 1024 + 1 * (j 0).val = (j 0).val; omega
  | ⟨1, _⟩ => show win0_7.index t (1 : Fin 2) * 4096 + 1 * (j 1).val = (j 1).val; omega

theorem iblk8_eq (c : Dev nD) (t : Fin cfg0.N) : (iblk m c 8 t : S4096x1024.Idx → EReal) = (V m c main_v11 : S4096x1024.Idx → EReal) := by
  obtain ⟨e0, e1⟩ := idx8 t
  funext j
  show (V m c main_v11 : S4096x1024.Idx → EReal) (((cfg0.win 8).blk t).view.emb j) = (V m c main_v11 : S4096x1024.Idx → EReal) j
  refine congrArg (V m c main_v11 : S4096x1024.Idx → EReal) (funext fun a => Fin.ext ?_)
  match a with
  | ⟨0, _⟩ => show win0_8.index t (0 : Fin 2) * 4096 + 1 * (j 0).val = (j 0).val; omega
  | ⟨1, _⟩ => show win0_8.index t (1 : Fin 2) * 1024 + 1 * (j 1).val = (j 1).val; omega

theorem iblk9_eq (c : Dev nD) (t : Fin cfg0.N) : (iblk m c 9 t : S1x1024.Idx → EReal) = (V m c main_v17 : S1x1024.Idx → EReal) := by
  obtain ⟨e0, e1⟩ := idx9 t
  funext j
  show (V m c main_v17 : S1x1024.Idx → EReal) (((cfg0.win 9).blk t).view.emb j) = (V m c main_v17 : S1x1024.Idx → EReal) j
  refine congrArg (V m c main_v17 : S1x1024.Idx → EReal) (funext fun a => Fin.ext ?_)
  match a with
  | ⟨0, _⟩ => show win0_9.index t (0 : Fin 2) * 1 + 1 * (j 0).val = (j 0).val; omega
  | ⟨1, _⟩ => show win0_9.index t (1 : Fin 2) * 1024 + 1 * (j 1).val = (j 1).val; omega

theorem iblk10_eq (c : Dev nD) (t : Fin cfg0.N) : (iblk m c 10 t : S1x1024.Idx → EReal) = (V m c main_v18 : S1x1024.Idx → EReal) := by
  obtain ⟨e0, e1⟩ := idx10 t
  funext j
  show (V m c main_v18 : S1x1024.Idx → EReal) (((cfg0.win 10).blk t).view.emb j) = (V m c main_v18 : S1x1024.Idx → EReal) j
  refine congrArg (V m c main_v18 : S1x1024.Idx → EReal) (funext fun a => Fin.ext ?_)
  match a with
  | ⟨0, _⟩ => show win0_10.index t (0 : Fin 2) * 1 + 1 * (j 0).val = (j 0).val; omega
  | ⟨1, _⟩ => show win0_10.index t (1 : Fin 2) * 1024 + 1 * (j 1).val = (j 1).val; omega

theorem iblk11_eq (c : Dev nD) (t : Fin cfg0.N) : (iblk m c 11 t : S1024x1024.Idx → EReal) = (V m c main_v12 : S1024x1024.Idx → EReal) := by
  obtain ⟨e0, e1⟩ := idx11 t
  funext j
  show (V m c main_v12 : S1024x1024.Idx → EReal) (((cfg0.win 11).blk t).view.emb j) = (V m c main_v12 : S1024x1024.Idx → EReal) j
  refine congrArg (V m c main_v12 : S1024x1024.Idx → EReal) (funext fun a => Fin.ext ?_)
  match a with
  | ⟨0, _⟩ => show win0_11.index t (0 : Fin 2) * 1024 + 1 * (j 0).val = (j 0).val; omega
  | ⟨1, _⟩ => show win0_11.index t (1 : Fin 2) * 1024 + 1 * (j 1).val = (j 1).val; omega

theorem iblk13_eq (c : Dev nD) (t : Fin cfg0.N) : (iblk m c 13 t : S256x1024.Idx → EReal) = (V m c main_v14 : S256x1024.Idx → EReal) := by
  obtain ⟨e0, e1⟩ := idx13 t
  funext j
  show (V m c main_v14 : S256x1024.Idx → EReal) (((cfg0.win 13).blk t).view.emb j) = (V m c main_v14 : S256x1024.Idx → EReal) j
  refine congrArg (V m c main_v14 : S256x1024.Idx → EReal) (funext fun a => Fin.ext ?_)
  match a with
  | ⟨0, _⟩ => show win0_13.index t (0 : Fin 2) * 256 + 1 * (j 0).val = (j 0).val; omega
  | ⟨1, _⟩ => show win0_13.index t (1 : Fin 2) * 1024 + 1 * (j 1).val = (j 1).val; omega

theorem iblk2_eq (c : Dev nD) (t : Fin cfg0.N) : (iblk m c 2 t : S512x1024.Idx → EReal) = (V m c main_v2 : S512x1024.Idx → EReal) := by
  obtain ⟨e0, e1⟩ := idx2 t
  funext j
  show (V m c main_v2 : S512x1024.Idx → EReal) (((cfg0.win 2).blk t).view.emb j) = (V m c main_v2 : S512x1024.Idx → EReal) j
  refine congrArg (V m c main_v2 : S512x1024.Idx → EReal) (funext fun a => Fin.ext ?_)
  match a with
  | ⟨0, _⟩ => show win0_2.index t (0 : Fin 2) * 512 + 1 * (j 0).val = (j 0).val; omega
  | ⟨1, _⟩ => show win0_2.index t (1 : Fin 2) * 1024 + 1 * (j 1).val = (j 1).val; omega

theorem iblk4_eq (c : Dev nD) (t : Fin cfg0.N) : (iblk m c 4 t : S1024x1024.Idx → EReal) = (V m c main_v8 : S1024x1024.Idx → EReal) := by
  obtain ⟨e0, e1⟩ := idx4 t
  funext j
  show (V m c main_v8 : S1024x1024.Idx → EReal) (((cfg0.win 4).blk t).view.emb j) = (V m c main_v8 : S1024x1024.Idx → EReal) j
  refine congrArg (V m c main_v8 : S1024x1024.Idx → EReal) (funext fun a => Fin.ext ?_)
  match a with
  | ⟨0, _⟩ => show win0_4.index t (0 : Fin 2) * 1024 + 1 * (j 0).val = (j 0).val; omega
  | ⟨1, _⟩ => show win0_4.index t (1 : Fin 2) * 1024 + 1 * (j 1).val = (j 1).val; omega

theorem emb12 (t : Fin cfg0.N) (r : Fin 512) (k : Fin 256) :
    ((cfg0.win 12).blk t).view.emb (ix3 0 r k : S1x512x256.Idx) = (ix3 2 (tok t r) k : S4x32768x256.Idx) := by
  obtain ⟨e0, e1, e2⟩ := idx12 t
  funext a; apply Fin.ext
  match a with
  | ⟨0, _⟩ => show win0_12.index t (0 : Fin 3) * 1 + 1 * 0 = 2; omega
  | ⟨1, _⟩ => show win0_12.index t (1 : Fin 3) * 512 + 1 * r.val = t.val * 512 + r.val; omega
  | ⟨2, _⟩ => show win0_12.index t (2 : Fin 3) * 256 + 1 * k.val = k.val; omega

/-! ### The result array -/

/-- The result array of the arguments as launched. -/
abbrev res (c : Dev nD) : S32768x1024.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))

/-- What a point writes back is its block of the result array. -/
theorem flushed_eq (c : Dev nD) (t : Fin cfg0.N) :
    (dats m 0 c).flushed 14 t = ((cfg0.win 14).blk t).view.read (Elt Ideal) (res m c) := by
  rw [flushed14]
  funext j
  obtain ⟨r, l, rfl⟩ : ∃ (r : Fin 512) (l : Fin 1024), j = (ix2 r l : S512x1024.Idx) := ⟨j 0, j 1, eq_ix2 j⟩
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r l)
    = res m c (((cfg0.win 14).blk t).view.emb (ix2 r l : S512x1024.Idx))
  rw [emb14]
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r l).trans ?_
  have h0 : line (iblk m c 0 t : S512x1024.Idx → EReal) r
      = fun k => (m ((c : Thread nD τ).loc main_arg0) : S8x4096x1024.Idx → EReal) (ix3 (batch (tok t r)) (time (tok t r)) k) :=
    funext fun k => by
      show (V m c main_v9 : S32768x1024.Idx → EReal) (((cfg0.win 0).blk t).view.emb (ix2 r k : S512x1024.Idx)) = _
      rw [emb0]; exact V_v9_apply m c (tok t r) k
  have h1 : line (iblk m c 1 t : S512x512.Idx → EReal) r
      = fun k => (m ((c : Thread nD τ).loc main_arg1) : S8x4096x512.Idx → EReal) (ix3 (batch (tok t r)) (time (tok t r)) k) :=
    funext fun k => by
      show (V m c main_v0 : S32768x512.Idx → EReal) (((cfg0.win 1).blk t).view.emb (ix2 r k : S512x512.Idx)) = _
      rw [emb1]; exact V_v0_apply m c (tok t r) k
  have h3 : line (iblk m c 3 t : S512x1024.Idx → EReal) r
      = fun k => (m ((c : Thread nD τ).loc main_arg2) : S8x4096x1024.Idx → EReal) (ix3 (batch (tok t r)) (time (tok t r)) k) :=
    funext fun k => by
      show (V m c main_v3 : S32768x1024.Idx → EReal) (((cfg0.win 3).blk t).view.emb (ix2 r k : S512x1024.Idx)) = _
      rw [emb3]; exact V_v3_apply m c (tok t r) k
  have h12 : (fun k : Fin 256 => (iblk m c 12 t : S1x512x256.Idx → EReal) (ix3 0 r k))
      = fun k => (m ((c : Thread nD τ).loc main_arg3) : S4x8x4096x256.Idx → EReal) (ix4 2 (batch (tok t r)) (time (tok t r)) k) :=
    funext fun k => by
      show (V m c main_v13 : S4x32768x256.Idx → EReal) (((cfg0.win 12).blk t).view.emb (ix3 0 r k : S1x512x256.Idx)) = _
      rw [emb12]; exact V_v13_apply m c (tok t r) k
  have h5 : line (iblk m c 5 t : S1x1024.Idx → EReal) 0 = vec (m ((c : Thread nD τ).loc main_arg5) : S1024.Idx → EReal) :=
    funext fun k => by
      show (iblk m c 5 t : S1x1024.Idx → EReal) (ix2 0 k) = _
      rw [iblk5_eq]; exact V_v15_apply m c k
  have h6 : line (iblk m c 6 t : S1x1024.Idx → EReal) 0 = vec (m ((c : Thread nD τ).loc main_arg6) : S1024.Idx → EReal) :=
    funext fun k => by
      show (iblk m c 6 t : S1x1024.Idx → EReal) (ix2 0 k) = _
      rw [iblk6_eq]; exact V_v16_apply m c k
  have h9 : line (iblk m c 9 t : S1x1024.Idx → EReal) 0 = vec (m ((c : Thread nD τ).loc main_arg9) : S1024.Idx → EReal) :=
    funext fun k => by
      show (iblk m c 9 t : S1x1024.Idx → EReal) (ix2 0 k) = _
      rw [iblk9_eq]; exact V_v17_apply m c k
  have h10 : line (iblk m c 10 t : S1x1024.Idx → EReal) 0 = vec (m ((c : Thread nD τ).loc main_arg10) : S1024.Idx → EReal) :=
    funext fun k => by
      show (iblk m c 10 t : S1x1024.Idx → EReal) (ix2 0 k) = _
      rw [iblk10_eq]; exact V_v18_apply m c k
  have h7 : mat (iblk m c 7 t : S1024x4096.Idx → EReal) = mat (m ((c : Thread nD τ).loc main_arg7) : S1024x4096.Idx → EReal) := by
    rw [iblk7_eq, V_v10_eq]
  have h8 : mat (iblk m c 8 t : S4096x1024.Idx → EReal) = mat (m ((c : Thread nD τ).loc main_arg8) : S4096x1024.Idx → EReal) := by
    rw [iblk8_eq, V_v11_eq]
  have h11 : mat (iblk m c 11 t : S1024x1024.Idx → EReal) = mat (m ((c : Thread nD τ).loc main_arg11) : S1024x1024.Idx → EReal) := by
    rw [iblk11_eq, V_v12_eq]
  have h13 : mat (iblk m c 13 t : S256x1024.Idx → EReal) = mat (m ((c : Thread nD τ).loc main_arg12) : S256x1024.Idx → EReal) := by
    rw [iblk13_eq, V_v14_eq]
  have h24 : both (iblk m c 1 t) (iblk m c 2 t) (iblk m c 3 t) (iblk m c 4 t) r
      = mix (fun k => (m ((c : Thread nD τ).loc main_arg1) : S8x4096x512.Idx → EReal) (ix3 (batch (tok t r)) (time (tok t r)) k))
          (fun k => (m ((c : Thread nD τ).loc main_arg2) : S8x4096x1024.Idx → EReal) (ix3 (batch (tok t r)) (time (tok t r)) k))
          (mat (m ((c : Thread nD τ).loc main_arg4) : S1024x1024.Idx → EReal)) := funext fun j => by
    show proj (line (iblk m c 1 t : S512x512.Idx → EReal) r) (mat (iblk m c 2 t : S512x1024.Idx → EReal)) j
      + proj (line (iblk m c 3 t : S512x1024.Idx → EReal) r) (mat (iblk m c 4 t : S1024x1024.Idx → EReal)) j = _
    rw [h1, h3]
    unfold mix
    refine congrArg₂ (· + ·) (Finset.sum_congr rfl fun k _ => ?_) ?_
    · refine congrArg (HMul.hMul (α := EReal) _) ?_
      show (iblk m c 2 t : S512x1024.Idx → EReal) (ix2 k j) = _
      rw [iblk2_eq]; exact V_v2_apply m c k j
    · refine proj_lanes _ (fun k j => mat (m ((c : Thread nD τ).loc main_arg4) : S1024x1024.Idx → EReal) ⟨512 + k.val, by omega⟩ j) _ (fun n d j => ?_) j
      show (iblk m c 4 t : S1024x1024.Idx → EReal) (ix2 ⟨n.val * 128 + d.val, _⟩ j) = _
      rw [iblk4_eq]; exact V_v8_apply m c n d j
  show after (line (iblk m c 0 t : S512x1024.Idx → EReal) r) (both (iblk m c 1 t) (iblk m c 2 t) (iblk m c 3 t) (iblk m c 4 t) r)
      (fun k : Fin 256 => (iblk m c 12 t : S1x512x256.Idx → EReal) (ix3 0 r k))
      (line (iblk m c 5 t : S1x1024.Idx → EReal) 0) (line (iblk m c 6 t : S1x1024.Idx → EReal) 0)
      (mat (iblk m c 7 t : S1024x4096.Idx → EReal)) (mat (iblk m c 8 t : S4096x1024.Idx → EReal))
      (line (iblk m c 9 t : S1x1024.Idx → EReal) 0) (line (iblk m c 10 t : S1x1024.Idx → EReal) 0)
      (mat (iblk m c 11 t : S1024x1024.Idx → EReal)) (mat (iblk m c 13 t : S256x1024.Idx → EReal)) l = _
  rw [h0, h24, h5, h6, h7, h8, h9, h10, h11, h12, h13]
  rfl

/-- Every index of the result array is in the block of its token's tile. -/
theorem covered (i : S32768x1024.Idx) :
    ∃ t : Fin cfg0.N, (cfg0.win 14).flush t = true ∧ i ∈ ((cfg0.win 14).blk t).view.set := by
  have h0 : (i 0).val < 32768 := (i 0).isLt
  have hN : (i 0).val / 512 < cfg0.N := by show (i 0).val / 512 < 64; omega
  refine ⟨⟨(i 0).val / 512, hN⟩, flush0_14 _, ?_⟩
  have h := ((cfg0.win 14).blk ⟨(i 0).val / 512, hN⟩).view.emb_mem_set
    (ix2 (⟨(i 0).val % 512, by omega⟩ : Fin 512) (i 1 : Fin 1024) : S512x1024.Idx)
  have e : (ix2 (tok ⟨(i 0).val / 512, hN⟩ ⟨(i 0).val % 512, by omega⟩) (i 1 : Fin 1024) : S32768x1024.Idx) = i := by
    refine (congrArg (fun a : Fin 32768 => (ix2 a (i 1 : Fin 1024) : S32768x1024.Idx)) (Fin.ext ?_)).trans (eq_ix2 i).symm
    show (i 0).val / 512 * 512 + (i 0).val % 512 = (i 0).val
    omega
  exact (congrArg (· ∈ ((cfg0.win 14).blk ⟨(i 0).val / 512, hN⟩).view.set) ((emb14 _ _ _).trans e)).mp h

/-- The result array after the run. -/
theorem final (c : Dev nD) : (dats m 0 c).arrAt 14 cfg0.N = res m c :=
  (dats m 0 c).arrAt_eq_of_cover 14 (res m c) (fun t _ => flushed_eq m c t) covered

end Cert.PostEvenNextIdeal.Hand

end
-- ==== Proof.PostEvenNextReference.lean ====
/-
  Layer 2's reference, read at a token and a channel: up to the second layer norm the stages are the earlier layer's.
-/
module

public import proofs.«01_k».proof.Proof.PostEvenReference
public import proofs.«01_k».proof.Proof.Gen.PostEvenNextReferenceIdeal.Read

@[expose] public section

set_option maxRecDepth 16384

noncomputable section

namespace Cert.PostEvenNextReferenceIdeal.Hand

open Idealize.ShloMosaic Cert.PostEvenNextReferenceIdeal Cert.PostEvenNextReferenceIdeal.Gen Cert.PostEvenNextReferenceIdeal.Read
open Cert.PostSpec Cert.PostEvenSpec
open scoped BigOperators

variable (x0 : S8x4096x1024.Idx → EReal) (x1 : S8x4096x512.Idx → EReal) (x2 : S8x4096x1024.Idx → EReal)
  (x3 : S4x8x4096x256.Idx → EReal) (x4 : S1024x1024.Idx → EReal) (x5 x6 : S1024.Idx → EReal) (x7 : S1024x4096.Idx → EReal)
  (x8 : S4096x1024.Idx → EReal) (x9 x10 : S1024.Idx → EReal) (x11 : S1024x1024.Idx → EReal) (x12 : S256x1024.Idx → EReal)

/-- The output projection of the two mixers' rows. -/
theorem mix_apply (b : Fin 8) (t : Fin 4096) (j : Fin 1024) :
    (val_main_v4 (F := Ideal) x1 x2 x4 : S8x4096x1024.Idx → EReal) (ix3 b t j)
      = mix (fun k => x1 (ix3 b t k)) (fun k => x2 (ix3 b t k)) (fun i j => x4 (ix2 i j)) j :=
  Cert.PostEvenReferenceIdeal.Hand.mix_apply x1 x2 x4 b t j

/-- The row after the first layer norm, of the projected row. -/
theorem first_apply (b : Fin 8) (t : Fin 4096) (j : Fin 1024) :
    (val_main_v31 (F := Ideal) x0 x1 x2 x4 x5 x6 : S8x4096x1024.Idx → EReal) (ix3 b t j)
      = norm (resid (fun k => x0 (ix3 b t k)) (fun k => (val_main_v4 (F := Ideal) x1 x2 x4 : S8x4096x1024.Idx → EReal) (ix3 b t k)))
          (fun k => x5 (ix1 k)) (fun k => x6 (ix1 k)) j :=
  Cert.PostEvenReferenceIdeal.Hand.first_apply x0 x1 x2 x4 x5 x6 b t j

/-- The row after the second layer norm, of the row after the first. -/
theorem second_apply (b : Fin 8) (t : Fin 4096) (j : Fin 1024) :
    (val_main_v62 (F := Ideal) x0 x1 x2 x4 x5 x6 x7 x8 x9 x10 : S8x4096x1024.Idx → EReal) (ix3 b t j)
      = second (fun k => (val_main_v31 (F := Ideal) x0 x1 x2 x4 x5 x6 : S8x4096x1024.Idx → EReal) (ix3 b t k))
          (fun i j => x7 (ix2 i j)) (fun i j => x8 (ix2 i j)) (fun k => x9 (ix1 k)) (fun k => x10 (ix1 k)) j :=
  Cert.PostEvenReferenceIdeal.Hand.second_apply x0 x1 x2 x4 x5 x6 x7 x8 x9 x10 b t j

/-- The row with the gated embedding of layer 2, of the row after the second layer norm. -/
theorem third_apply (b : Fin 8) (t : Fin 4096) (j : Fin 1024) :
    (val_main_v74 (F := Ideal) x0 x1 x2 x3 x4 x5 x6 x7 x8 x9 x10 x11 x12 : S8x4096x1024.Idx → EReal) (ix3 b t j)
      = third (fun k => (val_main_v62 (F := Ideal) x0 x1 x2 x4 x5 x6 x7 x8 x9 x10 : S8x4096x1024.Idx → EReal) (ix3 b t k))
          (fun k => x3 (ix4 2 b t k)) (fun i j => x11 (ix2 i j)) (fun i j => x12 (ix2 i j)) j := by
  pointwise [val_main_v74, val_main_v73, val_main_v72, val_main_v71, val_main_v70, val_main_v69, val_main_v68, val_main_v67,
    val_main_v66, val_main_v65, val_main_v64, val_main_v63, val_main_cst_11, val_main_cst_12]
  rfl

/-- The result, token by token: the row's mathematics of the arguments' rows. -/
theorem result_apply (r : Fin 32768) (j : Fin 1024) :
    (val_main_v75 (F := Ideal) x0 x1 x2 x3 x4 x5 x6 x7 x8 x9 x10 x11 x12 : S32768x1024.Idx → EReal) (ix2 r j)
      = after (fun k => x0 (ix3 ⟨r.val / 4096, by omega⟩ ⟨r.val % 4096, by omega⟩ k))
          (mix (fun k => x1 (ix3 ⟨r.val / 4096, by omega⟩ ⟨r.val % 4096, by omega⟩ k))
            (fun k => x2 (ix3 ⟨r.val / 4096, by omega⟩ ⟨r.val % 4096, by omega⟩ k)) (fun i j => x4 (ix2 i j)))
          (fun k => x3 (ix4 2 ⟨r.val / 4096, by omega⟩ ⟨r.val % 4096, by omega⟩ k))
          (fun k => x5 (ix1 k)) (fun k => x6 (ix1 k)) (fun i j => x7 (ix2 i j))
          (fun i j => x8 (ix2 i j)) (fun k => x9 (ix1 k)) (fun k => x10 (ix1 k)) (fun i j => x11 (ix2 i j))
          (fun i j => x12 (ix2 i j)) j := by
  have e : (val_main_v75 (F := Ideal) x0 x1 x2 x3 x4 x5 x6 x7 x8 x9 x10 x11 x12 : S32768x1024.Idx → EReal) (ix2 r j)
      = (val_main_v74 (F := Ideal) x0 x1 x2 x3 x4 x5 x6 x7 x8 x9 x10 x11 x12 : S8x4096x1024.Idx → EReal)
          (ix3 ⟨r.val / 4096, by omega⟩ ⟨r.val % 4096, by omega⟩ j) := by
    pointwise [val_main_v75]
  rw [e, third_apply, funext (second_apply x0 x1 x2 x4 x5 x6 x7 x8 x9 x10 _ _), funext (first_apply x0 x1 x2 x4 x5 x6 _ _),
    funext (mix_apply x1 x2 x4 _ _)]
  rfl

end Cert.PostEvenNextReferenceIdeal.Hand

end
-- ==== Proof.lean ====
/-
  The certificate. The attention call: its frames (the kernel as written and at the ideal instance), the reference's
  frame, and the three named constants of the idealization. The block after the mixing, of the four layers: frames, and
  the result equal to the reference's.
-/
module

public import proofs.«01_k».proof.Defs
public import proofs.«01_k».proof.Proof.KernelRun
public import proofs.«01_k».proof.Proof.KernelIdealRun
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Gen.PostEven
public import proofs.«01_k».proof.Proof.Gen.PostEven.Frame
public import proofs.«01_k».proof.Proof.Gen.PostEvenIdeal
public import proofs.«01_k».proof.Proof.Gen.PostEvenIdeal.Frame
public import proofs.«01_k».proof.Proof.Gen.PostEvenIdeal.Value
public import proofs.«01_k».proof.Proof.Gen.PostEvenReferenceIdeal
public import proofs.«01_k».proof.Proof.Gen.PostEvenReferenceIdeal.Run
public import proofs.«01_k».proof.Proof.Gen.PostEvenReferenceIdeal.Read
public import proofs.«01_k».proof.Proof.Gen.PostLast
public import proofs.«01_k».proof.Proof.Gen.PostLast.Frame
public import proofs.«01_k».proof.Proof.Gen.PostLastIdeal
public import proofs.«01_k».proof.Proof.Gen.PostLastIdeal.Frame
public import proofs.«01_k».proof.Proof.Gen.PostLastIdeal.Value
public import proofs.«01_k».proof.Proof.Gen.PostLastReferenceIdeal
public import proofs.«01_k».proof.Proof.Gen.PostLastReferenceIdeal.Run
public import proofs.«01_k».proof.Proof.Gen.PostLastReferenceIdeal.Read
public import proofs.«01_k».proof.Proof.Gen.PostEvenNext
public import proofs.«01_k».proof.Proof.Gen.PostEvenNext.Frame
public import proofs.«01_k».proof.Proof.Gen.PostEvenNextIdeal
public import proofs.«01_k».proof.Proof.Gen.PostEvenNextIdeal.Frame
public import proofs.«01_k».proof.Proof.Gen.PostEvenNextIdeal.Value
public import proofs.«01_k».proof.Proof.Gen.PostEvenNextReferenceIdeal
public import proofs.«01_k».proof.Proof.Gen.PostEvenNextReferenceIdeal.Run
public import proofs.«01_k».proof.Proof.Gen.PostEvenNextReferenceIdeal.Read
public import proofs.«01_k».proof.Proof.PostWhole
public import proofs.«01_k».proof.Proof.PostReference
public import proofs.«01_k».proof.Proof.PostEvenWhole
public import proofs.«01_k».proof.Proof.PostEvenReference
public import proofs.«01_k».proof.Proof.PostLastWhole
public import proofs.«01_k».proof.Proof.PostLastReference
public import proofs.«01_k».proof.Proof.PostEvenNextWhole
public import proofs.«01_k».proof.Proof.PostEvenNextReference
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments alone, and declares no semaphore. -/
theorem frame_reference : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Each named constant is the literal it replaces, at the table of constants. -/
theorem preserves : Cert.preserves_Kernel_KernelIdeal :=
  ⟨IdealRules.named_const.statement Cert.KernelIdeal.κ "mask" .f32 0xF149F2CA#32 ⊥ rfl,
    IdealRules.named_const.statement Cert.KernelIdeal.κ "scale" .f32 0x3E38AA3B#32 (((8 * (Real.log 2))⁻¹ : ℝ) : EReal) rfl,
    IdealRules.named_const.statement Cert.KernelIdeal.κ "floor" .f32 0xF0C9F2CA#32 ⊥ rfl⟩

/-- The second reference runs, leaves its arguments alone, and declares no semaphore. -/
theorem frame_post_reference : Cert.quiescent_PostReferenceIdeal (hPostReferenceIdeal := Cert.PostReferenceIdeal.Gen.facts) := fun m g _ =>
  (θ_run Cert.PostReferenceIdeal.defs _ _).mono
    (fun r h => ⟨fun c => (h c).2, Idealize.ShloMosaic.sem_eq_zero_of_no_sems (by decide) r.2⟩)
    (Cert.PostReferenceIdeal.Value.run (F := Ideal) m g)

/-- The second reference's result is the same function of its arguments as the block's. -/
theorem post_reference_eq (x0 x1 : Cert.PostIdeal.S8x4096x1024.Idx → EReal) (x2 : Cert.PostIdeal.S4x8x4096x256.Idx → EReal)
    (x3 : Cert.PostIdeal.S1024x1024.Idx → EReal) (x4 x5 : Cert.PostIdeal.S1024.Idx → EReal)
    (x6 : Cert.PostIdeal.S1024x4096.Idx → EReal) (x7 : Cert.PostIdeal.S4096x1024.Idx → EReal)
    (x8 x9 : Cert.PostIdeal.S1024.Idx → EReal) (x10 : Cert.PostIdeal.S1024x1024.Idx → EReal)
    (x11 : Cert.PostIdeal.S256x1024.Idx → EReal) :
    (Cert.PostReferenceIdeal.Read.val_main_v71 (F := Ideal) x0 x1 x2 x3 x4 x5 x6 x7 x8 x9 x10 x11 : Cert.PostIdeal.S32768x1024.Idx → EReal)
      = Cert.PostIdeal.Hand.G x0 x1 x2 x3 x4 x5 x6 x7 x8 x9 x10 x11 := by
  funext i
  obtain ⟨t, j, rfl⟩ : ∃ (t : Fin 32768) (j : Fin 1024), i = (ix2 t j : Cert.PostIdeal.S32768x1024.Idx) := ⟨i 0, i 1, eq_ix2 i⟩
  exact Cert.PostReferenceIdeal.Hand.result_apply x0 x1 x2 x3 x4 x5 x6 x7 x8 x9 x10 x11 t j

/-- Equal arguments have equal results. -/
theorem post_congr {x0 y0 x1 y1 : Cert.PostIdeal.S8x4096x1024.Idx → EReal} {x2 y2 : Cert.PostIdeal.S4x8x4096x256.Idx → EReal}
    {x3 y3 : Cert.PostIdeal.S1024x1024.Idx → EReal} {x4 y4 x5 y5 : Cert.PostIdeal.S1024.Idx → EReal}
    {x6 y6 : Cert.PostIdeal.S1024x4096.Idx → EReal} {x7 y7 : Cert.PostIdeal.S4096x1024.Idx → EReal}
    {x8 y8 x9 y9 : Cert.PostIdeal.S1024.Idx → EReal} {x10 y10 : Cert.PostIdeal.S1024x1024.Idx → EReal}
    {x11 y11 : Cert.PostIdeal.S256x1024.Idx → EReal} (h0 : x0 = y0) (h1 : x1 = y1) (h2 : x2 = y2) (h3 : x3 = y3) (h4 : x4 = y4)
    (h5 : x5 = y5) (h6 : x6 = y6) (h7 : x7 = y7) (h8 : x8 = y8) (h9 : x9 = y9) (h10 : x10 = y10) (h11 : x11 = y11) :
    Cert.PostIdeal.Hand.G x0 x1 x2 x3 x4 x5 x6 x7 x8 x9 x10 x11 = Cert.PostIdeal.Hand.G y0 y1 y2 y3 y4 y5 y6 y7 y8 y9 y10 y11 := by
  subst h0 h1 h2 h3 h4 h5 h6 h7 h8 h9 h10 h11
  rfl

/-- The block after the mixing computes, at every token and channel, what its reference computes. -/
theorem algebraic_post : Cert.algebraic_PostIdeal_PostReferenceIdeal (hPostIdeal := Cert.PostIdeal.Gen.facts)
    (hPostReferenceIdeal := Cert.PostReferenceIdeal.Gen.facts) := by
  intro m g m' g' _ hargs
  refine ⟨fun c => Cert.PostIdeal.Hand.res m c,
    (θ_run Cert.PostIdeal.defs _ _).mono
      (fun r h c => ⟨(h c).1.trans (Cert.PostIdeal.Hand.final m c), (h c).2⟩) (Cert.PostIdeal.Value.run_blocks (F := Ideal) m g),
    (θ_run Cert.PostReferenceIdeal.defs _ _).mono
      (fun r h c => ⟨(h c).1.trans ?_, (h c).2⟩) (Cert.PostReferenceIdeal.Value.run (F := Ideal) m' g')⟩
  obtain ⟨a0, a1, a2, a3, a4, a5, a6, a7, a8, a9, a10, a11⟩ := hargs c
  refine (Cert.PostReferenceIdeal.Read.val_main_v71_eq (F := Ideal) (StableHlo.launchContents m' c)).trans ?_
  exact (post_reference_eq _ _ _ _ _ _ _ _ _ _ _ _).trans (post_congr a0 a1 a2 a3 a4 a5 a6 a7 a8 a9 a10 a11)

/-- The third reference runs, leaves its arguments alone, and declares no semaphore. -/
theorem frame_even_reference : Cert.quiescent_PostEvenReferenceIdeal (hPostEvenReferenceIdeal := Cert.PostEvenReferenceIdeal.Gen.facts) := fun m g _ =>
  (θ_run Cert.PostEvenReferenceIdeal.defs _ _).mono
    (fun r h => ⟨fun c => (h c).2, Idealize.ShloMosaic.sem_eq_zero_of_no_sems (by decide) r.2⟩)
    (Cert.PostEvenReferenceIdeal.Value.run (F := Ideal) m g)

/-- The third reference's result is the same function of its arguments as the block's with two mixers. -/
theorem even_reference_eq (x0 : Cert.PostEvenIdeal.S8x4096x1024.Idx → EReal) (x1 : Cert.PostEvenIdeal.S8x4096x512.Idx → EReal) (x2 : Cert.PostEvenIdeal.S8x4096x1024.Idx → EReal) (x3 : Cert.PostEvenIdeal.S4x8x4096x256.Idx → EReal) (x4 : Cert.PostEvenIdeal.S1024x1024.Idx → EReal) (x5 : Cert.PostEvenIdeal.S1024.Idx → EReal) (x6 : Cert.PostEvenIdeal.S1024.Idx → EReal) (x7 : Cert.PostEvenIdeal.S1024x4096.Idx → EReal) (x8 : Cert.PostEvenIdeal.S4096x1024.Idx → EReal) (x9 : Cert.PostEvenIdeal.S1024.Idx → EReal) (x10 : Cert.PostEvenIdeal.S1024.Idx → EReal) (x11 : Cert.PostEvenIdeal.S1024x1024.Idx → EReal) (x12 : Cert.PostEvenIdeal.S256x1024.Idx → EReal) :
    (Cert.PostEvenReferenceIdeal.Read.val_main_v75 (F := Ideal) x0 x1 x2 x3 x4 x5 x6 x7 x8 x9 x10 x11 x12 : Cert.PostEvenIdeal.S32768x1024.Idx → EReal)
      = Cert.PostEvenIdeal.Hand.G x0 x1 x2 x3 x4 x5 x6 x7 x8 x9 x10 x11 x12 := by
  funext i
  obtain ⟨t, j, rfl⟩ : ∃ (t : Fin 32768) (j : Fin 1024), i = (ix2 t j : Cert.PostEvenIdeal.S32768x1024.Idx) := ⟨i 0, i 1, eq_ix2 i⟩
  exact Cert.PostEvenReferenceIdeal.Hand.result_apply x0 x1 x2 x3 x4 x5 x6 x7 x8 x9 x10 x11 x12 t j

/-- Equal arguments have equal results. -/
theorem even_congr {x0 y0 : Cert.PostEvenIdeal.S8x4096x1024.Idx → EReal} {x1 y1 : Cert.PostEvenIdeal.S8x4096x512.Idx → EReal} {x2 y2 : Cert.PostEvenIdeal.S8x4096x1024.Idx → EReal} {x3 y3 : Cert.PostEvenIdeal.S4x8x4096x256.Idx → EReal} {x4 y4 : Cert.PostEvenIdeal.S1024x1024.Idx → EReal} {x5 y5 : Cert.PostEvenIdeal.S1024.Idx → EReal} {x6 y6 : Cert.PostEvenIdeal.S1024.Idx → EReal} {x7 y7 : Cert.PostEvenIdeal.S1024x4096.Idx → EReal} {x8 y8 : Cert.PostEvenIdeal.S4096x1024.Idx → EReal} {x9 y9 : Cert.PostEvenIdeal.S1024.Idx → EReal} {x10 y10 : Cert.PostEvenIdeal.S1024.Idx → EReal} {x11 y11 : Cert.PostEvenIdeal.S1024x1024.Idx → EReal} {x12 y12 : Cert.PostEvenIdeal.S256x1024.Idx → EReal}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    Cert.PostEvenIdeal.Hand.G x0 x1 x2 x3 x4 x5 x6 x7 x8 x9 x10 x11 x12 = Cert.PostEvenIdeal.Hand.G y0 y1 y2 y3 y4 y5 y6 y7 y8 y9 y10 y11 y12 := by
  subst h0 h1 h2 h3 h4 h5 h6 h7 h8 h9 h10 h11 h12
  rfl

/-- The block with two mixers computes, at every token and channel, what its reference computes. -/
theorem algebraic_even : Cert.algebraic_PostEvenIdeal_PostEvenReferenceIdeal (hPostEvenIdeal := Cert.PostEvenIdeal.Gen.facts)
    (hPostEvenReferenceIdeal := Cert.PostEvenReferenceIdeal.Gen.facts) := by
  intro m g m' g' _ hargs
  refine ⟨fun c => Cert.PostEvenIdeal.Hand.res m c,
    (θ_run Cert.PostEvenIdeal.defs _ _).mono
      (fun r h c => ⟨(h c).1.trans (Cert.PostEvenIdeal.Hand.final m c), (h c).2⟩) (Cert.PostEvenIdeal.Value.run_blocks (F := Ideal) m g),
    (θ_run Cert.PostEvenReferenceIdeal.defs _ _).mono
      (fun r h c => ⟨(h c).1.trans ?_, (h c).2⟩) (Cert.PostEvenReferenceIdeal.Value.run (F := Ideal) m' g')⟩
  obtain ⟨a0, a1, a2, a3, a4, a5, a6, a7, a8, a9, a10, a11, a12⟩ := hargs c
  refine (Cert.PostEvenReferenceIdeal.Read.val_main_v75_eq (F := Ideal) (StableHlo.launchContents m' c)).trans ?_
  exact (even_reference_eq _ _ _ _ _ _ _ _ _ _ _ _ _).trans (even_congr a0 a1 a2 a3 a4 a5 a6 a7 a8 a9 a10 a11 a12)

/-- The last layer's reference runs, leaves its arguments alone, and declares no semaphore. -/
theorem frame_last_reference : Cert.quiescent_PostLastReferenceIdeal (hPostLastReferenceIdeal := Cert.PostLastReferenceIdeal.Gen.facts) := fun m g _ =>
  (θ_run Cert.PostLastReferenceIdeal.defs _ _).mono
    (fun r h => ⟨fun c => (h c).2, Idealize.ShloMosaic.sem_eq_zero_of_no_sems (by decide) r.2⟩)
    (Cert.PostLastReferenceIdeal.Value.run (F := Ideal) m g)

/-- The last layer's reference's result is the same function of its arguments as the last layer's block's. -/
theorem last_reference_eq (x0 x1 : Cert.PostLastIdeal.S8x4096x1024.Idx → EReal) (x2 : Cert.PostLastIdeal.S4x8x4096x256.Idx → EReal)
    (x3 : Cert.PostLastIdeal.S1024x1024.Idx → EReal) (x4 x5 : Cert.PostLastIdeal.S1024.Idx → EReal)
    (x6 : Cert.PostLastIdeal.S1024x4096.Idx → EReal) (x7 : Cert.PostLastIdeal.S4096x1024.Idx → EReal)
    (x8 x9 : Cert.PostLastIdeal.S1024.Idx → EReal) (x10 : Cert.PostLastIdeal.S1024x1024.Idx → EReal)
    (x11 : Cert.PostLastIdeal.S256x1024.Idx → EReal) :
    (Cert.PostLastReferenceIdeal.Read.val_main_v71 (F := Ideal) x0 x1 x2 x3 x4 x5 x6 x7 x8 x9 x10 x11 : Cert.PostLastIdeal.S32768x1024.Idx → EReal)
      = Cert.PostLastIdeal.Hand.G x0 x1 x2 x3 x4 x5 x6 x7 x8 x9 x10 x11 := by
  funext i
  obtain ⟨t, j, rfl⟩ : ∃ (t : Fin 32768) (j : Fin 1024), i = (ix2 t j : Cert.PostLastIdeal.S32768x1024.Idx) := ⟨i 0, i 1, eq_ix2 i⟩
  exact Cert.PostLastReferenceIdeal.Hand.result_apply x0 x1 x2 x3 x4 x5 x6 x7 x8 x9 x10 x11 t j

/-- Equal arguments have equal results. -/
theorem last_congr {x0 y0 x1 y1 : Cert.PostLastIdeal.S8x4096x1024.Idx → EReal} {x2 y2 : Cert.PostLastIdeal.S4x8x4096x256.Idx → EReal}
    {x3 y3 : Cert.PostLastIdeal.S1024x1024.Idx → EReal} {x4 y4 x5 y5 : Cert.PostLastIdeal.S1024.Idx → EReal}
    {x6 y6 : Cert.PostLastIdeal.S1024x4096.Idx → EReal} {x7 y7 : Cert.PostLastIdeal.S4096x1024.Idx → EReal}
    {x8 y8 x9 y9 : Cert.PostLastIdeal.S1024.Idx → EReal} {x10 y10 : Cert.PostLastIdeal.S1024x1024.Idx → EReal}
    {x11 y11 : Cert.PostLastIdeal.S256x1024.Idx → EReal} (h0 : x0 = y0) (h1 : x1 = y1) (h2 : x2 = y2) (h3 : x3 = y3) (h4 : x4 = y4)
    (h5 : x5 = y5) (h6 : x6 = y6) (h7 : x7 = y7) (h8 : x8 = y8) (h9 : x9 = y9) (h10 : x10 = y10) (h11 : x11 = y11) :
    Cert.PostLastIdeal.Hand.G x0 x1 x2 x3 x4 x5 x6 x7 x8 x9 x10 x11 = Cert.PostLastIdeal.Hand.G y0 y1 y2 y3 y4 y5 y6 y7 y8 y9 y10 y11 := by
  subst h0 h1 h2 h3 h4 h5 h6 h7 h8 h9 h10 h11
  rfl

/-- The last layer's block after the mixing computes, at every token and channel, what its reference computes. -/
theorem algebraic_last : Cert.algebraic_PostLastIdeal_PostLastReferenceIdeal (hPostLastIdeal := Cert.PostLastIdeal.Gen.facts)
    (hPostLastReferenceIdeal := Cert.PostLastReferenceIdeal.Gen.facts) := by
  intro m g m' g' _ hargs
  refine ⟨fun c => Cert.PostLastIdeal.Hand.res m c,
    (θ_run Cert.PostLastIdeal.defs _ _).mono
      (fun r h c => ⟨(h c).1.trans (Cert.PostLastIdeal.Hand.final m c), (h c).2⟩) (Cert.PostLastIdeal.Value.run_blocks (F := Ideal) m g),
    (θ_run Cert.PostLastReferenceIdeal.defs _ _).mono
      (fun r h c => ⟨(h c).1.trans ?_, (h c).2⟩) (Cert.PostLastReferenceIdeal.Value.run (F := Ideal) m' g')⟩
  obtain ⟨a0, a1, a2, a3, a4, a5, a6, a7, a8, a9, a10, a11⟩ := hargs c
  refine (Cert.PostLastReferenceIdeal.Read.val_main_v71_eq (F := Ideal) (StableHlo.launchContents m' c)).trans ?_
  exact (last_reference_eq _ _ _ _ _ _ _ _ _ _ _ _).trans (last_congr a0 a1 a2 a3 a4 a5 a6 a7 a8 a9 a10 a11)

/-- Layer 2's reference runs, leaves its arguments alone, and declares no semaphore. -/
theorem frame_next_reference : Cert.quiescent_PostEvenNextReferenceIdeal (hPostEvenNextReferenceIdeal := Cert.PostEvenNextReferenceIdeal.Gen.facts) := fun m g _ =>
  (θ_run Cert.PostEvenNextReferenceIdeal.defs _ _).mono
    (fun r h => ⟨fun c => (h c).2, Idealize.ShloMosaic.sem_eq_zero_of_no_sems (by decide) r.2⟩)
    (Cert.PostEvenNextReferenceIdeal.Value.run (F := Ideal) m g)

/-- Layer 2's reference's result is the same function of its arguments as layer 2's block's with two mixers. -/
theorem next_reference_eq (x0 : Cert.PostEvenNextIdeal.S8x4096x1024.Idx → EReal) (x1 : Cert.PostEvenNextIdeal.S8x4096x512.Idx → EReal) (x2 : Cert.PostEvenNextIdeal.S8x4096x1024.Idx → EReal) (x3 : Cert.PostEvenNextIdeal.S4x8x4096x256.Idx → EReal) (x4 : Cert.PostEvenNextIdeal.S1024x1024.Idx → EReal) (x5 : Cert.PostEvenNextIdeal.S1024.Idx → EReal) (x6 : Cert.PostEvenNextIdeal.S1024.Idx → EReal) (x7 : Cert.PostEvenNextIdeal.S1024x4096.Idx → EReal) (x8 : Cert.PostEvenNextIdeal.S4096x1024.Idx → EReal) (x9 : Cert.PostEvenNextIdeal.S1024.Idx → EReal) (x10 : Cert.PostEvenNextIdeal.S1024.Idx → EReal) (x11 : Cert.PostEvenNextIdeal.S1024x1024.Idx → EReal) (x12 : Cert.PostEvenNextIdeal.S256x1024.Idx → EReal) :
    (Cert.PostEvenNextReferenceIdeal.Read.val_main_v75 (F := Ideal) x0 x1 x2 x3 x4 x5 x6 x7 x8 x9 x10 x11 x12 : Cert.PostEvenNextIdeal.S32768x1024.Idx → EReal)
      = Cert.PostEvenNextIdeal.Hand.G x0 x1 x2 x3 x4 x5 x6 x7 x8 x9 x10 x11 x12 := by
  funext i
  obtain ⟨t, j, rfl⟩ : ∃ (t : Fin 32768) (j : Fin 1024), i = (ix2 t j : Cert.PostEvenNextIdeal.S32768x1024.Idx) := ⟨i 0, i 1, eq_ix2 i⟩
  exact Cert.PostEvenNextReferenceIdeal.Hand.result_apply x0 x1 x2 x3 x4 x5 x6 x7 x8 x9 x10 x11 x12 t j

/-- Equal arguments have equal results. -/
theorem next_congr {x0 y0 : Cert.PostEvenNextIdeal.S8x4096x1024.Idx → EReal} {x1 y1 : Cert.PostEvenNextIdeal.S8x4096x512.Idx → EReal} {x2 y2 : Cert.PostEvenNextIdeal.S8x4096x1024.Idx → EReal} {x3 y3 : Cert.PostEvenNextIdeal.S4x8x4096x256.Idx → EReal} {x4 y4 : Cert.PostEvenNextIdeal.S1024x1024.Idx → EReal} {x5 y5 : Cert.PostEvenNextIdeal.S1024.Idx → EReal} {x6 y6 : Cert.PostEvenNextIdeal.S1024.Idx → EReal} {x7 y7 : Cert.PostEvenNextIdeal.S1024x4096.Idx → EReal} {x8 y8 : Cert.PostEvenNextIdeal.S4096x1024.Idx → EReal} {x9 y9 : Cert.PostEvenNextIdeal.S1024.Idx → EReal} {x10 y10 : Cert.PostEvenNextIdeal.S1024.Idx → EReal} {x11 y11 : Cert.PostEvenNextIdeal.S1024x1024.Idx → EReal} {x12 y12 : Cert.PostEvenNextIdeal.S256x1024.Idx → EReal}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    Cert.PostEvenNextIdeal.Hand.G x0 x1 x2 x3 x4 x5 x6 x7 x8 x9 x10 x11 x12 = Cert.PostEvenNextIdeal.Hand.G y0 y1 y2 y3 y4 y5 y6 y7 y8 y9 y10 y11 y12 := by
  subst h0 h1 h2 h3 h4 h5 h6 h7 h8 h9 h10 h11 h12
  rfl

/-- Layer 2's block with two mixers computes, at every token and channel, what its reference computes. -/
theorem algebraic_next : Cert.algebraic_PostEvenNextIdeal_PostEvenNextReferenceIdeal (hPostEvenNextIdeal := Cert.PostEvenNextIdeal.Gen.facts)
    (hPostEvenNextReferenceIdeal := Cert.PostEvenNextReferenceIdeal.Gen.facts) := by
  intro m g m' g' _ hargs
  refine ⟨fun c => Cert.PostEvenNextIdeal.Hand.res m c,
    (θ_run Cert.PostEvenNextIdeal.defs _ _).mono
      (fun r h c => ⟨(h c).1.trans (Cert.PostEvenNextIdeal.Hand.final m c), (h c).2⟩) (Cert.PostEvenNextIdeal.Value.run_blocks (F := Ideal) m g),
    (θ_run Cert.PostEvenNextReferenceIdeal.defs _ _).mono
      (fun r h c => ⟨(h c).1.trans ?_, (h c).2⟩) (Cert.PostEvenNextReferenceIdeal.Value.run (F := Ideal) m' g')⟩
  obtain ⟨a0, a1, a2, a3, a4, a5, a6, a7, a8, a9, a10, a11, a12⟩ := hargs c
  refine (Cert.PostEvenNextReferenceIdeal.Read.val_main_v75_eq (F := Ideal) (StableHlo.launchContents m' c)).trans ?_
  exact (next_reference_eq _ _ _ _ _ _ _ _ _ _ _ _ _).trans (next_congr a0 a1 a2 a3 a4 a5 a6 a7 a8 a9 a10 a11 a12)

theorem claim : Cert.Claim := ⟨Cert.Kernel.Gen.facts, Cert.KernelIdeal.Gen.facts, Cert.ReferenceIdeal.Gen.facts,
  Cert.Post.Gen.facts, Cert.PostIdeal.Gen.facts, Cert.PostReferenceIdeal.Gen.facts,
  Cert.PostEven.Gen.facts, Cert.PostEvenIdeal.Gen.facts, Cert.PostEvenReferenceIdeal.Gen.facts,
  Cert.PostLast.Gen.facts, Cert.PostLastIdeal.Gen.facts, Cert.PostLastReferenceIdeal.Gen.facts,
  Cert.PostEvenNext.Gen.facts, Cert.PostEvenNextIdeal.Gen.facts, Cert.PostEvenNextReferenceIdeal.Gen.facts,
  fun m g _ => Cert.Kernel.Hand.frame (F := Bits) m g,
  fun m g _ => Cert.KernelIdeal.Hand.frame (F := Ideal) m g,
  frame_reference,
  fun m g _ => Cert.Post.Gen.frame (F := Bits) m g,
  fun m g _ => Cert.PostIdeal.Gen.frame (F := Ideal) m g,
  frame_post_reference,
  fun m g _ => Cert.PostEven.Gen.frame (F := Bits) m g,
  fun m g _ => Cert.PostEvenIdeal.Gen.frame (F := Ideal) m g,
  frame_even_reference,
  fun m g _ => Cert.PostLast.Gen.frame (F := Bits) m g,
  fun m g _ => Cert.PostLastIdeal.Gen.frame (F := Ideal) m g,
  frame_last_reference,
  fun m g _ => Cert.PostEvenNext.Gen.frame (F := Bits) m g,
  fun m g _ => Cert.PostEvenNextIdeal.Gen.frame (F := Ideal) m g,
  frame_next_reference,
  preserves,
  trivial,
  algebraic_post,
  trivial,
  algebraic_even,
  trivial,
  algebraic_last,
  trivial,
  algebraic_next⟩

end Cert.Proof

end
